-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4)
      ∧ r.2.mem ((c.tc : Thread Cert.KernelConv.nD Cert.KernelConv.τ).loc Cert.KernelConv.main_arg5) = m ((c.tc : Thread Cert.KernelConv.nD Cert.KernelConv.τ).loc Cert.KernelConv.main_arg5)
      ∧ r.2.mem ((c.tc : Thread Cert.KernelConv.nD Cert.KernelConv.τ).loc Cert.KernelConv.main_arg6) = m ((c.tc : Thread Cert.KernelConv.nD Cert.KernelConv.τ).loc Cert.KernelConv.main_arg6)
      ∧ r.2.mem ((c.tc : Thread Cert.KernelConv.nD Cert.KernelConv.τ).loc Cert.KernelConv.main_arg7) = m ((c.tc : Thread Cert.KernelConv.nD Cert.KernelConv.τ).loc Cert.KernelConv.main_arg7)
      ∧ r.2.mem ((c.tc : Thread Cert.KernelConv.nD Cert.KernelConv.τ).loc Cert.KernelConv.main_arg8) = m ((c.tc : Thread Cert.KernelConv.nD Cert.KernelConv.τ).loc Cert.KernelConv.main_arg8))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
      ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5)
      ∧ r.2.mem ((c.tc : Thread Cert.KernelConvIdeal.nD Cert.KernelConvIdeal.τ).loc Cert.KernelConvIdeal.main_arg6) = m ((c.tc : Thread Cert.KernelConvIdeal.nD Cert.KernelConvIdeal.τ).loc Cert.KernelConvIdeal.main_arg6)
      ∧ r.2.mem ((c.tc : Thread Cert.KernelConvIdeal.nD Cert.KernelConvIdeal.τ).loc Cert.KernelConvIdeal.main_arg7) = m ((c.tc : Thread Cert.KernelConvIdeal.nD Cert.KernelConvIdeal.τ).loc Cert.KernelConvIdeal.main_arg7)
      ∧ r.2.mem ((c.tc : Thread Cert.KernelConvIdeal.nD Cert.KernelConvIdeal.τ).loc Cert.KernelConvIdeal.main_arg8) = m ((c.tc : Thread Cert.KernelConvIdeal.nD Cert.KernelConvIdeal.τ).loc Cert.KernelConvIdeal.main_arg8))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4)
      ∧ r.2.mem ((c.tc : Thread Cert.ReferenceConvIdeal.nD Cert.ReferenceConvIdeal.τ).loc Cert.ReferenceConvIdeal.main_arg5) = m ((c.tc : Thread Cert.ReferenceConvIdeal.nD Cert.ReferenceConvIdeal.τ).loc Cert.ReferenceConvIdeal.main_arg5)
      ∧ r.2.mem ((c.tc : Thread Cert.ReferenceConvIdeal.nD Cert.ReferenceConvIdeal.τ).loc Cert.ReferenceConvIdeal.main_arg6) = m ((c.tc : Thread Cert.ReferenceConvIdeal.nD Cert.ReferenceConvIdeal.τ).loc Cert.ReferenceConvIdeal.main_arg6)
      ∧ r.2.mem ((c.tc : Thread Cert.ReferenceConvIdeal.nD Cert.ReferenceConvIdeal.τ).loc Cert.ReferenceConvIdeal.main_arg7) = m ((c.tc : Thread Cert.ReferenceConvIdeal.nD Cert.ReferenceConvIdeal.τ).loc Cert.ReferenceConvIdeal.main_arg7)
      ∧ r.2.mem ((c.tc : Thread Cert.ReferenceConvIdeal.nD Cert.ReferenceConvIdeal.τ).loc Cert.ReferenceConvIdeal.main_arg8) = m ((c.tc : Thread Cert.ReferenceConvIdeal.nD Cert.ReferenceConvIdeal.τ).loc Cert.ReferenceConvIdeal.main_arg8))
      ∧ r.2.sem = fun _ => 0)

def preserves_Kernel_KernelIdeal : Prop :=
  IdealRules.named_const.Statement Cert.KernelIdeal.κ "neg_big" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)
      ∧ m' ((c.tc : Thread Cert.ReferenceConvIdeal.nD Cert.ReferenceConvIdeal.τ).loc Cert.ReferenceConvIdeal.main_arg5) = m ((c.tc : Thread Cert.KernelConvIdeal.nD Cert.KernelConvIdeal.τ).loc Cert.KernelConvIdeal.main_arg5)
      ∧ m' ((c.tc : Thread Cert.ReferenceConvIdeal.nD Cert.ReferenceConvIdeal.τ).loc Cert.ReferenceConvIdeal.main_arg6) = m ((c.tc : Thread Cert.KernelConvIdeal.nD Cert.KernelConvIdeal.τ).loc Cert.KernelConvIdeal.main_arg6)
      ∧ m' ((c.tc : Thread Cert.ReferenceConvIdeal.nD Cert.ReferenceConvIdeal.τ).loc Cert.ReferenceConvIdeal.main_arg7) = m ((c.tc : Thread Cert.KernelConvIdeal.nD Cert.KernelConvIdeal.τ).loc Cert.KernelConvIdeal.main_arg7)
      ∧ m' ((c.tc : Thread Cert.ReferenceConvIdeal.nD Cert.ReferenceConvIdeal.τ).loc Cert.ReferenceConvIdeal.main_arg8) = m ((c.tc : Thread Cert.KernelConvIdeal.nD Cert.KernelConvIdeal.τ).loc Cert.KernelConvIdeal.main_arg8)) →
    ∃ (v0 : (c : Dev Cert.KernelConvIdeal.nD) → Buf (Elt Ideal) ((c.tc : Thread Cert.KernelConvIdeal.nD Cert.KernelConvIdeal.τ).loc Cert.KernelConvIdeal.main_v12)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v12) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
          ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5)
          ∧ r.2.mem ((c.tc : Thread Cert.KernelConvIdeal.nD Cert.KernelConvIdeal.τ).loc Cert.KernelConvIdeal.main_arg6) = m ((c.tc : Thread Cert.KernelConvIdeal.nD Cert.KernelConvIdeal.τ).loc Cert.KernelConvIdeal.main_arg6)
          ∧ r.2.mem ((c.tc : Thread Cert.KernelConvIdeal.nD Cert.KernelConvIdeal.τ).loc Cert.KernelConvIdeal.main_arg7) = m ((c.tc : Thread Cert.KernelConvIdeal.nD Cert.KernelConvIdeal.τ).loc Cert.KernelConvIdeal.main_arg7)
          ∧ r.2.mem ((c.tc : Thread Cert.KernelConvIdeal.nD Cert.KernelConvIdeal.τ).loc Cert.KernelConvIdeal.main_arg8) = m ((c.tc : Thread Cert.KernelConvIdeal.nD Cert.KernelConvIdeal.τ).loc Cert.KernelConvIdeal.main_arg8))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v262) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4)
          ∧ r.2.mem ((c.tc : Thread Cert.ReferenceConvIdeal.nD Cert.ReferenceConvIdeal.τ).loc Cert.ReferenceConvIdeal.main_arg5) = m' ((c.tc : Thread Cert.ReferenceConvIdeal.nD Cert.ReferenceConvIdeal.τ).loc Cert.ReferenceConvIdeal.main_arg5)
          ∧ r.2.mem ((c.tc : Thread Cert.ReferenceConvIdeal.nD Cert.ReferenceConvIdeal.τ).loc Cert.ReferenceConvIdeal.main_arg6) = m' ((c.tc : Thread Cert.ReferenceConvIdeal.nD Cert.ReferenceConvIdeal.τ).loc Cert.ReferenceConvIdeal.main_arg6)
          ∧ r.2.mem ((c.tc : Thread Cert.ReferenceConvIdeal.nD Cert.ReferenceConvIdeal.τ).loc Cert.ReferenceConvIdeal.main_arg7) = m' ((c.tc : Thread Cert.ReferenceConvIdeal.nD Cert.ReferenceConvIdeal.τ).loc Cert.ReferenceConvIdeal.main_arg7)
          ∧ r.2.mem ((c.tc : Thread Cert.ReferenceConvIdeal.nD Cert.ReferenceConvIdeal.τ).loc Cert.ReferenceConvIdeal.main_arg8) = m' ((c.tc : Thread Cert.ReferenceConvIdeal.nD Cert.ReferenceConvIdeal.τ).loc Cert.ReferenceConvIdeal.main_arg8))

def Claim : Prop :=
  ∃ (hKernel : Cert.Kernel.Facts) (hKernelIdeal : Cert.KernelIdeal.Facts) (hReferenceIdeal : Cert.ReferenceIdeal.Facts) (hKernelConv : Cert.KernelConv.Facts) (hKernelConvIdeal : Cert.KernelConvIdeal.Facts) (hReferenceConvIdeal : Cert.ReferenceConvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelConv_KernelConvIdeal
    ∧ algebraic_KernelConvIdeal_ReferenceConvIdeal (hKernelConvIdeal := hKernelConvIdeal) (hReferenceConvIdeal := hReferenceConvIdeal)
-- ==== Pre_finite.lean ====
abbrev S4x8192x1024 : Shape := ⟨3, ![4, 8192, 1024]⟩
abbrev S4x8192x16 : Shape := ⟨3, ![4, 8192, 16]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192x16 : S_.BroadcastsInDim S4x8192x16 (![] : Fin 0 → Fin S4x8192x16.rank)
  reducesTo_S4x8192x16_S_d0_1_2 : S4x8192x16.ReducesTo [0, 1, 2] S_

variable [Facts]

def fn {F : FTy → Type} [FloatOps F] (main_arg0 : FVec F S4x8192x1024 .f32) (main_arg1 : FVec F S4x8192x1024 .f32) (main_arg2 : FVec F S4x8192x1024 .f32) (main_arg3 : FVec F S4x8192x16 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  let main_v9 : FVec F S4x8192x16 .f32 := Host.absf main_arg3
  let main_cst_2 : FVec F S_ .f32 := constant S_ .f32 0x7F800000#32
  let main_v10 : FVec F S4x8192x16 .f32 := broadcastInDim S4x8192x16 ![] bcast_S_S4x8192x16 main_cst_2
  let main_v11 : IVec S4x8192x16 1 := cmpf .olt main_v9 main_v10
  let main_c_3 : IVec S_ 1 := constantI S_ 1 1#1
  let main_v12 : IVec S_ 1 := (fun x v => Host.reduce IntOp.andi x v reducesTo_S4x8192x16_S_d0_1_2 h_S_) main_v11 main_c_3
  let main_v13 : IVec S_ 1 := andi main_v8 main_v12
  main_v13
-- ==== Kernel.lean ====
abbrev S4x8192x1024 : Shape := ⟨3, ![4, 8192, 1024]⟩
abbrev S4x8192x16 : Shape := ⟨3, ![4, 8192, 16]⟩
abbrev S_ : Shape := ⟨0, ![]⟩
abbrev S32768x8x128 : Shape := ⟨3, ![32768, 8, 128]⟩
abbrev S8x32768x128 : Shape := ⟨3, ![8, 32768, 128]⟩
abbrev S16x32768x128 : Shape := ⟨3, ![16, 32768, 128]⟩
abbrev S32768x1024 : Shape := ⟨2, ![32768, 1024]⟩
abbrev S1024x32768 : Shape := ⟨2, ![1024, 32768]⟩
abbrev S8x128x32768 : Shape := ⟨3, ![8, 128, 32768]⟩
abbrev S32768x16 : Shape := ⟨2, ![32768, 16]⟩
abbrev S32768x128 : Shape := ⟨2, ![32768, 128]⟩
abbrev S16x32768 : Shape := ⟨2, ![16, 32768]⟩
abbrev S8x2x32768 : Shape := ⟨3, ![8, 2, 32768]⟩
abbrev S8x8x32768 : Shape := ⟨3, ![8, 8, 32768]⟩
abbrev S1x2048x128 : Shape := ⟨3, ![1, 2048, 128]⟩
abbrev S1x8192x128 : Shape := ⟨3, ![1, 8192, 128]⟩
abbrev S1x128x8192 : Shape := ⟨3, ![1, 128, 8192]⟩
abbrev S1x8x2048 : Shape := ⟨3, ![1, 8, 2048]⟩
abbrev S8192x128 : Shape := ⟨2, ![8192, 128]⟩
abbrev S2x2048x128 : Shape := ⟨3, ![2, 2048, 128]⟩
abbrev S2x1x2048 : Shape := ⟨3, ![2, 1, 2048]⟩
abbrev S2x80x2048 : Shape := ⟨3, ![2, 80, 2048]⟩
abbrev S512x128 : Shape := ⟨2, ![512, 128]⟩
abbrev S2048x128 : Shape := ⟨2, ![2048, 128]⟩
abbrev S16x512 : Shape := ⟨2, ![16, 512]⟩
abbrev S512 : Shape := ⟨1, ![512]⟩
abbrev S512x1 : Shape := ⟨2, ![512, 1]⟩
abbrev S1x64x512 : Shape := ⟨3, ![1, 64, 512]⟩
abbrev S64x512 : Shape := ⟨2, ![64, 512]⟩
abbrev S80x512 : Shape := ⟨2, ![80, 512]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S80x256 : Shape := ⟨2, ![80, 256]⟩
abbrev S256x256 : Shape := ⟨2, ![256, 256]⟩
abbrev S256x1 : Shape := ⟨2, ![256, 1]⟩
abbrev S1x80x2048 : Shape := ⟨3, ![1, 80, 2048]⟩
abbrev S80x2048 : Shape := ⟨2, ![80, 2048]⟩
abbrev S64x2048 : Shape := ⟨2, ![64, 2048]⟩
abbrev S1x2048 : Shape := ⟨2, ![1, 2048]⟩
abbrev S128x2048 : Shape := ⟨2, ![128, 2048]⟩

abbrev nBuf : Space → Nat
  | .hbm => 32
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x16, .f32⟩
  | .hbm, ⟨4, _⟩ => ⟨S_, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S32768x8x128, .f32⟩
  | .hbm, ⟨12, _⟩ => ⟨S8x32768x128, .f32⟩
  | .hbm, ⟨13, _⟩ => ⟨S32768x8x128, .f32⟩
  | .hbm, ⟨14, _⟩ => ⟨S8x32768x128, .f32⟩
  | .hbm, ⟨15, _⟩ => ⟨S16x32768x128, .f32⟩
  | .hbm, ⟨16, _⟩ => ⟨S16x32768x128, .bf16⟩
  | .hbm, ⟨17, _⟩ => ⟨S32768x1024, .f32⟩
  | .hbm, ⟨18, _⟩ => ⟨S1024x32768, .f32⟩
  | .hbm, ⟨19, _⟩ => ⟨S8x128x32768, .f32⟩
  | .hbm, ⟨20, _⟩ => ⟨S8x128x32768, .bf16⟩
  | .hbm, ⟨21, _⟩ => ⟨S32768x16, .f32⟩
  | .hbm, ⟨22, _⟩ => ⟨S_, .i32⟩
  | .hbm, ⟨23, _⟩ => ⟨S_, .f32⟩
  | .hbm, ⟨24, _⟩ => ⟨S32768x128, .f32⟩
  | .hbm, ⟨25, _⟩ => ⟨S32768x16, .f32⟩
  | .hbm, ⟨26, _⟩ => ⟨S16x32768, .f32⟩
  | .hbm, ⟨27, _⟩ => ⟨S8x2x32768, .f32⟩
  | .hbm, ⟨28, _⟩ => ⟨S_, .i32⟩
  | .hbm, ⟨29, _⟩ => ⟨S_, .f32⟩
  | .hbm, ⟨30, _⟩ => ⟨S8x8x32768, .f32⟩
  | .hbm, ⟨31, _⟩ => ⟨S8x32768x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x8x2048, .f32⟩
  | .local _ .vmem, ⟨7, _⟩ => ⟨S1x8x2048, .f32⟩
  | .local _ .vmem, ⟨8, _⟩ => ⟨S8192x128, .f32⟩
  | .local _ .vmem, ⟨9, _⟩ => ⟨S8192x128, .f32⟩
  | .local _ .vmem, ⟨10, _⟩ => ⟨S1x2048x128, .bf16⟩
  | .local _ .vmem, ⟨11, _⟩ => ⟨S1x2048x128, .bf16⟩
  | .local _ .vmem, ⟨12, _⟩ => ⟨S2x2048x128, .bf16⟩
  | .local _ .vmem, ⟨13, _⟩ => ⟨S2x1x2048, .f32⟩
  | .local _ .vmem, ⟨14, _⟩ => ⟨S2x80x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_25 : BitVec 32 := 1#32
  ⟨c0_i32_23, v48, c1_i32_25⟩
def k0_mult1 (i : grid0.Coords) (k0_t1 : Fin (k0_t1_loop i).trips) : BitVec 32 :=
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let c0_i32_1032 : BitVec 32 := 0#32
  let v1788 : BitVec 32 := Scalar.addi v1787 c0_i32_1032
  let c512_i32_1033 : BitVec 32 := 512#32
  let v1789 : BitVec 32 := Scalar.muli v1788 c512_i32_1033
  v1789
def k0_off1 (i : grid0.Coords) (k0_t1 : Fin (k0_t1_loop i).trips) (c0_i32_1032 : BitVec 32) : Fin 2 → Nat :=
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1791 : Index := Scalar.indexCast v1790
  let c0_1034 : Index := 0#32
  ![v1791.toNat, 0]
def k0_off2 (i : grid0.Coords) (k0_t1 : Fin (k0_t1_loop i).trips) (c0_i32_1032 : BitVec 32) : Fin 3 → Nat :=
  let c0_1041 : Index := 0#32
  let c0_1042 : Index := 0#32
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1805 : Index := Scalar.indexCast v1790
  ![0, 0, v1805.toNat]
def k0_off3 (i : grid0.Coords) (k0_t1 : Fin (k0_t1_loop i).trips) (c0_i32_1032 : BitVec 32) : Fin 3 → Nat :=
  let c0_1049 : Index := 0#32
  let c64_1050 : Index := 64#32
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1820 : Index := Scalar.indexCast v1790
  ![0, 64, v1820.toNat]
def k0_off4 (i : grid0.Coords) (k0_t1 : Fin (k0_t1_loop i).trips) (c0_i32_1032 : BitVec 32) : Fin 3 → Nat :=
  let c0_1051 : Index := 0#32
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1824 : Index := Scalar.indexCast v1790
  let c0_1052 : Index := 0#32
  ![0, v1824.toNat, 0]
def k0_mult2 (i : grid0.Coords) (k0_t1 : Fin (k0_t1_loop i).trips) : BitVec 32 :=
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let c1_i32_1053 : BitVec 32 := 1#32
  let v1827 : BitVec 32 := Scalar.addi v1787 c1_i32_1053
  let c512_i32_1054 : BitVec 32 := 512#32
  let v1828 : BitVec 32 := Scalar.muli v1827 c512_i32_1054
  v1828
def k0_mult3 (i : grid0.Coords) (k0_t1 : Fin (k0_t1_loop i).trips) : BitVec 32 :=
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let c2_i32_1074 : BitVec 32 := 2#32
  let v1866 : BitVec 32 := Scalar.addi v1787 c2_i32_1074
  let c512_i32_1075 : BitVec 32 := 512#32
  let v1867 : BitVec 32 := Scalar.muli v1866 c512_i32_1075
  v1867
def k0_mult4 (i : grid0.Coords) (k0_t1 : Fin (k0_t1_loop i).trips) : BitVec 32 :=
  let c0_i32_23 : BitVec 32 := 0#32
  let c1_i32_25 : BitVec 32 := 1#32
  let arg12 : BitVec 32 := Scf.iv c0_i32_23 c1_i32_25 k0_t1
  let c4_i32_1031 : BitVec 32 := 4#32
  let v1787 : BitVec 32 := Scalar.muli arg12 c4_i32_1031
  let c3_i32_1095 : BitVec 32 := 3#32
  let v1905 : BitVec 32 := Scalar.addi v1787 c3_i32_1095
  let c512_i32_1096 : BitVec 32 := 512#32
  let v1906 : BitVec 32 := Scalar.muli v1905 c512_i32_1096
  v1906
@[reducible] def k0_t2_loop (i : grid0.Coords) : Scf.Loop 32 :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let v45 : BitVec 32 := Scalar.addi c0_i32_23 v44
  let c1_i32_26 : BitVec 32 := 1#32
  ⟨v48, v45, c1_i32_26⟩
def k0_mult5 (i : grid0.Coords) (k0_t2 : Fin (k0_t2_loop i).trips) : BitVec 32 :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let c0_i32_1032 : BitVec 32 := 0#32
  let v1788 : BitVec 32 := Scalar.addi v1787 c0_i32_1032
  let c512_i32_1033 : BitVec 32 := 512#32
  let v1789 : BitVec 32 := Scalar.muli v1788 c512_i32_1033
  v1789
def k0_off5 (i : grid0.Coords) (k0_t2 : Fin (k0_t2_loop i).trips) (c0_i32_1032 : BitVec 32) : Fin 2 → Nat :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1791 : Index := Scalar.indexCast v1790
  let c0_1034 : Index := 0#32
  ![v1791.toNat, 0]
def k0_off6 (i : grid0.Coords) (k0_t2 : Fin (k0_t2_loop i).trips) (c0_i32_1032 : BitVec 32) : Fin 3 → Nat :=
  let c0_1041 : Index := 0#32
  let c0_1042 : Index := 0#32
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1805 : Index := Scalar.indexCast v1790
  ![0, 0, v1805.toNat]
def k0_off7 (i : grid0.Coords) (k0_t2 : Fin (k0_t2_loop i).trips) (c0_i32_1032 : BitVec 32) : Fin 3 → Nat :=
  let c0_1049 : Index := 0#32
  let c64_1050 : Index := 64#32
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1820 : Index := Scalar.indexCast v1790
  ![0, 64, v1820.toNat]
def k0_off8 (i : grid0.Coords) (k0_t2 : Fin (k0_t2_loop i).trips) (c0_i32_1032 : BitVec 32) : Fin 3 → Nat :=
  let c0_1051 : Index := 0#32
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let v1788 : BitVec 32 := Scalar.addi v1787 c0_i32_1032
  let c512_i32_1033 : BitVec 32 := 512#32
  let v1789 : BitVec 32 := Scalar.muli v1788 c512_i32_1033
  let v1790 : BitVec 32 := v1789
  let v1824 : Index := Scalar.indexCast v1790
  let c0_1052 : Index := 0#32
  ![0, v1824.toNat, 0]
def k0_mult6 (i : grid0.Coords) (k0_t2 : Fin (k0_t2_loop i).trips) : BitVec 32 :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let c1_i32_1053 : BitVec 32 := 1#32
  let v1827 : BitVec 32 := Scalar.addi v1787 c1_i32_1053
  let c512_i32_1054 : BitVec 32 := 512#32
  let v1828 : BitVec 32 := Scalar.muli v1827 c512_i32_1054
  v1828
def k0_mult7 (i : grid0.Coords) (k0_t2 : Fin (k0_t2_loop i).trips) : BitVec 32 :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let c2_i32_1074 : BitVec 32 := 2#32
  let v1866 : BitVec 32 := Scalar.addi v1787 c2_i32_1074
  let c512_i32_1075 : BitVec 32 := 512#32
  let v1867 : BitVec 32 := Scalar.muli v1866 c512_i32_1075
  v1867
def k0_mult8 (i : grid0.Coords) (k0_t2 : Fin (k0_t2_loop i).trips) : BitVec 32 :=
  let c0_i32_23 : BitVec 32 := 0#32
  let arg2 : BitVec 32 := BitVec.ofNat 32 (i 2).val
  let c4_i32 : BitVec 32 := 4#32
  let v26 : BitVec 32 := Scalar.muli arg2 c4_i32
  let c0_i32 : BitVec 32 := 0#32
  let v28 : BitVec 1 := Scalar.cmpi .sgt v26 c0_i32
  let v29 : BitVec 32 := Scalar.extui v28
  let c0_i32_18 : BitVec 32 := 0#32
  let v30 : BitVec 1 := Scalar.cmpi .slt v26 c0_i32_18
  let v31 : BitVec 32 := Scalar.extui v30
  let v32 : BitVec 32 := Scalar.subi v29 v31
  let c4_i32_17 : BitVec 32 := 4#32
  let c0_i32_19 : BitVec 32 := 0#32
  let v33 : BitVec 1 := Scalar.cmpi .sgt c4_i32_17 c0_i32_19
  let v34 : BitVec 32 := Scalar.extui v33
  let c0_i32_20 : BitVec 32 := 0#32
  let v35 : BitVec 1 := Scalar.cmpi .slt c4_i32_17 c0_i32_20
  let v36 : BitVec 32 := Scalar.extui v35
  let v37 : BitVec 32 := Scalar.subi v34 v36
  let v38 : BitVec 1 := Scalar.cmpi .ne v32 v37
  let v39 : BitVec 32 := Scalar.remsi v26 c4_i32_17
  let c0_i32_21 : BitVec 32 := 0#32
  let v40 : BitVec 1 := Scalar.cmpi .ne v39 c0_i32_21
  let v41 : BitVec 1 := Scalar.andi v38 v40
  let v27 : BitVec 32 := Scalar.divsi v26 c4_i32_17
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg12 : BitVec 32 := Scf.iv v48 c1_i32_26 k0_t2
  let c4_i32_1031 : BitVec 32 := 4#32
  let v1787 : BitVec 32 := Scalar.muli arg12 c4_i32_1031
  let c3_i32_1095 : BitVec 32 := 3#32
  let v1905 : BitVec 32 := Scalar.addi v1787 c3_i32_1095
  let c512_i32_1096 : BitVec 32 := 512#32
  let v1906 : BitVec 32 := Scalar.muli v1905 c512_i32_1096
  v1906
def k0_mult9 (i : grid0.Coords) : BitVec 32 :=
  let arg2 : BitVec 32 := BitVec.ofNat 32 (i 2).val
  let c4_i32 : BitVec 32 := 4#32
  let v26 : BitVec 32 := Scalar.muli arg2 c4_i32
  let c0_i32_27 : BitVec 32 := 0#32
  let v49 : BitVec 32 := Scalar.addi v26 c0_i32_27
  let c512_i32 : BitVec 32 := 512#32
  let v50 : BitVec 32 := Scalar.muli v49 c512_i32
  v50
def k0_off9 (i : grid0.Coords) (c0_i32_27 : BitVec 32) : Fin 2 → Nat :=
  let arg2 : BitVec 32 := BitVec.ofNat 32 (i 2).val
  let c4_i32 : BitVec 32 := 4#32
  let v26 : BitVec 32 := Scalar.muli arg2 c4_i32
  let v49 : BitVec 32 := Scalar.addi v26 c0_i32_27
  let c512_i32 : BitVec 32 := 512#32
  let v50 : BitVec 32 := Scalar.muli v49 c512_i32
  let v51 : BitVec 32 := v50
  let v52 : Index := Scalar.indexCast v51
  let c0_28 : Index := 0#32
  ![v52.toNat, 0]
def k0_off10 (i : grid0.Coords) (c0_i32_27 : BitVec 32) : Fin 3 → Nat :=
  let c0_33 : Index := 0#32
  let c0_34 : Index := 0#32
  let arg2 : BitVec 32 := BitVec.ofNat 32 (i 2).val
  let c4_i32 : BitVec 32 := 4#32
  let v26 : BitVec 32 := Scalar.muli arg2 c4_i32
  let v49 : BitVec 32 := Scalar.addi v26 c0_i32_27
  let c512_i32 : BitVec 32 := 512#32
  let v50 : BitVec 32 := Scalar.muli v49 c512_i32
  let v51 : BitVec 32 := v50
  let v66 : Index := Scalar.indexCast v51
  ![0, 0, v66.toNat]
def k0_off11 (i : grid0.Coords) (c0_i32_27 : BitVec 32) : Fin 3 → Nat :=
  let c0_41 : Index := 0#32
  let c64 : Index := 64#32
  let arg2 : BitVec 32 := BitVec.ofNat 32 (i 2).val
  let c4_i32 : BitVec 32 := 4#32
  let v26 : BitVec 32 := Scalar.muli arg2 c4_i32
  let v49 : BitVec 32 := Scalar.addi v26 c0_i32_27
  let c512_i32 : BitVec 32 := 512#32
  let v50 : BitVec 32 := Scalar.muli v49 c512_i32
  let v51 : BitVec 32 := v50
  let v81 : Index := Scalar.indexCast v51
  ![0, 64, v81.toNat]
def k0_off12 (i : grid0.Coords) (c0_i32_27 : BitVec 32) : Fin 3 → Nat :=
  let c0_42 : Index := 0#32
  let arg2 : BitVec 32 := BitVec.ofNat 32 (i 2).val
  let c4_i32 : BitVec 32 := 4#32
  let v26 : BitVec 32 := Scalar.muli arg2 c4_i32
  let v49 : BitVec 32 := Scalar.addi v26 c0_i32_27
  let c512_i32 : BitVec 32 := 512#32
  let v50 : BitVec 32 := Scalar.muli v49 c512_i32
  let v51 : BitVec 32 := v50
  let v85 : Index := Scalar.indexCast v51
  let c0_43 : Index := 0#32
  ![0, v85.toNat, 0]
def k0_mult10 (i : grid0.Coords) : BitVec 32 :=
  let arg2 : BitVec 32 := BitVec.ofNat 32 (i 2).val
  let c4_i32 : BitVec 32 := 4#32
  let v26 : BitVec 32 := Scalar.muli arg2 c4_i32
  let c1_i32_44 : BitVec 32 := 1#32
  let v88 : BitVec 32 := Scalar.addi v26 c1_i32_44
  let c512_i32_45 : BitVec 32 := 512#32
  let v89 : BitVec 32 := Scalar.muli v88 c512_i32_45
  v89
def k0_mult11 (i : grid0.Coords) : BitVec 32 :=
  let arg2 : BitVec 32 := BitVec.ofNat 32 (i 2).val
  let c4_i32 : BitVec 32 := 4#32
  let v26 : BitVec 32 := Scalar.muli arg2 c4_i32
  let c2_i32_65 : BitVec 32 := 2#32
  let v127 : BitVec 32 := Scalar.addi v26 c2_i32_65
  let c512_i32_66 : BitVec 32 := 512#32
  let v128 : BitVec 32 := Scalar.muli v127 c512_i32_66
  v128
def k0_mult12 (i : grid0.Coords) : BitVec 32 :=
  let arg2 : BitVec 32 := BitVec.ofNat 32 (i 2).val
  let c4_i32 : BitVec 32 := 4#32
  let v26 : BitVec 32 := Scalar.muli arg2 c4_i32
  let c3_i32 : BitVec 32 := 3#32
  let v166 : BitVec 32 := Scalar.addi v26 c3_i32
  let c512_i32_86 : BitVec 32 := 512#32
  let v167 : BitVec 32 := Scalar.muli v166 c512_i32_86
  v167
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c4_i32 : BitVec 32 := 4#32
  let v1 : BitVec 32 := Scalar.muli arg0 c4_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_big" => some ⊥
  | _ => none
-- ==== ReferenceIdeal.lean ====
abbrev S4x8192x1024 : Shape := ⟨3, ![4, 8192, 1024]⟩
abbrev S4x8192x16 : Shape := ⟨3, ![4, 8192, 16]⟩
abbrev S4x8192x16x64 : Shape := ⟨4, ![4, 8192, 16, 64]⟩
abbrev S4x16x8192 : Shape := ⟨3, ![4, 16, 8192]⟩
abbrev S8192 : Shape := ⟨1, ![8192]⟩
abbrev S4x16x8192x8192 : Shape := ⟨4, ![4, 16, 8192, 8192]⟩
abbrev S_ : Shape := ⟨0, ![]⟩
abbrev S4x16x8192x1 : Shape := ⟨4, ![4, 16, 8192, 1]⟩
abbrev S4x16x1x8192 : Shape := ⟨4, ![4, 16, 1, 8192]⟩
abbrev S1x8192 : Shape := ⟨2, ![1, 8192]⟩
abbrev S8192x1 : Shape := ⟨2, ![8192, 1]⟩
abbrev S8192x8192 : Shape := ⟨2, ![8192, 8192]⟩
abbrev S4x16x64x8192 : Shape := ⟨4, ![4, 16, 64, 8192]⟩
abbrev S32768x8x128 : Shape := ⟨3, ![32768, 8, 128]⟩
abbrev S8x32768x128 : Shape := ⟨3, ![8, 32768, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x16, .f32⟩
  | .hbm, ⟨4, _⟩ => ⟨S4x8192x16x64, .f32⟩
  | .hbm, ⟨5, _⟩ => ⟨S4x8192x16x64, .f32⟩
  | .hbm, ⟨6, _⟩ => ⟨S4x8192x16x64, .f32⟩
  | .hbm, ⟨7, _⟩ => ⟨S4x16x8192, .f32⟩
  | .hbm, ⟨8, _⟩ => ⟨S8192, .i32⟩
  | .hbm, ⟨9, _⟩ => ⟨S4x16x8192x8192, .f32⟩
  | .hbm, ⟨10, _⟩ => ⟨S_, .f32⟩
  | .hbm, ⟨11, _⟩ => ⟨S4x16x8192x8192, .f32⟩
  | .hbm, ⟨12, _⟩ => ⟨S4x16x8192x8192, .f32⟩
  | .hbm, ⟨13, _⟩ => ⟨S4x16x8192x1, .f32⟩
  | .hbm, ⟨14, _⟩ => ⟨S4x16x8192x8192, .f32⟩
  | .hbm, ⟨15, _⟩ => ⟨S4x16x8192x8192, .f32⟩
  | .hbm, ⟨16, _⟩ => ⟨S4x16x1x8192, .f32⟩
  | .hbm, ⟨17, _⟩ => ⟨S4x16x8192x8192, .f32⟩
  | .hbm, ⟨18, _⟩ => ⟨S4x16x8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S4x16x8192x8192, .i1⟩
  | .hbm, ⟨27, _⟩ => ⟨S4x16x8192x8192, .f32⟩
  | .hbm, ⟨28, _⟩ => ⟨S4x16x8192x8192, .f32⟩
  | .hbm, ⟨29, _⟩ => ⟨S_, .f32⟩
  | .hbm, ⟨30, _⟩ => ⟨S4x16x8192, .f32⟩
  | .hbm, ⟨31, _⟩ => ⟨S_, .f32⟩
  | .hbm, ⟨32, _⟩ => ⟨S4x16x8192, .f32⟩
  | .hbm, ⟨33, _⟩ => ⟨S4x16x8192, .f32⟩
  | .hbm, ⟨34, _⟩ => ⟨S4x16x8192x1, .f32⟩
  | .hbm, ⟨35, _⟩ => ⟨S4x16x8192x8192, .f32⟩
  | .hbm, ⟨36, _⟩ => ⟨S4x16x8192x8192, .f32⟩
  | .hbm, ⟨37, _⟩ => ⟨S4x16x8192x8192, .f32⟩
  | .hbm, ⟨38, _⟩ => ⟨S_, .f32⟩
  | .hbm, ⟨39, _⟩ => ⟨S4x16x8192, .f32⟩
  | .hbm, ⟨40, _⟩ => ⟨S4x16x8192x1, .f32⟩
  | .hbm, ⟨41, _⟩ => ⟨S4x16x8192x8192, .f32⟩
  | .hbm, ⟨42, _⟩ => ⟨S4x16x8192x8192, .f32⟩
  | .hbm, ⟨43, _⟩ => ⟨S4x16x64x8192, .f32⟩
  | .hbm, ⟨44, _⟩ => ⟨S4x8192x16x64, .f32⟩
  | .hbm, ⟨45, _⟩ => ⟨S32768x8x128, .f32⟩
  | .hbm, ⟨46, _⟩ => ⟨S8x32768x128, .f32⟩
  | .hbm, ⟨47, _⟩ => ⟨S8x32768x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelConv.lean ====
abbrev S4x8192x2048 : Shape := ⟨3, ![4, 8192, 2048]⟩
abbrev S4x8192x1024 : Shape := ⟨3, ![4, 8192, 1024]⟩
abbrev S31x2048 : Shape := ⟨2, ![31, 2048]⟩
abbrev S2048 : Shape := ⟨1, ![2048]⟩
abbrev S2048x1024 : Shape := ⟨2, ![2048, 1024]⟩
abbrev S1024 : Shape := ⟨1, ![1024]⟩
abbrev S32768x16x128 : Shape := ⟨3, ![32768, 16, 128]⟩
abbrev S16x32768x128 : Shape := ⟨3, ![16, 32768, 128]⟩
abbrev S32768x1024 : Shape := ⟨2, ![32768, 1024]⟩
abbrev S1x2048 : Shape := ⟨2, ![1, 2048]⟩
abbrev S1x1024 : Shape := ⟨2, ![1, 1024]⟩
abbrev S16x512x128 : Shape := ⟨3, ![16, 512, 128]⟩
abbrev S512x1024 : Shape := ⟨2, ![512, 1024]⟩
abbrev S544x2048 : Shape := ⟨2, ![544, 2048]⟩
abbrev S512x2048 : Shape := ⟨2, ![512, 2048]⟩
abbrev S7x536x128 : Shape := ⟨3, ![7, 536, 128]⟩
abbrev S32x2048 : Shape := ⟨2, ![32, 2048]⟩
abbrev S1x512x128 : Shape := ⟨3, ![1, 512, 128]⟩
abbrev S512x128 : Shape := ⟨2, ![512, 128]⟩
abbrev S536x128 : Shape := ⟨2, ![536, 128]⟩
abbrev S1x536x128 : Shape := ⟨3, ![1, 536, 128]⟩
abbrev S1x128 : Shape := ⟨2, ![1, 128]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x1024, .f32⟩
  | .hbm, ⟨3, _⟩ => ⟨S31x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S1024, .f32⟩
  | .hbm, ⟨9, _⟩ => ⟨S32768x16x128, .f32⟩
  | .hbm, ⟨10, _⟩ => ⟨S16x32768x128, .f32⟩
  | .hbm, ⟨11, _⟩ => ⟨S16x32768x128, .bf16⟩
  | .hbm, ⟨12, _⟩ => ⟨S32768x16x128, .f32⟩
  | .hbm, ⟨13, _⟩ => ⟨S16x32768x128, .f32⟩
  | .hbm, ⟨14, _⟩ => ⟨S16x32768x128, .bf16⟩
  | .hbm, ⟨15, _⟩ => ⟨S32768x1024, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S2048x1024, .bf16⟩
  | .hbm, ⟨20, _⟩ => ⟨S1x1024, .f32⟩
  | .hbm, ⟨21, _⟩ => ⟨S32768x1024, .f32⟩
  | .local _ .vmem, ⟨0, _⟩ => ⟨S16x512x128, .bf16⟩
  | .local _ .vmem, ⟨1, _⟩ => ⟨S16x512x128, .bf16⟩
  | .local _ .vmem, ⟨2, _⟩ => ⟨S16x512x128, .bf16⟩
  | .local _ .vmem, ⟨3, _⟩ => ⟨S16x512x128, .bf16⟩
  | .local _ .vmem, ⟨4, _⟩ => ⟨S512x1024, .f32⟩
  | .local _ .vmem, ⟨5, _⟩ => ⟨S512x1024, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S544x2048, .f32⟩
  | .local _ .vmem, ⟨15, _⟩ => ⟨S512x2048, .f32⟩
  | .local _ .vmem, ⟨16, _⟩ => ⟨S7x536x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceConvIdeal.lean ====
abbrev S4x8192x2048 : Shape := ⟨3, ![4, 8192, 2048]⟩
abbrev S4x8192x1024 : Shape := ⟨3, ![4, 8192, 1024]⟩
abbrev S31x2048 : Shape := ⟨2, ![31, 2048]⟩
abbrev S2048 : Shape := ⟨1, ![2048]⟩
abbrev S2048x1024 : Shape := ⟨2, ![2048, 1024]⟩
abbrev S1024 : Shape := ⟨1, ![1024]⟩
abbrev S_ : Shape := ⟨0, ![]⟩
abbrev S4x8222x2048 : Shape := ⟨3, ![4, 8222, 2048]⟩
abbrev S1x2048 : Shape := ⟨2, ![1, 2048]⟩
abbrev S1x1x2048 : Shape := ⟨3, ![1, 1, 2048]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 299
  | .vmem => 0
  | .smem => 0
  | _ => 0

abbrev hbmTy0_0 (i : Nat) : BufTy := match i % 128 with
  | 0 => ⟨S4x8192x2048, .f32⟩
  | 1 => ⟨S4x8192x2048, .f32⟩
  | 2 => ⟨S4x8192x1024, .f32⟩
  | 3 => ⟨S31x2048, .f32⟩
  | 4 => ⟨S2048, .f32⟩
  | 5 => ⟨S2048, .f32⟩
  | 6 => ⟨S2048, .f32⟩
  | 7 => ⟨S2048x1024, .f32⟩
  | 8 => ⟨S1024, .f32⟩
  | 9 => ⟨S_, .i32⟩
  | 10 => ⟨S_, .f32⟩
  | 11 => ⟨S4x8222x2048, .f32⟩
  | 12 => ⟨S4x8192x2048, .f32⟩
  | 13 => ⟨S1x2048, .f32⟩
  | 14 => ⟨S2048, .f32⟩
  | 15 => ⟨S1x1x2048, .f32⟩
  | 16 => ⟨S4x8192x2048, .f32⟩
  | 17 => ⟨S4x8192x2048, .f32⟩
  | 18 => ⟨S_, .f32⟩
  | 19 => ⟨S4x8192x2048, .f32⟩
  | 20 => ⟨S4x8192x2048, .f32⟩
  | 21 => ⟨S4x8192x2048, .f32⟩
  | 22 => ⟨S1x2048, .f32⟩
  | 23 => ⟨S2048, .f32⟩
  | 24 => ⟨S1x1x2048, .f32⟩
  | 25 => ⟨S4x8192x2048, .f32⟩
  | 26 => ⟨S4x8192x2048, .f32⟩
  | 27 => ⟨S4x8192x2048, .f32⟩
  | 28 => ⟨S4x8192x2048, .f32⟩
  | 29 => ⟨S1x2048, .f32⟩
  | 30 => ⟨S2048, .f32⟩
  | 31 => ⟨S1x1x2048, .f32⟩
  | 32 => ⟨S4x8192x2048, .f32⟩
  | 33 => ⟨S4x8192x2048, .f32⟩
  | 34 => ⟨S4x8192x2048, .f32⟩
  | 35 => ⟨S4x8192x2048, .f32⟩
  | 36 => ⟨S1x2048, .f32⟩
  | 37 => ⟨S2048, .f32⟩
  | 38 => ⟨S1x1x2048, .f32⟩
  | 39 => ⟨S4x8192x2048, .f32⟩
  | 40 => ⟨S4x8192x2048, .f32⟩
  | 41 => ⟨S4x8192x2048, .f32⟩
  | 42 => ⟨S4x8192x2048, .f32⟩
  | 43 => ⟨S1x2048, .f32⟩
  | 44 => ⟨S2048, .f32⟩
  | 45 => ⟨S1x1x2048, .f32⟩
  | 46 => ⟨S4x8192x2048, .f32⟩
  | 47 => ⟨S4x8192x2048, .f32⟩
  | 48 => ⟨S4x8192x2048, .f32⟩
  | 49 => ⟨S4x8192x2048, .f32⟩
  | 50 => ⟨S1x2048, .f32⟩
  | 51 => ⟨S2048, .f32⟩
  | 52 => ⟨S1x1x2048, .f32⟩
  | 53 => ⟨S4x8192x2048, .f32⟩
  | 54 => ⟨S4x8192x2048, .f32⟩
  | 55 => ⟨S4x8192x2048, .f32⟩
  | 56 => ⟨S4x8192x2048, .f32⟩
  | 57 => ⟨S1x2048, .f32⟩
  | 58 => ⟨S2048, .f32⟩
  | 59 => ⟨S1x1x2048, .f32⟩
  | 60 => ⟨S4x8192x2048, .f32⟩
  | 61 => ⟨S4x8192x2048, .f32⟩
  | 62 => ⟨S4x8192x2048, .f32⟩
  | 63 => ⟨S4x8192x2048, .f32⟩
  | 64 => ⟨S1x2048, .f32⟩
  | 65 => ⟨S2048, .f32⟩
  | 66 => ⟨S1x1x2048, .f32⟩
  | 67 => ⟨S4x8192x2048, .f32⟩
  | 68 => ⟨S4x8192x2048, .f32⟩
  | 69 => ⟨S4x8192x2048, .f32⟩
  | 70 => ⟨S4x8192x2048, .f32⟩
  | 71 => ⟨S1x2048, .f32⟩
  | 72 => ⟨S2048, .f32⟩
  | 73 => ⟨S1x1x2048, .f32⟩
  | 74 => ⟨S4x8192x2048, .f32⟩
  | 75 => ⟨S4x8192x2048, .f32⟩
  | 76 => ⟨S4x8192x2048, .f32⟩
  | 77 => ⟨S4x8192x2048, .f32⟩
  | 78 => ⟨S1x2048, .f32⟩
  | 79 => ⟨S2048, .f32⟩
  | 80 => ⟨S1x1x2048, .f32⟩
  | 81 => ⟨S4x8192x2048, .f32⟩
  | 82 => ⟨S4x8192x2048, .f32⟩
  | 83 => ⟨S4x8192x2048, .f32⟩
  | 84 => ⟨S4x8192x2048, .f32⟩
  | 85 => ⟨S1x2048, .f32⟩
  | 86 => ⟨S2048, .f32⟩
  | 87 => ⟨S1x1x2048, .f32⟩
  | 88 => ⟨S4x8192x2048, .f32⟩
  | 89 => ⟨S4x8192x2048, .f32⟩
  | 90 => ⟨S4x8192x2048, .f32⟩
  | 91 => ⟨S4x8192x2048, .f32⟩
  | 92 => ⟨S1x2048, .f32⟩
  | 93 => ⟨S2048, .f32⟩
  | 94 => ⟨S1x1x2048, .f32⟩
  | 95 => ⟨S4x8192x2048, .f32⟩
  | 96 => ⟨S4x8192x2048, .f32⟩
  | 97 => ⟨S4x8192x2048, .f32⟩
  | 98 => ⟨S4x8192x2048, .f32⟩
  | 99 => ⟨S1x2048, .f32⟩
  | 100 => ⟨S2048, .f32⟩
  | 101 => ⟨S1x1x2048, .f32⟩
  | 102 => ⟨S4x8192x2048, .f32⟩
  | 103 => ⟨S4x8192x2048, .f32⟩
  | 104 => ⟨S4x8192x2048, .f32⟩
  | 105 => ⟨S4x8192x2048, .f32⟩
  | 106 => ⟨S1x2048, .f32⟩
  | 107 => ⟨S2048, .f32⟩
  | 108 => ⟨S1x1x2048, .f32⟩
  | 109 => ⟨S4x8192x2048, .f32⟩
  | 110 => ⟨S4x8192x2048, .f32⟩
  | 111 => ⟨S4x8192x2048, .f32⟩
  | 112 => ⟨S4x8192x2048, .f32⟩
  | 113 => ⟨S1x2048, .f32⟩
  | 114 => ⟨S2048, .f32⟩
  | 115 => ⟨S1x1x2048, .f32⟩
  | 116 => ⟨S4x8192x2048, .f32⟩
  | 117 => ⟨S4x8192x2048, .f32⟩
  | 118 => ⟨S4x8192x2048, .f32⟩
  | 119 => ⟨S4x8192x2048, .f32⟩
  | 120 => ⟨S1x2048, .f32⟩
  | 121 => ⟨S2048, .f32⟩
  | 122 => ⟨S1x1x2048, .f32⟩
  | 123 => ⟨S4x8192x2048, .f32⟩
  | 124 => ⟨S4x8192x2048, .f32⟩
  | 125 => ⟨S4x8192x2048, .f32⟩
  | 126 => ⟨S4x8192x2048, .f32⟩
  | 127 => ⟨S1x2048, .f32⟩
  | _ => ⟨S4x8192x2048, .f32⟩

abbrev hbmTy0_1 (i : Nat) : BufTy := match i % 128 with
  | 0 => ⟨S2048, .f32⟩
  | 1 => ⟨S1x1x2048, .f32⟩
  | 2 => ⟨S4x8192x2048, .f32⟩
  | 3 => ⟨S4x8192x2048, .f32⟩
  | 4 => ⟨S4x8192x2048, .f32⟩
  | 5 => ⟨S4x8192x2048, .f32⟩
  | 6 => ⟨S1x2048, .f32⟩
  | 7 => ⟨S2048, .f32⟩
  | 8 => ⟨S1x1x2048, .f32⟩
  | 9 => ⟨S4x8192x2048, .f32⟩
  | 10 => ⟨S4x8192x2048, .f32⟩
  | 11 => ⟨S4x8192x2048, .f32⟩
  | 12 => ⟨S4x8192x2048, .f32⟩
  | 13 => ⟨S1x2048, .f32⟩
  | 14 => ⟨S2048, .f32⟩
  | 15 => ⟨S1x1x2048, .f32⟩
  | 16 => ⟨S4x8192x2048, .f32⟩
  | 17 => ⟨S4x8192x2048, .f32⟩
  | 18 => ⟨S4x8192x2048, .f32⟩
  | 19 => ⟨S4x8192x2048, .f32⟩
  | 20 => ⟨S1x2048, .f32⟩
  | 21 => ⟨S2048, .f32⟩
  | 22 => ⟨S1x1x2048, .f32⟩
  | 23 => ⟨S4x8192x2048, .f32⟩
  | 24 => ⟨S4x8192x2048, .f32⟩
  | 25 => ⟨S4x8192x2048, .f32⟩
  | 26 => ⟨S4x8192x2048, .f32⟩
  | 27 => ⟨S1x2048, .f32⟩
  | 28 => ⟨S2048, .f32⟩
  | 29 => ⟨S1x1x2048, .f32⟩
  | 30 => ⟨S4x8192x2048, .f32⟩
  | 31 => ⟨S4x8192x2048, .f32⟩
  | 32 => ⟨S4x8192x2048, .f32⟩
  | 33 => ⟨S4x8192x2048, .f32⟩
  | 34 => ⟨S1x2048, .f32⟩
  | 35 => ⟨S2048, .f32⟩
  | 36 => ⟨S1x1x2048, .f32⟩
  | 37 => ⟨S4x8192x2048, .f32⟩
  | 38 => ⟨S4x8192x2048, .f32⟩
  | 39 => ⟨S4x8192x2048, .f32⟩
  | 40 => ⟨S4x8192x2048, .f32⟩
  | 41 => ⟨S1x2048, .f32⟩
  | 42 => ⟨S2048, .f32⟩
  | 43 => ⟨S1x1x2048, .f32⟩
  | 44 => ⟨S4x8192x2048, .f32⟩
  | 45 => ⟨S4x8192x2048, .f32⟩
  | 46 => ⟨S4x8192x2048, .f32⟩
  | 47 => ⟨S4x8192x2048, .f32⟩
  | 48 => ⟨S1x2048, .f32⟩
  | 49 => ⟨S2048, .f32⟩
  | 50 => ⟨S1x1x2048, .f32⟩
  | 51 => ⟨S4x8192x2048, .f32⟩
  | 52 => ⟨S4x8192x2048, .f32⟩
  | 53 => ⟨S4x8192x2048, .f32⟩
  | 54 => ⟨S4x8192x2048, .f32⟩
  | 55 => ⟨S1x2048, .f32⟩
  | 56 => ⟨S2048, .f32⟩
  | 57 => ⟨S1x1x2048, .f32⟩
  | 58 => ⟨S4x8192x2048, .f32⟩
  | 59 => ⟨S4x8192x2048, .f32⟩
  | 60 => ⟨S4x8192x2048, .f32⟩
  | 61 => ⟨S4x8192x2048, .f32⟩
  | 62 => ⟨S1x2048, .f32⟩
  | 63 => ⟨S2048, .f32⟩
  | 64 => ⟨S1x1x2048, .f32⟩
  | 65 => ⟨S4x8192x2048, .f32⟩
  | 66 => ⟨S4x8192x2048, .f32⟩
  | 67 => ⟨S4x8192x2048, .f32⟩
  | 68 => ⟨S4x8192x2048, .f32⟩
  | 69 => ⟨S1x2048, .f32⟩
  | 70 => ⟨S2048, .f32⟩
  | 71 => ⟨S1x1x2048, .f32⟩
  | 72 => ⟨S4x8192x2048, .f32⟩
  | 73 => ⟨S4x8192x2048, .f32⟩
  | 74 => ⟨S4x8192x2048, .f32⟩
  | 75 => ⟨S4x8192x2048, .f32⟩
  | 76 => ⟨S1x2048, .f32⟩
  | 77 => ⟨S2048, .f32⟩
  | 78 => ⟨S1x1x2048, .f32⟩
  | 79 => ⟨S4x8192x2048, .f32⟩
  | 80 => ⟨S4x8192x2048, .f32⟩
  | 81 => ⟨S4x8192x2048, .f32⟩
  | 82 => ⟨S4x8192x2048, .f32⟩
  | 83 => ⟨S1x2048, .f32⟩
  | 84 => ⟨S2048, .f32⟩
  | 85 => ⟨S1x1x2048, .f32⟩
  | 86 => ⟨S4x8192x2048, .f32⟩
  | 87 => ⟨S4x8192x2048, .f32⟩
  | 88 => ⟨S4x8192x2048, .f32⟩
  | 89 => ⟨S4x8192x2048, .f32⟩
  | 90 => ⟨S1x2048, .f32⟩
  | 91 => ⟨S2048, .f32⟩
  | 92 => ⟨S1x1x2048, .f32⟩
  | 93 => ⟨S4x8192x2048, .f32⟩
  | 94 => ⟨S4x8192x2048, .f32⟩
  | 95 => ⟨S4x8192x2048, .f32⟩
  | 96 => ⟨S4x8192x2048, .f32⟩
  | 97 => ⟨S1x2048, .f32⟩
  | 98 => ⟨S2048, .f32⟩
  | 99 => ⟨S1x1x2048, .f32⟩
  | 100 => ⟨S4x8192x2048, .f32⟩
  | 101 => ⟨S4x8192x2048, .f32⟩
  | 102 => ⟨S4x8192x2048, .f32⟩
  | 103 => ⟨S1x1x2048, .f32⟩
  | 104 => ⟨S4x8192x2048, .f32⟩
  | 105 => ⟨S4x8192x2048, .f32⟩
  | 106 => ⟨S_, .f32⟩
  | 107 => ⟨S4x8192, .f32⟩
  | 108 => ⟨S4x8192x1, .f32⟩
  | 109 => ⟨S_, .f32⟩
  | 110 => ⟨S4x8192x1, .f32⟩
  | 111 => ⟨S4x8192x1, .f32⟩
  | 112 => ⟨S4x8192x2048, .f32⟩
  | 113 => ⟨S4x8192x2048, .f32⟩
  | 114 => ⟨S4x8192x2048, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S_, .f32⟩
  | 122 => ⟨S4x8192x1, .f32⟩
  | 123 => ⟨S4x8192x1, .f32⟩
  | 124 => ⟨S4x8192x1, .f32⟩
  | 125 => ⟨S4x8192x2048, .f32⟩
  | 126 => ⟨S4x8192x2048, .f32⟩
  | 127 => ⟨S1x1x2048, .f32⟩
  | _ => ⟨S4x8192x2048, .f32⟩

abbrev hbmTy0_2 (i : Nat) : BufTy := match i % 128 with
  | 0 => ⟨S4x8192x2048, .f32⟩
  | 1 => ⟨S4x8192x2048, .f32⟩
  | 2 => ⟨S1x1x2048, .f32⟩
  | 3 => ⟨S4x8192x2048, .f32⟩
  | 4 => ⟨S4x8192x2048, .f32⟩
  | 5 => ⟨S4x8192x2048, .f32⟩
  | 6 => ⟨S4x8192x2048, .f32⟩
  | 7 => ⟨S_, .f32⟩
  | 8 => ⟨S4x8192x2048, .f32⟩
  | 9 => ⟨S4x8192x2048, .f32⟩
  | 10 => ⟨S_, .f32⟩
  | 11 => ⟨S4x8192x2048, .f32⟩
  | 12 => ⟨S4x8192x2048, .f32⟩
  | 13 => ⟨S4x8192x2048, .f32⟩
  | 14 => ⟨S4x8192x2048, .f32⟩
  | 15 => ⟨S4x8192x2048, .f32⟩
  | 16 => ⟨S_, .f32⟩
  | 17 => ⟨S4x8192x2048, .f32⟩
  | 18 => ⟨S4x8192x2048, .f32⟩
  | 19 => ⟨S_, .f32⟩
  | 20 => ⟨S4x8192x2048, .f32⟩
  | 21 => ⟨S4x8192x2048, .f32⟩
  | 22 => ⟨S4x8192x2048, .f32⟩
  | 23 => ⟨S4x8192x2048, .f32⟩
  | 24 => ⟨S4x8192x1024, .f32⟩
  | 25 => ⟨S4x8192x1024, .f32⟩
  | 26 => ⟨S_, .f32⟩
  | 27 => ⟨S4x8192, .f32⟩
  | 28 => ⟨S4x8192x1, .f32⟩
  | 29 => ⟨S_, .f32⟩
  | 30 => ⟨S4x8192x1, .f32⟩
  | 31 => ⟨S4x8192x1, .f32⟩
  | 32 => ⟨S_, .f32⟩
  | 33 => ⟨S4x8192x1, .f32⟩
  | 34 => ⟨S4x8192x1, .f32⟩
  | 35 => ⟨S4x8192x1, .f32⟩
  | 36 => ⟨S4x8192x1024, .f32⟩
  | 37 => ⟨S4x8192x1024, .f32⟩
  | 38 => ⟨S1x1x1024, .f32⟩
  | 39 => ⟨S4x8192x1024, .f32⟩
  | 40 => ⟨S4x8192x1024, .f32⟩
  | 41 => ⟨S4x8192x1024, .f32⟩
  | 42 => ⟨S32768x1024, .f32⟩
  | _ => ⟨S4x8192x2048, .f32⟩

abbrev hbmTy (i : Nat) : BufTy := match i / 128 with
  | 0 => hbmTy0_0 i
  | 1 => hbmTy0_1 i
  | 2 => hbmTy0_2 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_cst_0 : Ref sig .tc := ⟨.hbm, 234, rfl⟩
abbrev main_v222 : Ref sig .tc := ⟨.hbm, 235, rfl⟩
abbrev main_v223 : Ref sig .tc := ⟨.hbm, 236, rfl⟩
abbrev main_cst_1 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_cst_2 : Ref sig .tc := ⟨.hbm, 243, rfl⟩
abbrev main_v229 : Ref sig .tc := ⟨.hbm, 244, rfl⟩
abbrev main_v230 : Ref sig .tc := ⟨.hbm, 245, rfl⟩
abbrev main_cst_3 : Ref sig .tc := ⟨.hbm, 246, rfl⟩
abbrev main_v231 : Ref sig .tc := ⟨.hbm, 247, rfl⟩
abbrev main_v232 : Ref sig .tc := ⟨.hbm, 248, rfl⟩
abbrev main_cst_4 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_call1_v0 : Ref sig .tc := ⟨.hbm, 261, rfl⟩
abbrev main_call1_v1 : Ref sig .tc := ⟨.hbm, 262, rfl⟩
abbrev main_call1_cst : Ref sig .tc := ⟨.hbm, 263, rfl⟩
abbrev main_call1_v2 : Ref sig .tc := ⟨.hbm, 264, rfl⟩
abbrev main_call1_v3 : Ref sig .tc := ⟨.hbm, 265, rfl⟩
abbrev main_call1_cst_0 : Ref sig .tc := ⟨.hbm, 266, rfl⟩
abbrev main_call1_v4 : Ref sig .tc := ⟨.hbm, 267, rfl⟩
abbrev main_call1_v5 : Ref sig .tc := ⟨.hbm, 268, rfl⟩
abbrev main_v244 : Ref sig .tc := ⟨.hbm, 269, rfl⟩
abbrev main_call2_v0 : Ref sig .tc := ⟨.hbm, 270, rfl⟩
abbrev main_call2_v1 : Ref sig .tc := ⟨.hbm, 271, rfl⟩
abbrev main_call2_cst : Ref sig .tc := ⟨.hbm, 272, rfl⟩
abbrev main_call2_v2 : Ref sig .tc := ⟨.hbm, 273, rfl⟩
abbrev main_call2_v3 : Ref sig .tc := ⟨.hbm, 274, rfl⟩
abbrev main_call2_cst_0 : Ref sig .tc := ⟨.hbm, 275, rfl⟩
abbrev main_call2_v4 : Ref sig .tc := ⟨.hbm, 276, rfl⟩
abbrev main_call2_v5 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_cst_5 : Ref sig .tc := ⟨.hbm, 282, rfl⟩
abbrev main_v249 : Ref sig .tc := ⟨.hbm, 283, rfl⟩
abbrev main_v250 : Ref sig .tc := ⟨.hbm, 284, rfl⟩
abbrev main_cst_6 : Ref sig .tc := ⟨.hbm, 285, rfl⟩
abbrev main_v251 : Ref sig .tc := ⟨.hbm, 286, rfl⟩
abbrev main_v252 : Ref sig .tc := ⟨.hbm, 287, rfl⟩
abbrev main_cst_7 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩

abbrev nD : Nat := 1
abbrev τ : Topo := Topo.v7x

variable {F : FTy → Type} [FloatOps F]
-- ==== Proof.Fox.Payload.lean ====
/-
  The attention kernel's values as plain functions of vectors: the scores of a key block against a query strip, the
  running maximum and the running weighted sums after such a block, and the block written out at the end. Everything is
  stated once, with the head `h` of the pair and the strip `s` of 256 queries as variables.
-/
module

public import proofs.«01_k».proof.Proof.Gen.KernelIdeal.Skeleton
public import Idealize.ShloMosaic.Lib.VecWindow

@[expose] public section

noncomputable section

namespace Cert.KernelIdeal.Fox

open Idealize.ShloMosaic Idealize.SL.Sem Cert.KernelIdeal Cert.KernelIdeal.Gen

variable {F : FTy → Type} [FloatOps F] [Named F]

/-- The two values of one block of 512 keys that depend on the head, the keys themselves, and the first key's position. -/
structure Blk (F : FTy → Type) where
  gate : Fin 2 → FVec F S512x1 .f32
  val : Fin 2 → FVec F S80x512 .bf16
  key : FVec F S512x128 .bf16
  pos : BitVec 32

/-- A key's gate, times 1/ln 2: the lane of its head out of the position's 128 lanes. -/
def gate (lane : IVec S512x128 32) (p : BitVec 32) (c : Vec F S512x128 .f32) (h : Fin 2) : FVec F S512x1 .f32 :=
  mulf (shapeCast S512x1 (multiReduction .add [1] S512
    (select (cmpi .eq lane (broadcast S512x128 (Scalar.addi (Scalar.addi 16#32 (Scalar.muli 2#32 p)) (BitVec.ofNat 32 h.val))))
      (shapeCast S512x128 c shapeCasts_S512x128_S512x128) (broadcast S512x128 (Scalar.ofBits .f32 0x00000000#32)))
    0x00000000#32 reduces_S512x128_S512 (.inl rfl) rfl) shapeCasts_S512_S512x1)
    (broadcast S512x1 (Named.named κ "log2e" 0x3FB8AA3B#32))

/-- The values of 512 keys (64 rows) over 16 rows of ones. -/
def onesBelow (one : FVec F S16x512 .bf16) (v : Vec F S1x64x512 .bf16) : FVec F S80x512 .bf16 :=
  concatenate S80x512 0 [⟨S64x512, shapeCast S64x512 v shapeCasts_S1x64x512_S64x512⟩, ⟨S16x512, one⟩] concatenates_S64x512_S16x512_S80x512_d0

/-- A block of keys from what is loaded of it. -/
def mkBlk (lane : IVec S512x128 32) (one : FVec F S16x512 .bf16) (p pos : BitVec 32) (c : Vec F S512x128 .f32)
    (v0 v1 : Vec F S1x64x512 .bf16) (k : Vec F S1x512x128 .bf16) : Blk F where
  gate := gate lane p c
  val h := onesBelow one (![v0, v1] h)
  key := shapeCast S512x128 k shapeCasts_S1x512x128_S512x128
  pos := pos

/-- Which part of a key block a step takes: all of it; all of it under the causal mask; its first half under the mask. -/
inductive Kind | full | diag | half

/-- The number of keys of such a step. -/
@[reducible] def Kind.keys : Kind → ℕ
  | .full => 512
  | .diag => 512
  | .half => 256

/-- One step: a key block's number, a head, a strip of queries, and the part of the block. -/
structure Item where
  blk : Fin 4
  h : Fin 2
  s : Fin 8
  kind : Kind

/-- The shape of the step's scores: keys by queries. -/
abbrev ST (n : ℕ) : Shape := ⟨2, ![n, 256]⟩

/-- Scores less the key's gate, all 512 keys. -/
def raw512 (B : Blk F) (h : Fin 2) (q : Vec F S1x256x128 .bf16) : FVec F S512x256 .f32 :=
  subf (matmul dot_S512x128_S256x128_S512x256_1_1_0_0_n_n none B.key (shapeCast S256x128 q shapeCasts_S1x256x128_S256x128) (constant S512x256 .f32 0x00000000#32))
    (broadcastTo S512x256 (B.gate h) broadcasts_S512x1_S512x256)

/-- Scores less the key's gate, the first 256 keys. -/
def raw256 (B : Blk F) (h : Fin 2) (q : Vec F S1x256x128 .bf16) : FVec F S256x256 .f32 :=
  subf (matmul dot_S256x128_S256x128_S256x256_1_1_0_0_n_n none (extractStridedSlice S256x128 ![0, 0] B.key slices_S512x128_o0_0_S256x128)
      (shapeCast S256x128 q shapeCasts_S1x256x128_S256x128) (constant S256x256 .f32 0x00000000#32))
    (broadcastTo S256x256 (extractStridedSlice S256x1 ![0, 0] (B.gate h) slices_S512x1_o0_0_S256x1) broadcasts_S256x1_S256x256)

/-- The causal mask: key `pos + row` at most query `2048·qb + 256·s + column`, the lowest value elsewhere. -/
def masked (n : ℕ) (i0 : (ST n).Iotas .tc 32 [0]) (i1 : (ST n).Iotas .tc 32 [1]) (pos qb : BitVec 32) (s : Fin 8) (t : FVec F (ST n) .f32) : FVec F (ST n) .f32 :=
  select (cmpi .sle (addi (broadcast (ST n) pos) (iota .tc (ST n) 32 [0] i0))
      (addi (broadcast (ST n) (Scalar.addi (Scalar.muli qb 2048#32) (BitVec.ofNat 32 (256 * s.val)))) (iota .tc (ST n) 32 [1] i1)))
    t (broadcast (ST n) (Named.named κ "neg_big" 0xF149F2CA#32))

/-- The step's scores. -/
def scores (qb : BitVec 32) (B : Blk F) (h : Fin 2) (s : Fin 8) (q : Vec F S1x256x128 .bf16) : (k : Kind) → FVec F (ST k.keys) .f32
  | .full => raw512 B h q
  | .diag => masked 512 iota_S512x256_d0_w32 iota_S512x256_d1_w32 B.pos qb s (raw512 B h q)
  | .half => masked 256 iota_S256x256_d0_w32 iota_S256x256_d1_w32 B.pos qb s (raw256 B h q)

/-- The step's values. -/
def vals (B : Blk F) (h : Fin 2) : (k : Kind) → FVec F ⟨2, ![80, k.keys]⟩ .bf16
  | .full => B.val h
  | .diag => B.val h
  | .half => extractStridedSlice S80x256 ![0, 0] (B.val h) slices_S80x512_o0_0_S80x256

theorem red (k : Kind) : (ST k.keys).Reduces [0] S256 := by
  cases k
  · exact reduces_S512x256_S256
  · exact reduces_S512x256_S256
  · exact reduces_S256x256_S256

theorem bcast (k : Kind) : S1x256.Broadcasts (ST k.keys) := by
  cases k
  · exact broadcasts_S1x256_S512x256
  · exact broadcasts_S1x256_S512x256
  · exact broadcasts_S1x256_S256x256

/-- Values times weights, of the step's number of keys. -/
def pv (k : Kind) (v : FVec F ⟨2, ![80, k.keys]⟩ .bf16) (p : FVec F (ST k.keys) .bf16) : FVec F S80x256 .f32 :=
  match k with
  | .full => matmul dot_S80x512_S512x256_S80x256_1_0_0_1_n_n none v p (constant S80x256 .f32 0x00000000#32)
  | .diag => matmul dot_S80x512_S512x256_S80x256_1_0_0_1_n_n none v p (constant S80x256 .f32 0x00000000#32)
  | .half => matmul dot_S80x256_S256x256_S80x256_1_0_0_1_n_n none v p (constant S80x256 .f32 0x00000000#32)

/-- The queries' gates, times 1/ln 2. -/
def qgate (c : Vec F S1x1x256 .f32) : FVec F S1x256 .f32 :=
  mulf (shapeCast S1x256 c shapeCasts_S1x1x256_S1x256) (broadcast S1x256 (Named.named κ "log2e" 0x3FB8AA3B#32))

/-- The running maximum after the step. -/
def newMax (k : Kind) (t : FVec F (ST k.keys) .f32) (c m : Vec F S1x1x256 .f32) : FVec F S1x256 .f32 :=
  maximumf (shapeCast S1x256 m shapeCasts_S1x1x256_S1x256)
    (addf (shapeCast S1x256 (multiReduction .maximumf [0] S256 t 0xFF800000#32 (red k) (.inl rfl) rfl) shapeCasts_S256_S1x256) (qgate c))

/-- The running sums after the step. -/
def newAcc (k : Kind) (t : FVec F (ST k.keys) .f32) (v : FVec F ⟨2, ![80, k.keys]⟩ .bf16) (c m : Vec F S1x1x256 .f32) (a : Vec F S1x80x256 .f32) : FVec F S80x256 .f32 :=
  addf (mulf (shapeCast S80x256 a shapeCasts_S1x80x256_S80x256)
      (broadcastTo S80x256 (exp2 (subf (shapeCast S1x256 m shapeCasts_S1x1x256_S1x256) (newMax k t c m))) broadcasts_S1x256_S80x256))
    (pv k v (exp2 (truncf .bf16 (subf t (broadcastTo (ST k.keys) (subf (newMax k t c m) (qgate c)) (bcast k))) bitsLt_bf16_f32)))

/-- The running maximum, in the shape it is stored at. -/
def outMax (k : Kind) (t : FVec F (ST k.keys) .f32) (c m : Vec F S1x1x256 .f32) : Vec F S1x1x256 .f32 :=
  shapeCast S1x1x256 (newMax k t c m) shapeCasts_S1x256_S1x1x256

/-- The running sums, in the shape they are stored at. -/
def outAcc (k : Kind) (t : FVec F (ST k.keys) .f32) (v : FVec F ⟨2, ![80, k.keys]⟩ .bf16) (c m : Vec F S1x1x256 .f32) (a : Vec F S1x80x256 .f32) : Vec F S1x80x256 .f32 :=
  shapeCast S1x80x256 (newAcc k t v c m a) shapeCasts_S80x256_S1x80x256

/-- The queries of one head: the lanes of the other head are zero. -/
def qmask (x : Vec F S1x2048x128 .bf16) (cond : IVec S2048x128 1) : Vec F S1x2048x128 .bf16 :=
  shapeCast S1x2048x128 (select cond (shapeCast S2048x128 x shapeCasts_S1x2048x128_S2048x128) (broadcast S2048x128 (Scalar.ofBits .bf16 0x0000#16)))
    shapeCasts_S2048x128_S1x2048x128

/-- The lanes below 64. -/
def lowLanes : IVec S2048x128 1 := cmpi .slt (iota .tc S2048x128 32 [1] iota_S2048x128_d1_w32) (broadcast S2048x128 64#32)
/-- The lanes from 64 on. -/
def highLanes : IVec S2048x128 1 := cmpi .sge (iota .tc S2048x128 32 [1] iota_S2048x128_d1_w32) (broadcast S2048x128 64#32)

/-- The running maxima at the start. -/
def maxInit : Vec F S2x1x2048 .f32 :=
  shapeCast S2x1x2048 (broadcast S2x1x2048 (Named.named κ "neg_big" 0xF149F2CA#32)) shapeCasts_S2x1x2048_S2x1x2048
/-- The running sums at the start. -/
def accInit : Vec F S2x80x2048 .f32 :=
  shapeCast S2x80x2048 (broadcast S2x80x2048 (Scalar.ofBits .f32 0x00000000#32)) shapeCasts_S2x80x2048_S2x80x2048

/-- One head's weighted sums over its sum of weights. -/
def normalize (a : Vec F S1x80x2048 .f32) : FVec F S64x2048 .f32 :=
  mulf (extractStridedSlice S64x2048 ![0, 0] (shapeCast S80x2048 a shapeCasts_S1x80x2048_S80x2048) slices_S80x2048_o0_0_S64x2048)
    (broadcastTo S64x2048 (divf (broadcast S1x2048 (Scalar.ofBits .f32 0x3F800000#32))
      (extractStridedSlice S1x2048 ![64, 0] (shapeCast S80x2048 a shapeCasts_S1x80x2048_S80x2048) slices_S80x2048_o64_0_S1x2048)) broadcasts_S1x2048_S64x2048)

/-- The block written out: both heads' results, a query's 128 numbers in a row. -/
def outBlock (a0 a1 : Vec F S1x80x2048 .f32) : Vec F S1x2048x128 .bf16 :=
  shapeCast S1x2048x128 (truncf .bf16 (transpose S2048x128 [1, 0]
    (concatenate S128x2048 0 [⟨S64x2048, normalize a0⟩, ⟨S64x2048, normalize a1⟩] concatenates_S64x2048_S64x2048_S128x2048_d0)
    transposes_S128x2048_p1_0_S2048x128) bitsLt_bf16_f32) shapeCasts_S2048x128_S1x2048x128

end Cert.KernelIdeal.Fox
-- ==== Proof.Fox.Program.lean ====
/-
  The kernel's memory operations, written once for every head, strip and key block: a step loads the strip's gates,
  running maximum and running sums and stores the new ones; the strips' queries are loaded four steps ahead. The printed
  body is this program.
-/
module

public import proofs.«01_k».proof.Proof.Fox.Payload

@[expose] public section

set_option maxRecDepth 65536

noncomputable section

namespace Cert.KernelIdeal.Fox

open Idealize.ShloMosaic Idealize.SL.Sem Cert.KernelIdeal Cert.KernelIdeal.Gen

variable {F : FTy → Type} [FloatOps F] [Named F]

/-- The kernel's buffers. -/
structure Mem where
  q : Memref sig .tc .vmem S1x2048x128 .bf16
  hq : q.IsWhole
  k : Memref sig .tc .vmem S1x8192x128 .bf16
  hk : k.IsWhole
  v : Memref sig .tc .vmem S1x128x8192 .bf16
  hv : v.IsWhole
  g : Memref sig .tc .vmem S1x8x2048 .f32
  hg : g.IsWhole
  c : Memref sig .tc .vmem S8192x128 .f32
  hc : c.IsWhole
  o : Memref sig .tc .vmem S1x2048x128 .bf16
  ho : o.IsWhole
  qs : Memref sig .tc .vmem S2x2048x128 .bf16
  hqs : qs.IsWhole
  m : Memref sig .tc .vmem S2x1x2048 .f32
  hm : m.IsWhole
  a : Memref sig .tc .vmem S2x80x2048 .f32
  ha : a.IsWhole

/-- A program of the kernel that returns nothing. -/
abbrev Pg (F : FTy → Type) := Prog (TpuEff nD τ sig (Elt F) Λ₀ .tc) Unit

theorem inb_qs (h : Fin 2) (s : Fin 8) : ∀ a, (![h.val, 256 * s.val, 0] : Fin 3 → ℕ) a + S1x256x128.size a ≤ S2x2048x128.size a := by
  have := h.isLt; have := s.isLt
  intro a; fin_cases a <;> simp [S1x256x128, S2x2048x128] <;> omega
theorem inb_g (h : Fin 2) (s : Fin 8) : ∀ a, (![0, h.val, 256 * s.val] : Fin 3 → ℕ) a + S1x1x256.size a ≤ S1x8x2048.size a := by
  have := h.isLt; have := s.isLt
  intro a; fin_cases a <;> simp [S1x1x256, S1x8x2048] <;> omega
theorem inb_m (h : Fin 2) (s : Fin 8) : ∀ a, (![h.val, 0, 256 * s.val] : Fin 3 → ℕ) a + S1x1x256.size a ≤ S2x1x2048.size a := by
  have := h.isLt; have := s.isLt
  intro a; fin_cases a <;> simp [S1x1x256, S2x1x2048] <;> omega
theorem inb_a (h : Fin 2) (s : Fin 8) : ∀ a, (![h.val, 0, 256 * s.val] : Fin 3 → ℕ) a + S1x80x256.size a ≤ S2x80x2048.size a := by
  have := h.isLt; have := s.isLt
  intro a; fin_cases a <;> simp [S1x80x256, S2x80x2048] <;> omega
theorem inb_ah (h : Fin 2) : ∀ a, (![h.val, 0, 0] : Fin 3 → ℕ) a + S1x80x2048.size a ≤ S2x80x2048.size a := by
  have := h.isLt
  intro a; fin_cases a <;> simp [S1x80x2048, S2x80x2048] <;> omega

/-- Load a strip of one head's queries. -/
def loadQ (X : Mem) (h : Fin 2) (s : Fin 8) (K : Vec F S1x256x128 .bf16 → Pg F) : Pg F :=
  .op (.load X.qs (Rect.unit (s := S2x2048x128) ![h.val, 256 * s.val, 0] S1x256x128.size (inb_qs h s)).toLoadRect (View.loadsAt_vmem h_S1x256x128)) K

/-- A step on the running maximum and sums of one head and strip. -/
def step (X : Mem) (h : Fin 2) (s : Fin 8) (k : Kind) (t : FVec F (ST k.keys) .f32) (v : FVec F ⟨2, ![80, k.keys]⟩ .bf16) (K : Pg F) : Pg F :=
  .op (.load X.g (Rect.unit (s := S1x8x2048) ![0, h.val, 256 * s.val] S1x1x256.size (inb_g h s)).toLoadRect (View.loadsAt_vmem h_S1x1x256)) fun c =>
  .op (.load X.m (Rect.unit (s := S2x1x2048) ![h.val, 0, 256 * s.val] S1x1x256.size (inb_m h s)).toLoadRect (View.loadsAt_vmem h_S1x1x256)) fun m =>
  .op (.load X.a (Rect.unit (s := S2x80x2048) ![h.val, 0, 256 * s.val] S1x80x256.size (inb_a h s)).toLoadRect (View.loadsAt_vmem h_S1x80x256)) fun a =>
  .op (.load X.a (Rect.unit (s := S2x80x2048) ![h.val, 0, 256 * s.val] S1x80x256.size (inb_a h s)).toLoadRect (View.loadsAt_vmem h_S1x80x256)) fun _ =>
  .op (.store X.a (Rect.unit (s := S2x80x2048) ![h.val, 0, 256 * s.val] S1x80x256.size (inb_a h s)) (outAcc k t v c m a) Finset.univ
    (View.stores_vmem_bits_univ h_S1x80x256 rfl) (.inl rfl)) fun _ =>
  .op (.load X.m (Rect.unit (s := S2x1x2048) ![h.val, 0, 256 * s.val] S1x1x256.size (inb_m h s)).toLoadRect (View.loadsAt_vmem h_S1x1x256)) fun _ =>
  .op (.store X.m (Rect.unit (s := S2x1x2048) ![h.val, 0, 256 * s.val] S1x1x256.size (inb_m h s)) (outMax k t c m) Finset.univ
    (View.stores_vmem_bits_univ h_S1x1x256 rfl) (.inl rfl)) fun _ => K

/-- The step of an item, from its strip's queries. -/
def item (X : Mem) (qb : BitVec 32) (B : Fin 4 → Blk F) (it : Item) (q : Vec F S1x256x128 .bf16) (K : Pg F) : Pg F :=
  step X it.h it.s it.kind (scores qb (B it.blk) it.h it.s q it.kind) (vals (B it.blk) it.h it.kind) K

/-- The steps of a list of items; `q0 … q3` are the queries of its first four, `ahead` the items whose queries are still to be loaded. -/
def go (X : Mem) (qb : BitVec 32) (B : Fin 4 → Blk F) (K : Pg F) : List Item → List Item →
    Vec F S1x256x128 .bf16 → Vec F S1x256x128 .bf16 → Vec F S1x256x128 .bf16 → Vec F S1x256x128 .bf16 → Pg F
  | [], _, _, _, _, _ => K
  | it :: its, [], q0, q1, q2, q3 => item X qb B it q0 (go X qb B K its [] q1 q2 q3 q3)
  | it :: its, nx :: ahead, q0, q1, q2, q3 =>
    loadQ X nx.h nx.s fun q4 => item X qb B it q0 (go X qb B K its ahead q1 q2 q3 q4)

/-- The steps of a list of at least four items. -/
def steps (X : Mem) (qb : BitVec 32) (B : Fin 4 → Blk F) (K : Pg F) : List Item → Pg F
  | i0 :: i1 :: i2 :: i3 :: its =>
    loadQ X i0.h i0.s fun q0 => loadQ X i1.h i1.s fun q1 => loadQ X i2.h i2.s fun q2 => loadQ X i3.h i3.s fun q3 =>
    go X qb B K (i0 :: i1 :: i2 :: i3 :: its) its q0 q1 q2 q3
  | _ => K

/-- Where the four key blocks of a step list lie, and their first keys' positions. -/
structure Place where
  oc : Fin 4 → Fin 2 → ℕ
  hc : ∀ r a, oc r a + S512x128.size a ≤ S8192x128.size a
  ov : Fin 4 → Fin 3 → ℕ
  hv : ∀ r a, ov r a + S1x64x512.size a ≤ S1x128x8192.size a
  ow : Fin 4 → Fin 3 → ℕ
  hw : ∀ r a, ow r a + S1x64x512.size a ≤ S1x128x8192.size a
  ok : Fin 4 → Fin 3 → ℕ
  hk : ∀ r a, ok r a + S1x512x128.size a ≤ S1x8192x128.size a
  pos : Fin 4 → BitVec 32

/-- Load one key block. -/
def loadBlk (X : Mem) (L : Place) (lane : IVec S512x128 32) (one : FVec F S16x512 .bf16) (p : BitVec 32) (r : Fin 4) (K : Blk F → Pg F) : Pg F :=
  .op (.load X.c (Rect.unit (s := S8192x128) (L.oc r) S512x128.size (L.hc r)).toLoadRect (View.loadsAt_vmem h_S512x128)) fun c =>
  .op (.load X.v (Rect.unit (s := S1x128x8192) (L.ov r) S1x64x512.size (L.hv r)).toLoadRect (View.loadsAt_vmem h_S1x64x512)) fun v0 =>
  .op (.load X.v (Rect.unit (s := S1x128x8192) (L.ow r) S1x64x512.size (L.hw r)).toLoadRect (View.loadsAt_vmem h_S1x64x512)) fun v1 =>
  .op (.load X.k (Rect.unit (s := S1x8192x128) (L.ok r) S1x512x128.size (L.hk r)).toLoadRect (View.loadsAt_vmem h_S1x512x128)) fun k =>
  K (mkBlk lane one p (L.pos r) c v0 v1 k)

/-- Load the four key blocks, then do the steps. -/
def blocks (X : Mem) (L : Place) (lane : IVec S512x128 32) (one : FVec F S16x512 .bf16) (p qb : BitVec 32) (its : List Item) (K : Pg F) : Pg F :=
  loadBlk X L lane one p 0 fun B0 => loadBlk X L lane one p 1 fun B1 => loadBlk X L lane one p 2 fun B2 => loadBlk X L lane one p 3 fun B3 =>
  steps X qb ![B0, B1, B2, B3] K its

/-- The items of a whole trip: every block, head and strip. -/
def tripItems : List Item :=
  [0, 1, 2, 3].flatMap fun b => [0, 1].flatMap fun h => [0, 1, 2, 3, 4, 5, 6, 7].map fun s => ⟨b, h, s, .full⟩

/-- The items of the last key blocks: block `b` meets strip `2b` by its first half, strip `2b + 1` under the mask, and the later ones whole. -/
def lastItems : List Item :=
  ([0, 1].flatMap fun h => ⟨0, h, 0, .half⟩ :: ⟨0, h, 1, .diag⟩ :: [2, 3, 4, 5, 6, 7].map fun s => ⟨0, h, s, .full⟩) ++
  ([0, 1].flatMap fun h => ⟨1, h, 2, .half⟩ :: ⟨1, h, 3, .diag⟩ :: [4, 5, 6, 7].map fun s => ⟨1, h, s, .full⟩) ++
  ([0, 1].flatMap fun h => ⟨2, h, 4, .half⟩ :: ⟨2, h, 5, .diag⟩ :: [6, 7].map fun s => ⟨2, h, s, .full⟩) ++
  ([0, 1].flatMap fun h => [⟨3, h, 6, .half⟩, ⟨3, h, 7, .diag⟩])

/-- The key blocks of trip `t` of the first loop. -/
def place1 (i : grid0.Coords) (t : Fin (k0_t1_loop i).trips) : Place where
  oc r := k0_off1 i t (BitVec.ofNat 32 r.val)
  hc r := k0_off1_inb i t r
  ov r := k0_off2 i t (BitVec.ofNat 32 r.val)
  hv r := k0_off2_inb i t r
  ow r := k0_off3 i t (BitVec.ofNat 32 r.val)
  hw r := k0_off3_inb i t r
  ok r := k0_off4 i t (BitVec.ofNat 32 r.val)
  hk r := k0_off4_inb i t r
  pos _ := 0#32

/-- The key blocks of trip `t` of the second loop. -/
def place2 (i : grid0.Coords) (t : Fin (k0_t2_loop i).trips) : Place where
  oc r := k0_off5 i t (BitVec.ofNat 32 r.val)
  hc r := k0_off5_inb i t r
  ov r := k0_off6 i t (BitVec.ofNat 32 r.val)
  hv r := k0_off6_inb i t r
  ow r := k0_off7 i t (BitVec.ofNat 32 r.val)
  hw r := k0_off7_inb i t r
  ok r := k0_off8 i t (BitVec.ofNat 32 r.val)
  hk r := k0_off8_inb i t r
  pos _ := 0#32

/-- The last four key blocks, those of the queries themselves; `b` is the first one's number. -/
def place3 (i : grid0.Coords) (b : BitVec 32) : Place where
  oc r := k0_off9 i (BitVec.ofNat 32 r.val)
  hc r := k0_off9_inb i r
  ov r := k0_off10 i (BitVec.ofNat 32 r.val)
  hv r := k0_off10_inb i r
  ow r := k0_off11 i (BitVec.ofNat 32 r.val)
  hw r := k0_off11_inb i r
  ok r := k0_off12 i (BitVec.ofNat 32 r.val)
  hk r := k0_off12_inb i r
  pos r := Scalar.muli (Scalar.addi b (BitVec.ofNat 32 r.val)) 512#32

/-- The result is written out. -/
def finish (X : Mem) : Pg F :=
  .op (.load X.a (Rect.unit (s := S2x80x2048) ![0, 0, 0] S1x80x2048.size inb_S2x80x2048_S1x80x2048_0_0_0).toLoadRect (View.loadsAt_vmem h_S1x80x2048)) fun a0 =>
  .op (.load X.a (Rect.unit (s := S2x80x2048) ![1, 0, 0] S1x80x2048.size inb_S2x80x2048_S1x80x2048_1_0_0).toLoadRect (View.loadsAt_vmem h_S1x80x2048)) fun a1 =>
  .op (.load X.o (Rect.unit (s := S1x2048x128) ![0, 0, 0] S1x2048x128.size inb_S1x2048x128_S1x2048x128_0_0_0).toLoadRect (View.loadsAt_vmem h_S1x2048x128)) fun _ =>
  .op (.store X.o (Rect.unit (s := S1x2048x128) ![0, 0, 0] S1x2048x128.size inb_S1x2048x128_S1x2048x128_0_0_0) (outBlock a0 a1) Finset.univ
    (View.stores_vmem h_S1x2048x128 (X.ho.storeExact_slice rfl _ packedbf16_S1x2048x128_S1x2048x128_0_0_0) (fun _ => rfl)) (.inl rfl)) fun _ => .ret ⟨⟩

/-- The scratch buffers are set up: each head's queries with the other head's lanes zeroed, the running maxima and sums. -/
def start (X : Mem) (K : Pg F) : Pg F :=
  .op (.load X.q (Rect.unit (s := S1x2048x128) ![0, 0, 0] S1x2048x128.size inb_S1x2048x128_S1x2048x128_0_0_0).toLoadRect (View.loadsAt_vmem h_S1x2048x128)) fun x =>
  .op (.load X.qs (Rect.unit (s := S2x2048x128) ![0, 0, 0] S1x2048x128.size inb_S2x2048x128_S1x2048x128_0_0_0).toLoadRect (View.loadsAt_vmem h_S1x2048x128)) fun _ =>
  .op (.store X.qs (Rect.unit (s := S2x2048x128) ![0, 0, 0] S1x2048x128.size inb_S2x2048x128_S1x2048x128_0_0_0) (qmask x lowLanes) Finset.univ
    (View.stores_vmem h_S1x2048x128 (X.hqs.storeExact_slice rfl _ packedbf16_S2x2048x128_S1x2048x128_0_0_0) (fun _ => rfl)) (.inl rfl)) fun _ =>
  .op (.load X.qs (Rect.unit (s := S2x2048x128) ![1, 0, 0] S1x2048x128.size inb_S2x2048x128_S1x2048x128_1_0_0).toLoadRect (View.loadsAt_vmem h_S1x2048x128)) fun _ =>
  .op (.store X.qs (Rect.unit (s := S2x2048x128) ![1, 0, 0] S1x2048x128.size inb_S2x2048x128_S1x2048x128_1_0_0) (qmask x highLanes) Finset.univ
    (View.stores_vmem h_S1x2048x128 (X.hqs.storeExact_slice rfl _ packedbf16_S2x2048x128_S1x2048x128_1_0_0) (fun _ => rfl)) (.inl rfl)) fun _ =>
  .op (.load X.m (Rect.unit (s := S2x1x2048) ![0, 0, 0] S2x1x2048.size inb_S2x1x2048_S2x1x2048_0_0_0).toLoadRect (View.loadsAt_vmem h_S2x1x2048)) fun _ =>
  .op (.store X.m (Rect.unit (s := S2x1x2048) ![0, 0, 0] S2x1x2048.size inb_S2x1x2048_S2x1x2048_0_0_0) maxInit Finset.univ (View.stores_vmem_bits_univ h_S2x1x2048 rfl) (.inl rfl)) fun _ =>
  .op (.load X.a (Rect.unit (s := S2x80x2048) ![0, 0, 0] S2x80x2048.size inb_S2x80x2048_S2x80x2048_0_0_0).toLoadRect (View.loadsAt_vmem h_S2x80x2048)) fun _ =>
  .op (.store X.a (Rect.unit (s := S2x80x2048) ![0, 0, 0] S2x80x2048.size inb_S2x80x2048_S2x80x2048_0_0_0) accInit Finset.univ (View.stores_vmem_bits_univ h_S2x80x2048 rfl) (.inl rfl)) fun _ => K

end Cert.KernelIdeal.Fox
-- ==== Proof.Fox.State.lean ====
/-
  What the kernel computes, as a function of the blocks it is given: the steps act on the pair of the running maxima and
  the running sums.
-/
module

public import proofs.«01_k».proof.Proof.Fox.Program

@[expose] public section

noncomputable section

namespace Cert.KernelIdeal.Fox

open Idealize.ShloMosaic Idealize.SL.Sem Cert.KernelIdeal Cert.KernelIdeal.Gen

variable {F : FTy → Type} [FloatOps F] [Named F]

/-- The blocks a grid point is given: queries, keys, values, the queries' gates and the keys'. -/
structure Ins (F : FTy → Type) where
  q : Vec F S1x2048x128 .bf16
  k : Vec F S1x8192x128 .bf16
  v : Vec F S1x128x8192 .bf16
  g : Vec F S1x8x2048 .f32
  c : Vec F S8192x128 .f32

/-- The running maxima and the running sums. -/
structure Run (F : FTy → Type) where
  m : Vec F S2x1x2048 .f32
  a : Vec F S2x80x2048 .f32

/-- A strip of one head's queries. -/
def strip (qs : Vec F S2x2048x128 .bf16) (h : Fin 2) (s : Fin 8) : Vec F S1x256x128 .bf16 :=
  VecWindow.window qs ![h.val, 256 * s.val, 0] S1x256x128.size (inb_qs h s)
/-- A strip of one head's gates. -/
def gAt (g : Vec F S1x8x2048 .f32) (h : Fin 2) (s : Fin 8) : Vec F S1x1x256 .f32 :=
  VecWindow.window g ![0, h.val, 256 * s.val] S1x1x256.size (inb_g h s)
/-- A strip of one head's running maxima. -/
def mAt (m : Vec F S2x1x2048 .f32) (h : Fin 2) (s : Fin 8) : Vec F S1x1x256 .f32 :=
  VecWindow.window m ![h.val, 0, 256 * s.val] S1x1x256.size (inb_m h s)
/-- A strip of one head's running sums. -/
def aAt (a : Vec F S2x80x2048 .f32) (h : Fin 2) (s : Fin 8) : Vec F S1x80x256 .f32 :=
  VecWindow.window a ![h.val, 0, 256 * s.val] S1x80x256.size (inb_a h s)

/-- A step's effect. -/
def stepRun (g : Vec F S1x8x2048 .f32) (h : Fin 2) (s : Fin 8) (k : Kind) (t : FVec F (ST k.keys) .f32) (v : FVec F ⟨2, ![80, k.keys]⟩ .bf16) (r : Run F) : Run F where
  m := VecWindow.put r.m ![h.val, 0, 256 * s.val] S1x1x256.size (outMax k t (gAt g h s) (mAt r.m h s))
  a := VecWindow.put r.a ![h.val, 0, 256 * s.val] S1x80x256.size (outAcc k t v (gAt g h s) (mAt r.m h s) (aAt r.a h s))

/-- An item's effect. -/
def itemRun (g : Vec F S1x8x2048 .f32) (qs : Vec F S2x2048x128 .bf16) (qb : BitVec 32) (B : Fin 4 → Blk F) (r : Run F) (it : Item) : Run F :=
  stepRun g it.h it.s it.kind (scores qb (B it.blk) it.h it.s (strip qs it.h it.s) it.kind) (vals (B it.blk) it.h it.kind) r

/-- The key blocks at a place. -/
def blkAt (x : Ins F) (L : Place) (lane : IVec S512x128 32) (one : FVec F S16x512 .bf16) (p : BitVec 32) (r : Fin 4) : Blk F :=
  mkBlk lane one p (L.pos r) (VecWindow.window x.c (L.oc r) S512x128.size (L.hc r)) (VecWindow.window x.v (L.ov r) S1x64x512.size (L.hv r))
    (VecWindow.window x.v (L.ow r) S1x64x512.size (L.hw r)) (VecWindow.window x.k (L.ok r) S1x512x128.size (L.hk r))

/-- The effect of four key blocks. -/
def blocksRun (x : Ins F) (qs : Vec F S2x2048x128 .bf16) (L : Place) (lane : IVec S512x128 32) (one : FVec F S16x512 .bf16) (p qb : BitVec 32) (its : List Item) (r : Run F) : Run F :=
  its.foldl (itemRun x.g qs qb (blkAt x L lane one p)) r

/-- The lane numbers. -/
def laneIota : IVec S512x128 32 := iota .tc S512x128 32 [1] iota_S512x128_d1_w32
/-- The rows of ones. -/
def oneRows : FVec F S16x512 .bf16 := broadcast S16x512 (Scalar.ofBits .bf16 0x3F80#16)

/-- Both heads' queries, the other head's lanes zeroed. -/
def qsOf (old : Vec F S2x2048x128 .bf16) (q : Vec F S1x2048x128 .bf16) : Vec F S2x2048x128 .bf16 :=
  VecWindow.put (VecWindow.put old ![0, 0, 0] S1x2048x128.size (qmask q lowLanes)) ![1, 0, 0] S1x2048x128.size (qmask q highLanes)

/-- The state after `n` trips of the first loop. -/
def after1 (x : Ins F) (qs : Vec F S2x2048x128 .bf16) (i : grid0.Coords) : ℕ → Run F
  | 0 => ⟨maxInit, accInit⟩
  | n + 1 => if h : n < (k0_t1_loop i).trips then
      blocksRun x qs (place1 i ⟨n, h⟩) laneIota oneRows (BitVec.ofNat 32 (i 1).val) 0#32 tripItems (after1 x qs i n)
    else after1 x qs i n

/-- The state after the last key blocks. -/
def lastRun (x : Ins F) (qs : Vec F S2x2048x128 .bf16) (i : grid0.Coords) : Run F :=
  blocksRun x qs (place3 i (Scalar.muli (BitVec.ofNat 32 (i 2).val) 4#32)) laneIota oneRows (BitVec.ofNat 32 (i 1).val) (BitVec.ofNat 32 (i 2).val) lastItems
    (after1 x qs i (k0_t1_loop i).trips)

/-- The block written out from the running sums. -/
def outOf (a : Vec F S2x80x2048 .f32) : Vec F S1x2048x128 .bf16 :=
  outBlock (VecWindow.window a ![0, 0, 0] S1x80x2048.size inb_S2x80x2048_S1x80x2048_0_0_0) (VecWindow.window a ![1, 0, 0] S1x80x2048.size inb_S2x80x2048_S1x80x2048_1_0_0)

/-- Both heads' queries over nothing: the whole buffer is written. -/
def qsNew (q : Vec F S1x2048x128 .bf16) : Vec F S2x2048x128 .bf16 := qsOf (fun _ => Scalar.ofBits .bf16 0x0000#16) q

/-- What was in the buffer does not matter. -/
theorem qsOf_eq (old : Vec F S2x2048x128 .bf16) (q : Vec F S1x2048x128 .bf16) : qsOf old q = qsNew q := by
  funext y
  unfold qsNew qsOf VecWindow.put
  by_cases h1 : ∀ a, (![1, 0, 0] : Fin 3 → ℕ) a ≤ (y a).val ∧ (y a).val < (![1, 0, 0] : Fin 3 → ℕ) a + S1x2048x128.size a
  · rw [dif_pos h1, dif_pos h1]
  · rw [dif_neg h1, dif_neg h1]
    by_cases h0 : ∀ a, (![0, 0, 0] : Fin 3 → ℕ) a ≤ (y a).val ∧ (y a).val < (![0, 0, 0] : Fin 3 → ℕ) a + S1x2048x128.size a
    · rw [dif_pos h0, dif_pos h0]
    · exfalso
      have b0 : (y 0).val < 2 := (y 0).isLt
      have b1 : (y 1).val < 2048 := (y 1).isLt
      have b2 : (y 2).val < 128 := (y 2).isLt
      rcases Nat.lt_or_ge (y 0).val 1 with h | h
      · exact h0 fun a => by
          fin_cases a <;> simp [S1x2048x128] <;> omega
      · exact h1 fun a => by
          fin_cases a <;> simp [S1x2048x128] <;> omega

/-- The block a grid point writes out. -/
def result (x : Ins F) (i : grid0.Coords) : Vec F S1x2048x128 .bf16 := outOf (lastRun x (qsNew x.q) i).a

/-- The first loop has as many trips as the query block's number. -/
theorem trips1 (i : grid0.Coords) : (k0_t1_loop i).trips = (i 2).val := by
  have h : (i 2).val < 4 := (i 2).isLt
  unfold k0_t1_loop Scf.Loop.trips
  dsimp only
  generalize (i 2).val = n at h ⊢
  interval_cases n <;> decide

/-- The second loop has no trips. -/
theorem trips2 (i : grid0.Coords) : (k0_t2_loop i).trips = 0 := by
  have h : (i 2).val < 4 := (i 2).isLt
  unfold k0_t2_loop Scf.Loop.trips
  dsimp only
  generalize (i 2).val = n at h ⊢
  interval_cases n <;> decide

end Cert.KernelIdeal.Fox
-- ==== Proof.Fox.Read.lean ====
/-
  The kernel's vectors read at an index, over the extended reals.
-/
module

public import proofs.«01_k».proof.Proof.Fox.State
public import Idealize.ShloMosaic.Lib.Pointwise
public import Idealize.ShloMosaic.Lib.WordCmp

@[expose] public section

set_option maxRecDepth 16384

noncomputable section

namespace Cert.KernelIdeal.Fox

open Idealize.ShloMosaic Idealize.SL.Sem Cert.KernelIdeal Cert.KernelIdeal.Gen

/-- 1/ln 2, by which the gates are multiplied. -/
def lam : ℝ := (Real.log 2)⁻¹

theorem log2e_eq : Named.named (F := Ideal) κ "log2e" (φ := .f32) 0x3FB8AA3B#32 = ((lam : ℝ) : EReal) := rfl
theorem neg_big_eq : Named.named (F := Ideal) κ "neg_big" (φ := .f32) 0xF149F2CA#32 = (⊥ : EReal) := rfl
theorem negInf_eq : Ideal.ofBits .f32 0xFF800000#32 = (⊥ : EReal) := by
  simp [Ideal.ofBits, Ideal.ieee]

/-- A query of a strip, as a query of the block. -/
def qAt (s : Fin 8) (j : Fin 256) : Fin 2048 := ⟨256 * s.val + j.val, by have := s.isLt; have := j.isLt; omega⟩

theorem raw512_apply (B : Blk Ideal) (h : Fin 2) (q : Vec Ideal S1x256x128 .bf16) (k : Fin 512) (j : Fin 256) :
    raw512 B h q (ix2 k j) = ∑ l : Fin 128, B.key (ix2 k l) * q (ix3 0 j l) - B.gate h (ix2 k 0) := by
  pointwise [raw512]

theorem raw256_apply (B : Blk Ideal) (h : Fin 2) (q : Vec Ideal S1x256x128 .bf16) (k : Fin 256) (j : Fin 256) :
    raw256 B h q (ix2 k j) = ∑ l : Fin 128, B.key (ix2 ⟨k.val, by omega⟩ l) * q (ix3 0 j l) - B.gate h (ix2 ⟨k.val, by omega⟩ 0) := by
  pointwise [raw256]

/-- Adding two positions below 2¹⁶, as words. -/
theorem add_word (a b : ℕ) : IntOp.addi (BitVec.ofNat 32 a) (BitVec.ofNat 32 b) = BitVec.ofNat 32 (a + b) := (BitVec.ofNat_add a b).symm

/-- The masks' comparison of a key's position with a query's. -/
theorem mask_word (n x i s j : ℕ) (hx : n + x < 2 ^ 31) (hj : i * 2048 + 256 * s + j < 2 ^ 31) :
    IntOp.cmpi .sle (IntOp.addi (BitVec.ofNat 32 n) (BitVec.ofNat 32 x))
      (IntOp.addi (Scalar.addi (Scalar.muli (BitVec.ofNat 32 i) 2048#32) (BitVec.ofNat 32 (256 * s))) (BitVec.ofNat 32 j))
      = BitVec.ofBool (decide (n + x ≤ i * 2048 + 256 * s + j)) := by
  have e : Scalar.addi (Scalar.muli (BitVec.ofNat 32 i) 2048#32) (BitVec.ofNat 32 (256 * s)) = BitVec.ofNat 32 (i * 2048 + 256 * s) := by
    show BitVec.ofNat 32 i * BitVec.ofNat 32 2048 + _ = _
    rw [← BitVec.ofNat_mul, ← BitVec.ofNat_add]
  rw [e, add_word, add_word, WordCmp.cmpi_sle_ofNat (by simpa using hx) (by simpa using hj)]

theorem masked512_apply (n i : ℕ) (s : Fin 8) (t : FVec Ideal (ST 512) .f32) (k : Fin 512) (j : Fin 256) (hn : n + 512 ≤ 2 ^ 31) (hi : i < 4) :
    masked 512 iota_S512x256_d0_w32 iota_S512x256_d1_w32 (BitVec.ofNat 32 n) (BitVec.ofNat 32 i) s t (ix2 k j)
      = if n + k.val ≤ 2048 * i + (qAt s j).val then t (ix2 k j) else ⊥ := by
  pointwise [masked]
  rw [mask_word n k.val i s.val j.val (by omega) (by omega), WordCmp.select_ofBool, neg_big_eq]
  refine if_congr ?_ rfl rfl
  simp only [decide_eq_true_eq, qAt]; omega

theorem masked256_apply (n i : ℕ) (s : Fin 8) (t : FVec Ideal (ST 256) .f32) (k : Fin 256) (j : Fin 256) (hn : n + 512 ≤ 2 ^ 31) (hi : i < 4) :
    masked 256 iota_S256x256_d0_w32 iota_S256x256_d1_w32 (BitVec.ofNat 32 n) (BitVec.ofNat 32 i) s t (ix2 k j)
      = if n + k.val ≤ 2048 * i + (qAt s j).val then t (ix2 k j) else ⊥ := by
  pointwise [masked]
  rw [mask_word n k.val i s.val j.val (by omega) (by omega), WordCmp.select_ofBool, neg_big_eq]
  refine if_congr ?_ rfl rfl
  simp only [decide_eq_true_eq, qAt]; omega

theorem gate_apply (p : ℕ) (hp : p < 8) (c : Vec Ideal S512x128 .f32) (h : Fin 2) (k : Fin 512) :
    gate laneIota (BitVec.ofNat 32 p) c h (ix2 k 0) = c (ix2 k ⟨16 + 2 * p + h.val, by omega⟩) * ((lam : ℝ) : EReal) := by
  pointwise [gate, laneIota]
  rw [log2e_eq]
  congr 1
  have e : Scalar.addi (Scalar.addi (16#32) (Scalar.muli (2#32) (BitVec.ofNat 32 p))) (BitVec.ofNat 32 h.val) = BitVec.ofNat 32 (16 + 2 * p + h.val) := by
    rw [BitVec.ofNat_add, BitVec.ofNat_add, BitVec.ofNat_mul]; rfl
  rw [e, Finset.sum_eq_single_of_mem (⟨16 + 2 * p + h.val, by omega⟩ : Fin 128) (Finset.mem_univ _)]
  · rw [WordCmp.cmpi_eq_eq, decide_eq_true rfl]; rfl
  · intro l _ hl
    rw [WordCmp.cmpi_eq_eq, decide_eq_false, WordCmp.select_ofBool]
    · rfl
    · intro he
      have := congrArg BitVec.toNat he
      simp only [BitVec.toNat_ofNat] at this
      exact hl (Fin.ext (by have := l.isLt; show l.val = 16 + 2 * p + h.val; omega))

theorem qmask_low (x : Vec Ideal S1x2048x128 .bf16) (j : Fin 2048) (l : Fin 128) :
    qmask x lowLanes (ix3 0 j l) = if l.val < 64 then x (ix3 0 j l) else 0 := by
  pointwise [qmask, lowLanes]
  rw [show (64#32 : BitVec 32) = BitVec.ofNat 32 64 from rfl, WordCmp.cmpi_slt_ofNat (by have := l.isLt; omega) (by omega), WordCmp.select_ofBool]
  simp only [decide_eq_true_eq]

theorem qmask_high (x : Vec Ideal S1x2048x128 .bf16) (j : Fin 2048) (l : Fin 128) :
    qmask x highLanes (ix3 0 j l) = if 64 ≤ l.val then x (ix3 0 j l) else 0 := by
  pointwise [qmask, highLanes]
  rw [show (64#32 : BitVec 32) = BitVec.ofNat 32 64 from rfl, WordCmp.cmpi_sge_ofNat (by have := l.isLt; omega) (by omega), WordCmp.select_ofBool]
  simp only [decide_eq_true_eq]

theorem onesBelow_apply (v : Vec Ideal S1x64x512 .bf16) (r : Fin 80) (k : Fin 512) :
    onesBelow oneRows v (ix2 r k) = if h : r.val < 64 then v (ix3 0 ⟨r.val, h⟩ k) else 1 := by
  pointwise [onesBelow, oneRows]

theorem newMax_apply (k : Kind) (t : FVec Ideal (ST k.keys) .f32) (c m : Vec Ideal S1x1x256 .f32) (j : Fin 256) :
    newMax k t c m (ix2 0 j) = max (m (ix3 0 0 j)) ((Finset.univ : Finset (Fin k.keys)).fold max ⊥ (fun x => t (ix2 x j)) + c (ix3 0 0 j) * ((lam : ℝ) : EReal)) := by
  rw [← negInf_eq, ← log2e_eq]
  cases k
  · pointwise [newMax, qgate]
  · pointwise [newMax, qgate]
  · pointwise [newMax, qgate]

theorem newAcc_apply (k : Kind) (t : FVec Ideal (ST k.keys) .f32) (v : FVec Ideal ⟨2, ![80, k.keys]⟩ .bf16) (c m : Vec Ideal S1x1x256 .f32) (a : Vec Ideal S1x80x256 .f32)
    (r : Fin 80) (j : Fin 256) :
    newAcc k t v c m a (ix2 r j) = a (ix3 0 r j) * Ideal.exp2 (m (ix3 0 0 j) - newMax k t c m (ix2 0 j))
      + ∑ x : Fin k.keys, v (ix2 r x) * Ideal.exp2 (t (ix2 x j) - (newMax k t c m (ix2 0 j) - c (ix3 0 0 j) * ((lam : ℝ) : EReal))) := by
  rw [← log2e_eq]
  cases k
  · pointwise [newAcc, pv, qgate]
    rfl
  · pointwise [newAcc, pv, qgate]
    rfl
  · pointwise [newAcc, pv, qgate]
    rfl

theorem outMax_apply (k : Kind) (t : FVec Ideal (ST k.keys) .f32) (c m : Vec Ideal S1x1x256 .f32) (j : Fin 256) : outMax k t c m (ix3 0 0 j) = newMax k t c m (ix2 0 j) := by
  pointwise [outMax]

theorem outAcc_apply (k : Kind) (t : FVec Ideal (ST k.keys) .f32) (v : FVec Ideal ⟨2, ![80, k.keys]⟩ .bf16) (c m : Vec Ideal S1x1x256 .f32) (a : Vec Ideal S1x80x256 .f32)
    (r : Fin 80) (j : Fin 256) : outAcc k t v c m a (ix3 0 r j) = newAcc k t v c m a (ix2 r j) := by
  pointwise [outAcc]

theorem maxInit_apply (h : Fin 2) (j : Fin 2048) : maxInit (F := Ideal) (ix3 h 0 j) = (⊥ : EReal) := by
  pointwise [maxInit]
  rfl

theorem accInit_apply (h : Fin 2) (r : Fin 80) (j : Fin 2048) : accInit (F := Ideal) (ix3 h r j) = (0 : EReal) := by
  pointwise [accInit]

theorem outBlock_apply (a0 a1 : Vec Ideal S1x80x2048 .f32) (h : Fin 2) (j : Fin 2048) (d : Fin 64) :
    outBlock a0 a1 (ix3 0 j ⟨64 * h.val + d.val, by omega⟩)
      = (![a0, a1] h : Vec Ideal S1x80x2048 .f32) (ix3 0 ⟨d.val, by omega⟩ j) * Ideal.div 1 ((![a0, a1] h : Vec Ideal S1x80x2048 .f32) (ix3 0 64 j)) := by
  have hd := d.isLt
  pointwise [outBlock, normalize]
  rcases (show h = 0 ∨ h = 1 by omega) with rfl | rfl
  · rw [dif_pos (by simp)]
    simp
  · rw [dif_neg (by simp)]
    simp

end Cert.KernelIdeal.Fox
-- ==== Proof.Fox.Online.lean ====
/-
  The running softmax over the extended reals. The weights of a column's keys are powers of two of real exponents; the
  values they weigh may be any extended reals. A block of keys takes the sums over the first `n` keys, scaled by the
  running maximum, to the sums over the first `n + K`; at the end the quotient no longer depends on the maximum.
-/
module

public import Mathlib.Data.EReal.Operations
public import Mathlib.Analysis.SpecialFunctions.Pow.Real
public import Idealize.ShloMosaic.PureOps.Ideal

@[expose] public section

noncomputable section

namespace Cert.Fox

open Idealize.ShloMosaic Finset

/-- Softmax attention of one query at position `J` with exponents `U` to the base two: the first `J + 1` values, each
    weighted by its power of two over the sum of the powers. -/
def attn (U : ℕ → ℝ) (v : ℕ → EReal) (J : ℕ) : EReal :=
  ∑ t ∈ range (J + 1), v t * (((2 : ℝ) ^ U t / ∑ t' ∈ range (J + 1), (2 : ℝ) ^ U t' : ℝ) : EReal)

/-- A finite factor that is not negative goes into a sum. -/
theorem sum_mul_real {ι : Type} (s : Finset ι) (f : ι → EReal) {r : ℝ} (hr : 0 ≤ r) : (∑ t ∈ s, f t) * (r : EReal) = ∑ t ∈ s, f t * (r : EReal) := by
  classical
  induction s using Finset.induction_on with
  | empty => simp
  | insert a s ha ih =>
    rw [sum_insert ha, sum_insert ha, EReal.right_distrib_of_nonneg_of_ne_top (by exact_mod_cast hr) (EReal.coe_ne_top r), ih]

/-- A sum of reals is real. -/
theorem sum_coe {ι : Type} (s : Finset ι) (f : ι → ℝ) : (∑ t ∈ s, (f t : EReal)) = ((∑ t ∈ s, f t : ℝ) : EReal) := by
  classical
  induction s using Finset.induction_on with
  | empty => simp
  | insert a s ha ih => rw [sum_insert ha, sum_insert ha, ih, EReal.coe_add]

/-- A key's weight against the maximum `M`, zero for a key after the query. -/
def wt (U : ℕ → ℝ) (J : ℕ) (M : ℝ) (t : ℕ) : ℝ := if t ≤ J then (2 : ℝ) ^ (U t - M) else 0

theorem wt_nonneg (U : ℕ → ℝ) (J : ℕ) (M : ℝ) (t : ℕ) : 0 ≤ wt U J M t := by
  unfold wt; split
  · exact (Real.rpow_pos_of_pos two_pos _).le
  · exact le_rfl

/-- Against another maximum the weight is scaled. -/
theorem wt_scale (U : ℕ → ℝ) (J : ℕ) (M M' : ℝ) (t : ℕ) : wt U J M t * (2 : ℝ) ^ (M - M') = wt U J M' t := by
  unfold wt; split
  · rw [← Real.rpow_add two_pos]; congr 1; ring
  · exact zero_mul _

/-- A column's state after its first `n` keys: nothing yet, or a finite maximum and the sums of each row's values weighted against it. -/
def Col {R : Type} (U : ℕ → ℝ) (v : R → ℕ → EReal) (J n : ℕ) (m : EReal) (a : R → EReal) : Prop :=
  (n = 0 ∧ m = ⊥ ∧ ∀ r, a r = 0) ∨ ∃ M : ℝ, m = (M : EReal) ∧ ∀ r, a r = ∑ t ∈ range n, v r t * ((wt U J M t : ℝ) : EReal)

/-- The maximum of scores that are real for the visible keys and lowest for the others is real, the first key being visible. -/
theorem fold_real {K : ℕ} (hK : 0 < K) (T : Fin K → EReal) (D : ℕ → ℝ) (J n : ℕ) (hn : n ≤ J) (hT : ∀ x : Fin K, T x = if n + x.val ≤ J then (D (n + x.val) : EReal) else ⊥) :
    ∃ R : ℝ, (univ : Finset (Fin K)).fold max ⊥ T = (R : EReal) := by
  have hlt : (univ : Finset (Fin K)).fold max ⊥ T < ⊤ := by
    rw [fold_max_lt]
    refine ⟨bot_lt_top, fun x _ => ?_⟩
    rw [hT]; split
    · exact EReal.coe_lt_top _
    · exact bot_lt_top
  have hge : ((D n : ℝ) : EReal) ≤ (univ : Finset (Fin K)).fold max ⊥ T := by
    rw [le_fold_max]
    refine Or.inr ⟨⟨0, hK⟩, mem_univ _, ?_⟩
    rw [hT, if_pos (by simpa using hn)]
    simp
  have hbot : (univ : Finset (Fin K)).fold max ⊥ T ≠ ⊥ := fun h => by
    rw [h] at hge; exact absurd hge (not_le.mpr (EReal.bot_lt_coe _))
  exact ⟨_, (EReal.coe_toReal hlt.ne hbot).symm⟩

/-- A block of keys. -/
theorem Col.step {R : Type} {U D : ℕ → ℝ} {v : R → ℕ → EReal} {J n K : ℕ} {m : EReal} {a : R → EReal} (h : Col U v J n m a) (hK : 0 < K) (hn : n ≤ J)
    (C : ℝ) (hU : ∀ t, U t = D t + C) (T : Fin K → EReal) (hT : ∀ x : Fin K, T x = if n + x.val ≤ J then (D (n + x.val) : EReal) else ⊥)
    {m' : EReal} {a' : R → EReal} (hm' : m' = max m ((univ : Finset (Fin K)).fold max ⊥ T + (C : EReal)))
    (ha' : ∀ r, a' r = a r * Ideal.exp2 (m - m') + ∑ x : Fin K, v r (n + x.val) * Ideal.exp2 (T x - (m' - (C : EReal)))) :
    Col U v J (n + K) m' a' := by
  obtain ⟨R, hR⟩ := fold_real hK T D J n hn hT
  rw [hR, ← EReal.coe_add] at hm'
  obtain ⟨M', hM'⟩ : ∃ M' : ℝ, m' = (M' : EReal) := by
    rcases h with ⟨_, hb, _⟩ | ⟨M, hM, _⟩
    · exact ⟨R + C, by rw [hm', hb, max_eq_right bot_le]⟩
    · exact ⟨max M (R + C), by rw [hm', hM]; exact (EReal.coe_strictMono.monotone.map_max).symm⟩
  refine Or.inr ⟨M', hM', fun r => ?_⟩
  have hsum : ∑ x : Fin K, v r (n + x.val) * Ideal.exp2 (T x - (m' - (C : EReal))) = ∑ x ∈ range K, v r (n + x) * ((wt U J M' (n + x) : ℝ) : EReal) := by
    rw [← Fin.sum_univ_eq_sum_range (fun x => v r (n + x) * ((wt U J M' (n + x) : ℝ) : EReal))]
    refine sum_congr rfl fun x _ => ?_
    congr 1
    rw [hT, hM']
    unfold wt
    split
    · rw [← EReal.coe_sub, ← EReal.coe_sub, Ideal.exp2_coe, hU]
      show ((((2 : ℝ) ^ (_ : ℝ) : ℝ)) : EReal) = _
      congr 2; ring
    · rw [← EReal.coe_sub, EReal.bot_sub, Ideal.exp2_bot, EReal.coe_zero]
  rw [ha', hsum, sum_range_add]
  congr 1
  rcases h with ⟨h0, _, hz⟩ | ⟨M, hM, hs⟩
  · rw [hz, h0]; simp
  · rw [hs, hM, hM', ← EReal.coe_sub, Ideal.exp2_coe]
    show _ * ((((2 : ℝ) ^ (M - M') : ℝ)) : EReal) = _
    rw [sum_mul_real _ _ (Real.rpow_pos_of_pos two_pos _).le]
    refine sum_congr rfl fun t _ => ?_
    rw [mul_assoc, ← EReal.coe_mul, wt_scale]

/-- The weights of the keys after the query do not count. -/
theorem sum_wt (U : ℕ → ℝ) (v : ℕ → EReal) (J n : ℕ) (M : ℝ) (hn : J < n) :
    ∑ t ∈ range n, v t * ((wt U J M t : ℝ) : EReal) = ∑ t ∈ range (J + 1), v t * (((2 : ℝ) ^ (U t - M) : ℝ) : EReal) := by
  rw [← sum_subset (range_subset_range.mpr (show J + 1 ≤ n from hn))]
  · refine sum_congr rfl fun t ht => ?_
    rw [wt, if_pos (by have := mem_range.mp ht; omega)]
  · intro t _ ht
    rw [wt, if_neg (by rw [mem_range] at ht; omega), EReal.coe_zero, mul_zero]

/-- The sums over all keys up to the query, over the sum of the weights, are the attention. -/
theorem attn_of_col {R : Type} {U : ℕ → ℝ} {v : R → ℕ → EReal} {J n : ℕ} {m : EReal} {a : R → EReal} (h : Col U v J n m a) (hn : J < n)
    (r o : R) (ho : ∀ t, v o t = 1) : a r * Ideal.div 1 (a o) = attn U (v r) J := by
  rcases h with ⟨h0, _, _⟩ | ⟨M, _, hs⟩
  · omega
  have hZ : 0 < ∑ t ∈ range (J + 1), (2 : ℝ) ^ (U t - M) := sum_pos (fun t _ => Real.rpow_pos_of_pos two_pos _) ⟨0, mem_range.mpr (Nat.succ_pos J)⟩
  have hc : (2 : ℝ) ^ (-M) ≠ 0 := (Real.rpow_pos_of_pos two_pos _).ne'
  have e : ∀ t, (2 : ℝ) ^ (U t - M) = (2 : ℝ) ^ U t * (2 : ℝ) ^ (-M) := fun t => by rw [← Real.rpow_add two_pos]; rfl
  have hden : a o = ((∑ t ∈ range (J + 1), (2 : ℝ) ^ (U t - M) : ℝ) : EReal) := by
    rw [hs, sum_wt U (v o) J n M hn, ← sum_coe]
    exact sum_congr rfl fun t _ => by rw [ho, one_mul]
  rw [hden, Ideal.div_coe hZ.ne', one_mul, hs, sum_wt U (v r) J n M hn, sum_mul_real _ _ (by positivity), attn]
  refine sum_congr rfl fun t _ => ?_
  rw [mul_assoc, ← EReal.coe_mul]
  congr 2
  simp only [e]
  rw [← sum_mul, mul_one_div, mul_div_mul_right _ _ hc]

end Cert.Fox
-- ==== Proof.Fox.Softmax.lean ====
/-
  A softmax over all keys, the later ones masked with the lowest value, is the attention over the keys up to the query.
-/
module

public import proofs.«01_k».proof.Proof.Fox.Online

@[expose] public section

noncomputable section

namespace Cert.Fox

open Idealize.ShloMosaic Finset

/-- A power of two whose exponent is divided by ln 2. -/
theorem two_rpow_div_log (x : ℝ) : (2 : ℝ) ^ (x * (Real.log 2)⁻¹) = Real.exp x := by
  rw [Real.rpow_def_of_pos two_pos, mul_comm x, ← mul_assoc, mul_inv_cancel₀ (Real.log_pos one_lt_two).ne', one_mul]

/-- Softmax weights with the maximum taken out, over masked scores, are those of `attn`. -/
theorem softmax_attn (L : ℕ → ℝ) (v : ℕ → EReal) {J n : ℕ} (hJ : J < n) (S : Fin n → EReal) (hS : ∀ t : Fin n, S t = if t.val ≤ J then (L t.val : EReal) else ⊥)
    (M : EReal) (hM : M = max ⊥ ((univ : Finset (Fin n)).fold max ⊥ S)) :
    ∑ t : Fin n, v t.val * Ideal.div (Ideal.exp (S t - M)) (0 + ∑ t' : Fin n, Ideal.exp (S t' - M)) = attn (fun t => L t * (Real.log 2)⁻¹) v J := by
  obtain ⟨R, hR⟩ := fold_real (by omega) S L J 0 (Nat.zero_le J) (fun x => by simp only [zero_add]; exact hS x)
  rw [hR, max_eq_right bot_le] at hM
  subst hM
  have e : ∀ t : Fin n, Ideal.exp (S t - (R : EReal)) = ((if t.val ≤ J then Real.exp (L t.val - R) else 0 : ℝ) : EReal) := by
    intro t
    rw [hS]
    split
    · rw [← EReal.coe_sub, Ideal.exp_coe]
    · rw [EReal.bot_sub, Ideal.exp_bot, EReal.coe_zero]
  have cut : ∀ f : ℕ → EReal, (∀ t, J < t → f t = 0) → ∑ t : Fin n, f t.val = ∑ t ∈ range (J + 1), f t := by
    intro f hf
    rw [Fin.sum_univ_eq_sum_range f n]
    refine (sum_subset (range_subset_range.mpr hJ) fun t _ ht => hf t ?_).symm
    rw [mem_range] at ht
    omega
  have hZ : 0 < ∑ t ∈ range (J + 1), Real.exp (L t - R) := sum_pos (fun t _ => Real.exp_pos _) ⟨0, mem_range.mpr (Nat.succ_pos J)⟩
  have z : (0 : EReal) + ∑ t' : Fin n, Ideal.exp (S t' - (R : EReal)) = ((∑ t ∈ range (J + 1), Real.exp (L t - R) : ℝ) : EReal) := by
    rw [zero_add, sum_congr rfl fun t _ => e t, cut (fun t => ((if t ≤ J then Real.exp (L t - R) else 0 : ℝ) : EReal)) fun t ht => by rw [if_neg (by omega), EReal.coe_zero], sum_coe]
    congr 1
    exact sum_congr rfl fun t ht => by rw [if_pos (by rw [mem_range] at ht; omega)]
  rw [z]
  rw [sum_congr rfl fun t _ => by rw [e t]]
  rw [cut (fun t => v t * Ideal.div ((if t ≤ J then Real.exp (L t - R) else 0 : ℝ) : EReal) ((∑ t ∈ range (J + 1), Real.exp (L t - R) : ℝ) : EReal))
    fun t ht => by rw [if_neg (by omega), Ideal.div_coe hZ.ne', EReal.coe_zero, zero_mul, mul_zero]]
  unfold attn
  refine sum_congr rfl fun t ht => ?_
  rw [if_pos (by rw [mem_range] at ht; omega), Ideal.div_coe hZ.ne', ← EReal.coe_mul]
  congr 2
  simp only [two_rpow_div_log, sub_eq_add_neg, Real.exp_add, ← sum_mul]
  rw [mul_one_div, mul_div_mul_right _ _ (Real.exp_pos _).ne']

end Cert.Fox
-- ==== Proof.Fox.Score.lean ====
/-
  The scores of the problem, as real numbers.
-/
module

public import proofs.«01_k».proof.Proof.Fox.Softmax

@[expose] public section

noncomputable section

namespace Cert.Fox

/-- A position of the sequence. -/
def pos (t : ℕ) : Fin 8192 := Fin.ofNat 8192 t

theorem pos_val (t : Fin 8192) : pos t.val = t := Fin.ext (Nat.mod_eq_of_lt t.isLt)

/-- The lane of head `e`, dimension `d`. -/
def lane (e : Fin 16) (d : Fin 64) : Fin 1024 := ⟨e.val * 64 + d.val, by omega⟩

/-- The score of query `J` and key `t` of head `e`: their product over √64, with the gates' difference. -/
def score (Q K : Fin 4 → Fin 8192 → Fin 1024 → ℝ) (C : Fin 4 → Fin 8192 → Fin 16 → ℝ) (b : Fin 4) (e : Fin 16) (J : Fin 8192) (t : ℕ) : ℝ :=
  (∑ d : Fin 64, Q b J (lane e d) * K b (pos t) (lane e d)) * (1 / 8) + C b J e - C b (pos t) e

/-- The head of a pair. -/
def head (p : Fin 8) (h : Fin 2) : Fin 16 := ⟨2 * p.val + h.val, by omega⟩

end Cert.Fox
-- ==== Proof.Fox.Host.lean ====
/-
  The arrays the host code prepares for the kernel, read at an index.
-/
module

public import proofs.«01_k».proof.Proof.Gen.KernelIdeal.Frame.Runs
public import proofs.«01_k».proof.Proof.Fox.Read
public import proofs.«01_k».proof.Proof.Fox.Score

@[expose] public section

set_option maxRecDepth 16384

noncomputable section

namespace Cert.KernelIdeal.Fox

open Idealize.ShloMosaic Idealize.ShloMosaic.TcCoe Idealize.SL.Sem Idealize.ShloMosaic.StableHlo Cert.KernelIdeal Cert.KernelIdeal.Gen

section Arrays

variable {F : FTy → Type} [FloatOps F] [Named F]

/-- The queries, scaled, over the keys, head pairs outermost. -/
def qkArr (q k : (⟨S4x8192x1024, .f32⟩ : BufTy).Contents (Elt F)) : (⟨S16x32768x128, .bf16⟩ : BufTy).Contents (Elt F) :=
  truncf .bf16 (concatenate S16x32768x128 0 [⟨S8x32768x128, transpose S8x32768x128 [1, 0, 2] (shapeCast S32768x8x128
    (Host.divf (mulf q (broadcastInDim S4x8192x1024 ![] bcast_S_S4x8192x1024 (constant S_ .f32 0x3E000000#32)))
      (broadcastInDim S4x8192x1024 ![] bcast_S_S4x8192x1024 (Host.log (constant S_ .f32 0x40000000#32)))) shapeCasts_S4x8192x1024_S32768x8x128) transposes_S32768x8x128_S8x32768x128_1_0_2⟩,
    ⟨S8x32768x128, transpose S8x32768x128 [1, 0, 2] (shapeCast S32768x8x128 k shapeCasts_S4x8192x1024_S32768x8x128) transposes_S32768x8x128_S8x32768x128_1_0_2⟩]
    concatenates_S8x32768x128_S8x32768x128_S16x32768x128_d0) bitsLt_bf16_f32

/-- The values, transposed, two heads to a block of 128 rows. -/
def vArr (v : (⟨S4x8192x1024, .f32⟩ : BufTy).Contents (Elt F)) : (⟨S8x128x32768, .bf16⟩ : BufTy).Contents (Elt F) :=
  truncf .bf16 (shapeCast S8x128x32768 (transpose S1024x32768 [1, 0] (shapeCast S32768x1024 v shapeCasts_S4x8192x1024_S32768x1024) transposes_S32768x1024_S1024x32768_1_0)
    shapeCasts_S1024x32768_S8x128x32768) bitsLt_bf16_f32

/-- The gates in lanes 16 to 31. -/
def cArr (c : (⟨S4x8192x16, .f32⟩ : BufTy).Contents (Elt F)) : (⟨S32768x128, .f32⟩ : BufTy).Contents (Elt F) :=
  pad S32768x128 ![0, 16] ![0, 96] ![0, 0] (shapeCast S32768x16 c shapeCasts_S4x8192x16_S32768x16) (sitofp .f32 (constantI S_ 32 0#32)) pads_S32768x16_S32768x128_000_16960 h_S_

/-- The gates, transposed, two heads to a block of eight rows. -/
def gArr (c : (⟨S4x8192x16, .f32⟩ : BufTy).Contents (Elt F)) : (⟨S8x8x32768, .f32⟩ : BufTy).Contents (Elt F) :=
  pad S8x8x32768 ![0, 0, 0] ![0, 6, 0] ![0, 0, 0] (shapeCast S8x2x32768 (transpose S16x32768 [1, 0] (extractStridedSlice S32768x16 ![0, 16] (cArr c) slices_S32768x128_S32768x16_0_16)
    transposes_S32768x16_S16x32768_1_0) shapeCasts_S16x32768_S8x2x32768) (sitofp .f32 (constantI S_ 32 0#32)) pads_S8x2x32768_S8x8x32768_000_060_000 h_S_

variable (m : (ℓ : Loc nD τ sig) → Buf (Elt F) ℓ)

theorem V_qk (c : Dev nD) : V m c main_v10 = qkArr (m ((c : Thread nD τ).loc main_arg0)) (m ((c : Thread nD τ).loc main_arg1)) := by
  simp only [V, hostOps0, hostOps0_1, hostOps0_2, hostOps0_3, List.flatten_cons, List.flatten_nil, List.append_nil, List.cons_append, List.nil_append, TRef.binary, TRef.unary, TRef.toBuf, TRef.ofBuf, cast_eq]
  after_results_simp
  rfl

theorem V_v (c : Dev nD) : V m c main_v14 = vArr (m ((c : Thread nD τ).loc main_arg2)) := by
  simp only [V, hostOps0, hostOps0_1, hostOps0_2, hostOps0_3, List.flatten_cons, List.flatten_nil, List.append_nil, List.cons_append, List.nil_append, TRef.binary, TRef.unary, TRef.toBuf, TRef.ofBuf, cast_eq]
  after_results_simp
  rfl

theorem V_c (c : Dev nD) : V m c main_v16 = cArr (m ((c : Thread nD τ).loc main_arg3)) := by
  simp only [V, hostOps0, hostOps0_1, hostOps0_2, hostOps0_3, List.flatten_cons, List.flatten_nil, List.append_nil, List.cons_append, List.nil_append, TRef.binary, TRef.unary, TRef.toBuf, TRef.ofBuf, cast_eq]
  after_results_simp
  rfl

theorem V_g (c : Dev nD) : V m c main_v20 = gArr (m ((c : Thread nD τ).loc main_arg3)) := by
  simp only [V, hostOps0, hostOps0_1, hostOps0_2, hostOps0_3, List.flatten_cons, List.flatten_nil, List.append_nil, List.cons_append, List.nil_append, TRef.binary, TRef.unary, TRef.toBuf, TRef.ofBuf, cast_eq]
  after_results_simp
  rfl

end Arrays

theorem eighth : Ideal.ofBits .f32 0x3E000000#32 = ((1 / 8 : ℝ) : EReal) := by
  simp [Ideal.ofBits, Ideal.ieee]
  rw [← EReal.coe_mul]
  norm_num
theorem two : Ideal.ofBits .f32 0x40000000#32 = ((2 : ℝ) : EReal) := by
  simp [Ideal.ofBits, Ideal.ieee]
  rw [← EReal.coe_mul]
  norm_num

/-- A query scaled by 1/8 and divided by ln 2. -/
theorem scale_real (x : ℝ) : Ideal.div ((x : EReal) * Ideal.ofBits .f32 0x3E000000#32) (Ideal.log (Ideal.ofBits .f32 0x40000000#32)) = ((x * (1 / 8) * lam : ℝ) : EReal) := by
  rw [eighth, two, Ideal.log_coe, if_neg (by norm_num), Ideal.div_coe (Real.log_pos one_lt_two).ne', ← EReal.coe_mul, ← EReal.coe_mul, lam, ← one_div (Real.log 2)]

/-- The row of batch `b`, position `t`. -/
def row (b : Fin 4) (t : Fin 8192) : Fin 32768 := ⟨8192 * b.val + t.val, by omega⟩

section

variable (q k v : (⟨S4x8192x1024, .f32⟩ : BufTy).Contents (Elt Ideal)) (c : (⟨S4x8192x16, .f32⟩ : BufTy).Contents (Elt Ideal))

theorem row_div (b : Fin 4) (t : Fin 8192) : (⟨(row b t).val / 8192, by have := (row b t).isLt; omega⟩ : Fin 4) = b := Fin.ext (by show (8192 * b.val + t.val) / 8192 = b.val; omega)
theorem row_mod (b : Fin 4) (t : Fin 8192) : (⟨(row b t).val % 8192, by omega⟩ : Fin 8192) = t := Fin.ext (by show (8192 * b.val + t.val) % 8192 = t.val; omega)

/-- A scaled query. -/
theorem q_at (p : Fin 8) (b : Fin 4) (t : Fin 8192) (l : Fin 128) {x : ℝ} (hx : q (ix3 b t ⟨p.val * 128 + l.val, by omega⟩) = (x : EReal)) :
    qkArr q k (ix3 ⟨p.val, by omega⟩ (row b t) l) = ((x * (1 / 8) * lam : ℝ) : EReal) := by
  rw [← scale_real, ← hx]
  have e : qkArr q k (ix3 ⟨p.val, by omega⟩ (row b t) l) = Ideal.div (q (ix3 ⟨(row b t).val / 8192, by have := (row b t).isLt; omega⟩ ⟨(row b t).val % 8192, by omega⟩ ⟨p.val * 128 + l.val, by omega⟩) * Ideal.ofBits .f32 0x3E000000#32)
      (Ideal.log (Ideal.ofBits .f32 0x40000000#32)) := by
    pointwise [qkArr]
  rw [row_div, row_mod] at e
  exact e

/-- A key. -/
theorem k_at (p : Fin 8) (b : Fin 4) (t : Fin 8192) (l : Fin 128) :
    qkArr q k (ix3 ⟨8 + p.val, by omega⟩ (row b t) l) = k (ix3 b t ⟨p.val * 128 + l.val, by omega⟩) := by
  have e : qkArr q k (ix3 ⟨8 + p.val, by omega⟩ (row b t) l) = k (ix3 ⟨(row b t).val / 8192, by have := (row b t).isLt; omega⟩ ⟨(row b t).val % 8192, by omega⟩ ⟨p.val * 128 + l.val, by omega⟩) := by
    pointwise [qkArr]
  rw [row_div, row_mod] at e
  exact e

/-- A value. -/
theorem v_at (p : Fin 8) (b : Fin 4) (t : Fin 8192) (h : Fin 2) (d : Fin 64) :
    vArr v (ix3 p ⟨64 * h.val + d.val, by omega⟩ (row b t)) = v (ix3 b t (Cert.Fox.lane (Cert.Fox.head p h) d)) := by
  have e : vArr v (ix3 p ⟨64 * h.val + d.val, by omega⟩ (row b t)) = v (ix3 ⟨(row b t).val / 8192, by have := (row b t).isLt; omega⟩ ⟨(row b t).val % 8192, by omega⟩ ⟨p.val * 128 + (64 * h.val + d.val), by omega⟩) := by
    pointwise [vArr]
  rw [row_div, row_mod] at e
  exact e.trans (congrArg v (congrArg (ix3 b t) (Fin.ext (by show p.val * 128 + (64 * h.val + d.val) = (2 * p.val + h.val) * 64 + d.val; omega))))

/-- A key's gate. -/
theorem c_at (b : Fin 4) (t : Fin 8192) (e : Fin 16) : cArr c (ix2 (row b t) ⟨16 + e.val, by omega⟩) = c (ix3 b t e) := by
  have e : cArr c (ix2 (row b t) ⟨16 + e.val, by omega⟩) = c (ix3 ⟨(row b t).val / 8192, by have := (row b t).isLt; omega⟩ ⟨(row b t).val % 8192, by omega⟩ e) := by
    pointwise [cArr]
  rw [row_div, row_mod] at e
  exact e

/-- A query's gate. -/
theorem g_at (p : Fin 8) (h : Fin 2) (b : Fin 4) (t : Fin 8192) : gArr c (ix3 p ⟨h.val, by omega⟩ (row b t)) = c (ix3 b t (Cert.Fox.head p h)) := by
  have e : gArr c (ix3 p ⟨h.val, by omega⟩ (row b t)) = cArr c (ix2 (row b t) ⟨16 + (p.val * 2 + h.val), by omega⟩) := by
    pointwise [gArr]
  refine e.trans (Eq.trans ?_ (c_at c b t (Cert.Fox.head p h)))
  exact congrArg (cArr c) (congrArg (ix2 (row b t)) (Fin.ext (by show 16 + (p.val * 2 + h.val) = 16 + (2 * p.val + h.val); omega)))

end

end Cert.KernelIdeal.Fox
-- ==== Proof.Fox.Column.lean ====
/-
  What the steps keep: each query's running maximum and running sums are those of the keys it has met.
-/
module

public import proofs.«01_k».proof.Proof.Fox.Read
public import proofs.«01_k».proof.Proof.Fox.Online

@[expose] public section

set_option maxRecDepth 16384

noncomputable section

namespace Cert.KernelIdeal.Fox

open Idealize.ShloMosaic Idealize.SL.Sem Cert.KernelIdeal Cert.KernelIdeal.Gen

/-- The numbers in a grid point's blocks: real queries, keys and gates, and values that may be anything. -/
structure Nums where
  q : Fin 2048 → Fin 128 → ℝ
  k : ℕ → Fin 128 → ℝ
  g : Fin 2 → Fin 2048 → ℝ
  c : Fin 2 → ℕ → ℝ
  v : Fin 2 → Fin 64 → ℕ → EReal

namespace Nums

/-- One head's query: the other head's lanes are zero. -/
def qm (N : Nums) (h : Fin 2) (j : Fin 2048) (l : Fin 128) : ℝ := if l.val / 64 = h.val then N.q j l else 0
/-- A score less the key's gate. -/
def D (N : Nums) (h : Fin 2) (j : Fin 2048) (t : ℕ) : ℝ := ∑ l : Fin 128, N.k t l * N.qm h j l - N.c h t * lam
/-- A score with both gates. -/
def U (N : Nums) (h : Fin 2) (j : Fin 2048) (t : ℕ) : ℝ := N.D h j t + N.g h j * lam
/-- The rows that are summed: the values, then ones. -/
def w (N : Nums) (h : Fin 2) (r : Fin 80) (t : ℕ) : EReal := if hr : r.val < 64 then N.v h ⟨r.val, hr⟩ t else 1

end Nums

/-- A key block holds the numbers from key `n` on. -/
structure BlkReads (N : Nums) (B : Blk Ideal) (n : ℕ) : Prop where
  key : ∀ (k : Fin 512) (l : Fin 128), B.key (ix2 k l) = ((N.k (n + k.val) l : ℝ) : EReal)
  gate : ∀ (h : Fin 2) (k : Fin 512), B.gate h (ix2 k 0) = ((N.c h (n + k.val) * lam : ℝ) : EReal)
  val : ∀ (h : Fin 2) (r : Fin 80) (k : Fin 512), B.val h (ix2 r k) = N.w h r (n + k.val)

/-- The queries' buffer and the queries' gates hold the numbers. -/
structure QReads (N : Nums) (qs : Vec Ideal S2x2048x128 .bf16) (g : Vec Ideal S1x8x2048 .f32) : Prop where
  q : ∀ (h : Fin 2) (s : Fin 8) (j : Fin 256) (l : Fin 128), strip qs h s (ix3 0 j l) = ((N.qm h (qAt s j) l : ℝ) : EReal)
  g : ∀ (h : Fin 2) (s : Fin 8) (j : Fin 256), gAt g h s (ix3 0 0 j) = ((N.g h (qAt s j) : ℝ) : EReal)

/-- Every query's running maximum and sums are those of its first `cov h s` keys. -/
def Inv (N : Nums) (i : ℕ) (cov : Fin 2 → Fin 8 → ℕ) (r : Run Ideal) : Prop :=
  ∀ (h : Fin 2) (s : Fin 8) (j : Fin 256),
    Cert.Fox.Col (N.U h (qAt s j)) (N.w h) (2048 * i + (qAt s j).val) (cov h s) (mAt r.m h s (ix3 0 0 j)) (fun row : Fin 80 => aAt r.a h s (ix3 0 row j))

/-- A score is a real number. -/
theorem score_real (N : Nums) {B : Blk Ideal} {n : ℕ} (hB : BlkReads N B n) {qs : Vec Ideal S2x2048x128 .bf16} {g : Vec Ideal S1x8x2048 .f32} (hQ : QReads N qs g)
    (h : Fin 2) (s : Fin 8) (j : Fin 256) (k : Fin 512) :
    (∑ l : Fin 128, B.key (ix2 k l) * strip qs h s (ix3 0 j l) - B.gate h (ix2 k 0) : EReal) = ((N.D h (qAt s j) (n + k.val) : ℝ) : EReal) := by
  rw [hB.gate, Finset.sum_congr rfl fun l _ => by rw [hB.key, hQ.q, ← EReal.coe_mul], Cert.Fox.sum_coe, ← EReal.coe_sub]
  rfl

/-- When a step of kind `k` whose keys start at `n` is in place for strip `s`: unmasked, all its keys are visible to every query; masked, the first one is. -/
def Fits (i : ℕ) (s : Fin 8) (n : ℕ) : Kind → Prop
  | .full => n + 512 ≤ 2048 * i + 256 * s.val + 1
  | _ => n ≤ 2048 * i + 256 * s.val

/-- The scores of a step, read. -/
theorem scores_apply (N : Nums) {B : Blk Ideal} {n i : ℕ} (hn : n + 512 ≤ 2 ^ 31) (hi : i < 4) (hB : BlkReads N B n) {qs : Vec Ideal S2x2048x128 .bf16} {g : Vec Ideal S1x8x2048 .f32}
    (hQ : QReads N qs g) (qb : BitVec 32) (h : Fin 2) (s : Fin 8) (kind : Kind) (hfit : Fits i s n kind)
    (hpos : kind ≠ .full → B.pos = BitVec.ofNat 32 n ∧ qb = BitVec.ofNat 32 i) (j : Fin 256) (x : Fin kind.keys) :
    scores qb B h s (strip qs h s) kind (ix2 x j) = if n + x.val ≤ 2048 * i + (qAt s j).val then ((N.D h (qAt s j) (n + x.val) : ℝ) : EReal) else ⊥ := by
  cases kind
  · have hx : x.val < 512 := x.isLt
    rw [if_pos (by simp only [Fits] at hfit; simp only [qAt]; omega)]
    exact (raw512_apply B h _ x j).trans (score_real N hB hQ h s j x)
  · obtain ⟨hp, rfl⟩ := hpos (fun e => by cases e)
    show masked 512 _ _ B.pos _ s _ _ = _
    rw [hp, masked512_apply n i s _ x j hn hi, raw512_apply]
    exact if_congr Iff.rfl (score_real N hB hQ h s j x) rfl
  · obtain ⟨hp, rfl⟩ := hpos (fun e => by cases e)
    show masked 256 _ _ B.pos _ s _ _ = _
    rw [hp, masked256_apply n i s _ x j hn hi, raw256_apply]
    have hx : x.val < 256 := x.isLt
    exact if_congr Iff.rfl (score_real N hB hQ h s j ⟨x.val, by omega⟩) rfl

/-- The values of a step, read. -/
theorem vals_apply (N : Nums) {B : Blk Ideal} {n : ℕ} (hB : BlkReads N B n) (h : Fin 2) (kind : Kind) (r : Fin 80) (x : Fin kind.keys) :
    vals B h kind (ix2 r x) = N.w h r (n + x.val) := by
  cases kind
  · exact hB.val h r x
  · exact hB.val h r x
  · have hx : x.val < 256 := x.isLt
    refine Eq.trans ?_ (hB.val h r ⟨x.val, by omega⟩)
    show extractStridedSlice S80x256 ![0, 0] (B.val h) slices_S80x512_o0_0_S80x256 (ix2 r x) = _
    pointwise

/-- The keys met after an item. -/
def bump (cov : Fin 2 → Fin 8 → ℕ) (it : Item) : Fin 2 → Fin 8 → ℕ := fun h s => if h = it.h ∧ s = it.s then cov h s + it.kind.keys else cov h s

theorem keys_pos (k : Kind) : 0 < k.keys := by cases k <;> decide

/-- The maxima of a strip after a step. -/
theorem mAt_step (g : Vec Ideal S1x8x2048 .f32) (h : Fin 2) (s : Fin 8) (k : Kind) (t : FVec Ideal (ST k.keys) .f32) (v : FVec Ideal ⟨2, ![80, k.keys]⟩ .bf16) (r : Run Ideal) (h' : Fin 2) (s' : Fin 8) :
    mAt (stepRun g h s k t v r).m h' s' = if h' = h ∧ s' = s then outMax k t (gAt g h s) (mAt r.m h s) else mAt r.m h' s' := by
  by_cases e : h' = h ∧ s' = s
  · obtain ⟨rfl, rfl⟩ := e
    rw [if_pos ⟨rfl, rfl⟩]
    exact VecWindow.window_put_same _ _ _ _ _
  · rw [if_neg e]
    by_cases e' : h' = h
    · refine VecWindow.window_put_of_disjoint _ _ _ _ _ _ _ 2 ?_
      have : s'.val ≠ s.val := fun q => e ⟨e', Fin.ext q⟩
      show 256 * s'.val + 256 ≤ 256 * s.val ∨ 256 * s.val + 256 ≤ 256 * s'.val
      omega
    · refine VecWindow.window_put_of_disjoint _ _ _ _ _ _ _ 0 ?_
      have : h'.val ≠ h.val := fun q => e' (Fin.ext q)
      show h'.val + 1 ≤ h.val ∨ h.val + 1 ≤ h'.val
      omega

/-- The sums of a strip after a step. -/
theorem aAt_step (g : Vec Ideal S1x8x2048 .f32) (h : Fin 2) (s : Fin 8) (k : Kind) (t : FVec Ideal (ST k.keys) .f32) (v : FVec Ideal ⟨2, ![80, k.keys]⟩ .bf16) (r : Run Ideal) (h' : Fin 2) (s' : Fin 8) :
    aAt (stepRun g h s k t v r).a h' s' = if h' = h ∧ s' = s then outAcc k t v (gAt g h s) (mAt r.m h s) (aAt r.a h s) else aAt r.a h' s' := by
  by_cases e : h' = h ∧ s' = s
  · obtain ⟨rfl, rfl⟩ := e
    rw [if_pos ⟨rfl, rfl⟩]
    exact VecWindow.window_put_same _ _ _ _ _
  · rw [if_neg e]
    by_cases e' : h' = h
    · refine VecWindow.window_put_of_disjoint _ _ _ _ _ _ _ 2 ?_
      have : s'.val ≠ s.val := fun q => e ⟨e', Fin.ext q⟩
      show 256 * s'.val + 256 ≤ 256 * s.val ∨ 256 * s.val + 256 ≤ 256 * s'.val
      omega
    · refine VecWindow.window_put_of_disjoint _ _ _ _ _ _ _ 0 ?_
      have : h'.val ≠ h.val := fun q => e' (Fin.ext q)
      show h'.val + 1 ≤ h.val ∨ h.val + 1 ≤ h'.val
      omega

/-- An item whose keys follow those met keeps the columns. -/
theorem Inv.item {N : Nums} {i n : ℕ} {cov : Fin 2 → Fin 8 → ℕ} {r : Run Ideal} (H : Inv N i cov r) (hn : n + 512 ≤ 2 ^ 31) (hi : i < 4)
    {qs : Vec Ideal S2x2048x128 .bf16} {g : Vec Ideal S1x8x2048 .f32} (hQ : QReads N qs g) (qb : BitVec 32) (B : Fin 4 → Blk Ideal) (it : Item)
    (hB : BlkReads N (B it.blk) n) (hcov : cov it.h it.s = n) (hfit : Fits i it.s n it.kind)
    (hpos : it.kind ≠ .full → (B it.blk).pos = BitVec.ofNat 32 n ∧ qb = BitVec.ofNat 32 i) :
    Inv N i (bump cov it) (itemRun g qs qb B r it) := by
  intro h s j
  unfold itemRun
  rw [mAt_step, bump]
  simp only [aAt_step]
  by_cases e : h = it.h ∧ s = it.s
  · obtain ⟨rfl, rfl⟩ := e
    simp only [and_self, if_true]
    have H0 := H it.h it.s j
    rw [hcov] at H0 ⊢
    refine H0.step (D := N.D it.h (qAt it.s j)) (keys_pos it.kind) ?_ (N.g it.h (qAt it.s j) * lam) (fun t => rfl)
      (fun x => scores qb (B it.blk) it.h it.s (strip qs it.h it.s) it.kind (ix2 x j))
      (fun x => scores_apply N hn hi hB hQ qb it.h it.s it.kind hfit hpos j x) ?_ fun row => ?_
    · revert hfit
      cases it.kind <;> simp only [Fits, qAt] <;> omega
    · rw [outMax_apply, newMax_apply, hQ.g, EReal.coe_mul]
    · rw [outAcc_apply, newAcc_apply, outMax_apply, hQ.g, EReal.coe_mul]
      simp only [vals_apply N hB]
  · simp only [if_neg e]
    exact H h s j

/-- Whether each item of a list follows the keys met so far, counted from the first of the four blocks; `lim` keys at least lie between that block and
the queries' own keys, and only where `mask` is set may an item be masked. -/
def okItem (mask : Bool) (lim : ℕ) (c : Fin 2 → Fin 8 → ℕ) (it : Item) : Bool :=
  decide (c it.h it.s = 512 * it.blk.val) &&
    match it.kind with
    | .full => decide (512 * it.blk.val + 512 ≤ lim + 256 * it.s.val + 1)
    | _ => mask && decide (512 * it.blk.val ≤ lim + 256 * it.s.val)

/-- The check of a list. -/
def okList (mask : Bool) (lim : ℕ) : (Fin 2 → Fin 8 → ℕ) → List Item → Bool
  | _, [] => true
  | c, it :: its => okItem mask lim c it && okList mask lim (bump c it) its

/-- A list of items that passes the check keeps the columns. -/
theorem Inv.items {N : Nums} {i n : ℕ} (hn : n + 2048 ≤ 2 ^ 31) (hi : i < 4) {mask : Bool} {lim : ℕ} (hlim : n + lim ≤ 2048 * i)
    {qs : Vec Ideal S2x2048x128 .bf16} {g : Vec Ideal S1x8x2048 .f32} (hQ : QReads N qs g) (qb : BitVec 32) (B : Fin 4 → Blk Ideal)
    (hB : ∀ b : Fin 4, BlkReads N (B b) (n + 512 * b.val))
    (hpos : mask = true → ∀ b : Fin 4, (B b).pos = BitVec.ofNat 32 (n + 512 * b.val) ∧ qb = BitVec.ofNat 32 i) (its : List Item) :
    ∀ (c : Fin 2 → Fin 8 → ℕ) (r : Run Ideal), okList mask lim c its = true → Inv N i (fun h s => n + c h s) r →
      Inv N i (fun h s => n + its.foldl bump c h s) (its.foldl (itemRun g qs qb B) r) := by
  induction its with
  | nil => intro c r _ H; exact H
  | cons it its ih =>
    intro c r hok H
    simp only [okList, Bool.and_eq_true] at hok
    obtain ⟨h1, h2⟩ := hok
    refine ih (bump c it) _ h2 ?_
    simp only [okItem, Bool.and_eq_true, decide_eq_true_eq] at h1
    obtain ⟨hc, hk⟩ := h1
    have hb : it.blk.val < 4 := it.blk.isLt
    have H' := H.item (n := n + 512 * it.blk.val) (by omega) hi hQ qb B it (hB it.blk) (by show n + c it.h it.s = _; rw [hc])
      (by
        revert hk
        cases it.kind <;> simp only [Fits, Bool.and_eq_true, decide_eq_true_eq] <;> omega)
      (by
        intro hne
        refine hpos ?_ it.blk
        revert hk hne
        cases it.kind
        · intro _ q; exact absurd rfl q
        · simp only [Bool.and_eq_true]; exact fun q _ => q.1
        · simp only [Bool.and_eq_true]; exact fun q _ => q.1)
    refine (congrArg (fun cv => Inv N i cv (itemRun g qs qb B r it)) ?_).mp H'
    funext h s
    simp only [bump]
    split <;> omega

theorem okTrip : okList false 2048 (fun _ _ => 0) tripItems = true := by decide +kernel
theorem okLast : okList true 0 (fun _ _ => 0) lastItems = true := by decide +kernel
theorem endTrip : ∀ (h : Fin 2) (s : Fin 8), tripItems.foldl bump (fun _ _ => 0) h s = 2048 := by decide +kernel
theorem endLast : ∀ (h : Fin 2) (s : Fin 8), lastItems.foldl bump (fun _ _ => 0) h s = 256 * (s.val + 1) := by decide +kernel

end Cert.KernelIdeal.Fox
-- ==== Proof.Fox.Result.lean ====
/-
  The block a grid point writes out is the causal softmax attention of its numbers.
-/
module

public import proofs.«01_k».proof.Proof.Fox.Column

@[expose] public section

set_option maxRecDepth 16384

noncomputable section

namespace Cert.KernelIdeal.Fox

open Idealize.ShloMosaic Idealize.SL.Sem Cert.KernelIdeal Cert.KernelIdeal.Gen

/-- The blocks of a grid point of head pair `p` hold the numbers. -/
structure Reads (p : ℕ) (hp : p < 8) (x : Ins Ideal) (N : Nums) : Prop where
  q : ∀ (j : Fin 2048) (l : Fin 128), x.q (ix3 0 j l) = ((N.q j l : ℝ) : EReal)
  k : ∀ (t : Fin 8192) (l : Fin 128), x.k (ix3 0 t l) = ((N.k t.val l : ℝ) : EReal)
  v : ∀ (h : Fin 2) (d : Fin 64) (t : Fin 8192), x.v (ix3 0 ⟨64 * h.val + d.val, by omega⟩ t) = N.v h d t.val
  g : ∀ (h : Fin 2) (j : Fin 2048), x.g (ix3 0 ⟨h.val, by omega⟩ j) = ((N.g h j : ℝ) : EReal)
  c : ∀ (h : Fin 2) (t : Fin 8192), x.c (ix2 t ⟨16 + 2 * p + h.val, by omega⟩) = ((N.c h t.val : ℝ) : EReal)

/-- A window read at an index. -/
theorem window_at {s : Shape} {α : Type} (x : s.Idx → α) (off size : Fin s.rank → ℕ) (inb : ∀ a, off a + size a ≤ s.size a) (y) (z : s.Idx)
    (hz : ∀ a, (z a).val = off a + (y a).val) : VecWindow.window x off size inb y = x z :=
  congrArg x (funext fun a => Fin.ext (by show off a + 1 * (y a).val = (z a).val; rw [one_mul, hz a]))

/-- A window of a rank-3 array read at an index. -/
theorem window3 {α : Type} {a0 a1 a2 b0 b1 b2 : ℕ} (x : (⟨3, ![a0, a1, a2]⟩ : Shape).Idx → α) (off : Fin 3 → ℕ) (inb) (y0 : Fin b0) (y1 : Fin b1) (y2 : Fin b2)
    (z0 : Fin a0) (z1 : Fin a1) (z2 : Fin a2) (h0 : z0.val = off 0 + y0.val) (h1 : z1.val = off 1 + y1.val) (h2 : z2.val = off 2 + y2.val) :
    VecWindow.window (s := ⟨3, ![a0, a1, a2]⟩) x off ![b0, b1, b2] inb (ix3 y0 y1 y2) = x (ix3 z0 z1 z2) :=
  window_at _ _ _ _ _ _ fun a => by
    fin_cases a
    · exact h0
    · exact h1
    · exact h2

/-- A window of a rank-2 array read at an index. -/
theorem window2 {α : Type} {a0 a1 b0 b1 : ℕ} (x : (⟨2, ![a0, a1]⟩ : Shape).Idx → α) (off : Fin 2 → ℕ) (inb) (y0 : Fin b0) (y1 : Fin b1)
    (z0 : Fin a0) (z1 : Fin a1) (h0 : z0.val = off 0 + y0.val) (h1 : z1.val = off 1 + y1.val) :
    VecWindow.window (s := ⟨2, ![a0, a1]⟩) x off ![b0, b1] inb (ix2 y0 y1) = x (ix2 z0 z1) :=
  window_at _ _ _ _ _ _ fun a => by
    fin_cases a
    · exact h0
    · exact h1

theorem shapeCast_key (w : Vec Ideal S1x512x128 .bf16) (k : Fin 512) (l : Fin 128) :
    shapeCast S512x128 w shapeCasts_S1x512x128_S512x128 (ix2 k l) = w (ix3 0 k l) := by
  pointwise

/-- The key block loaded at key `n` holds the numbers from `n` on. -/
theorem blk_reads {p : ℕ} {hp : p < 8} {x : Ins Ideal} {N : Nums} (R : Reads p hp x N) (L : Place) (b : Fin 4) (n : ℕ) (hn : n + 512 ≤ 8192)
    (hc : L.oc b = ![n, 0]) (hv : L.ov b = ![0, 0, n]) (hw : L.ow b = ![0, 64, n]) (hk : L.ok b = ![0, n, 0]) :
    BlkReads N (blkAt x L laneIota oneRows (BitVec.ofNat 32 p) b) n where
  key k l := by
    refine (shapeCast_key _ k l).trans ((window3 _ _ _ _ _ _ 0 ⟨n + k.val, by omega⟩ l ?_ ?_ ?_).trans (R.k _ _)) <;> rw [hk] <;> simp
  gate h k := by
    refine (gate_apply p hp _ h k).trans ?_
    rw [EReal.coe_mul]
    congr 1
    refine (window2 _ _ _ _ _ ⟨n + k.val, by omega⟩ ⟨16 + 2 * p + h.val, by omega⟩ ?_ ?_).trans (R.c _ _) <;> rw [hc] <;> simp
  val h r k := by
    refine (onesBelow_apply _ r k).trans ?_
    unfold Nums.w
    split
    · rename_i hr
      rcases (show h = 0 ∨ h = 1 by omega) with rfl | rfl
      · refine (window3 _ _ _ _ _ _ 0 ⟨64 * (0 : Fin 2).val + r.val, by simp; omega⟩ ⟨n + k.val, by omega⟩ ?_ ?_ ?_).trans (R.v 0 ⟨r.val, hr⟩ _) <;> rw [hv] <;> simp
      · refine (window3 _ _ _ _ _ _ 0 ⟨64 * (1 : Fin 2).val + r.val, by simp; omega⟩ ⟨n + k.val, by omega⟩ ?_ ?_ ?_).trans (R.v 1 ⟨r.val, hr⟩ _) <;> rw [hw] <;> simp
    · rfl

/-- The queries' buffer at an index. -/
theorem qsNew_apply (q : Vec Ideal S1x2048x128 .bf16) (h : Fin 2) (j : Fin 2048) (l : Fin 128) :
    qsNew q (ix3 h j l) = if l.val / 64 = h.val then q (ix3 0 j l) else 0 := by
  have hl := l.isLt
  have lo : VecWindow.window (qsNew q) ![0, 0, 0] S1x2048x128.size (by decide : ∀ a, (![0, 0, 0] : Fin 3 → ℕ) a + S1x2048x128.size a ≤ S2x2048x128.size a) = qmask q lowLanes := by
    unfold qsNew qsOf
    rw [VecWindow.window_put_of_disjoint _ _ _ _ _ _ _ 0 (by decide)]
    exact VecWindow.window_put_same _ _ _ _ _
  have hi : VecWindow.window (qsNew q) ![1, 0, 0] S1x2048x128.size (by decide : ∀ a, (![1, 0, 0] : Fin 3 → ℕ) a + S1x2048x128.size a ≤ S2x2048x128.size a) = qmask q highLanes :=
    VecWindow.window_put_same _ _ _ _ _
  rcases (show h = 0 ∨ h = 1 by omega) with rfl | rfl
  · refine (window3 (qsNew q) ![0, 0, 0] _ 0 j l 0 j l (by simp) (by simp) (by simp)).symm.trans ((congrFun lo (ix3 0 j l)).trans ((qmask_low q j l).trans (if_congr ?_ rfl rfl)))
    show l.val < 64 ↔ l.val / 64 = 0
    omega
  · refine (window3 (qsNew q) ![1, 0, 0] _ 0 j l 1 j l (by simp) (by simp) (by simp)).symm.trans ((congrFun hi (ix3 0 j l)).trans ((qmask_high q j l).trans (if_congr ?_ rfl rfl)))
    show 64 ≤ l.val ↔ l.val / 64 = 1
    omega

/-- The queries' buffer and gates hold the numbers. -/
theorem q_reads {p : ℕ} {hp : p < 8} {x : Ins Ideal} {N : Nums} (R : Reads p hp x N) : QReads N (qsNew x.q) x.g where
  q h s j l := by
    refine (window3 _ _ _ _ _ _ h (qAt s j) l (by simp) (by simp [qAt]) (by simp)).trans ((qsNew_apply _ _ _ _).trans ?_)
    · rw [R.q]
      unfold Nums.qm
      split <;> rfl
  g h s j := by
    exact (window3 _ _ _ _ _ _ 0 ⟨h.val, by omega⟩ (qAt s j) (by simp) (by simp) (by simp [qAt])).trans (R.g _ _)

/-- Before any key. -/
theorem inv_zero (N : Nums) (i : ℕ) : Inv N i (fun _ _ => 0) ⟨maxInit, accInit⟩ := fun h s j =>
  .inl ⟨rfl, (window3 _ _ _ _ _ _ h 0 (qAt s j) (by simp) (by simp) (by simp [qAt])).trans (maxInit_apply h (qAt s j)),
    fun row => (window3 _ _ _ _ _ _ h row (qAt s j) (by simp) (by simp) (by simp [qAt])).trans (accInit_apply h row (qAt s j))⟩

/-- After `n` trips of the first loop, the columns of the first `2048 n` keys. -/
theorem inv_after1 (i : grid0.Coords) {x : Ins Ideal} {N : Nums} (R : Reads (i 1).val (i 1).isLt x N) :
    ∀ n : ℕ, n ≤ (i 2).val → Inv N (i 2).val (fun _ _ => 2048 * n) (after1 x (qsNew x.q) i n)
  | 0, _ => inv_zero N _
  | n + 1, hn => by
    have h2 : (i 2).val < 4 := (i 2).isLt
    have ht : n < (k0_t1_loop i).trips := by rw [trips1]; omega
    have H := Inv.items (N := N) (i := (i 2).val) (n := 2048 * n) (by omega) h2 (mask := false) (lim := 2048) (by omega) (q_reads R) 0#32
      (blkAt x (place1 i ⟨n, ht⟩) laneIota oneRows (BitVec.ofNat 32 (i 1).val))
      (fun b => blk_reads R _ b _ (by have := b.isLt; omega) (k0_off1_eq i ⟨n, ht⟩ b) (k0_off2_eq i ⟨n, ht⟩ b) (k0_off3_eq i ⟨n, ht⟩ b) (k0_off4_eq i ⟨n, ht⟩ b))
      (fun e => by cases e) tripItems (fun _ _ => 0) _ okTrip (inv_after1 i R n (by omega))
    rw [after1, dif_pos ht]
    refine (congrArg (fun cv => Inv N (i 2).val cv _) ?_).mp H
    funext h s
    rw [endTrip]
    omega

/-- The position of one of the last key blocks. -/
theorem pos3 (i b : ℕ) : Scalar.muli (Scalar.addi (Scalar.muli (BitVec.ofNat 32 i) 4#32) (BitVec.ofNat 32 b)) 512#32 = BitVec.ofNat 32 (2048 * i + 512 * b) := by
  rw [show 2048 * i + 512 * b = (i * 4 + b) * 512 by ring, BitVec.ofNat_mul, BitVec.ofNat_add, BitVec.ofNat_mul]
  rfl

/-- At the end, each query's strip has met the keys up to the strip's last. -/
theorem inv_last (i : grid0.Coords) {x : Ins Ideal} {N : Nums} (R : Reads (i 1).val (i 1).isLt x N) :
    Inv N (i 2).val (fun _ s => 2048 * (i 2).val + 256 * (s.val + 1)) (lastRun x (qsNew x.q) i) := by
  have h2 : (i 2).val < 4 := (i 2).isLt
  have H := Inv.items (N := N) (i := (i 2).val) (n := 2048 * (i 2).val) (by omega) h2 (mask := true) (lim := 0) (by omega) (q_reads R) (BitVec.ofNat 32 (i 2).val)
    (blkAt x (place3 i (Scalar.muli (BitVec.ofNat 32 (i 2).val) 4#32)) laneIota oneRows (BitVec.ofNat 32 (i 1).val))
    (fun b => blk_reads R _ b _ (by have := b.isLt; omega) (k0_off9_eq i b) (k0_off10_eq i b) (k0_off11_eq i b) (k0_off12_eq i b))
    (fun _ b => ⟨pos3 _ _, rfl⟩) lastItems (fun _ _ => 0) _ okLast (inv_after1 i R _ le_rfl)
  unfold lastRun
  rw [trips1]
  refine (congrArg (fun cv => Inv N (i 2).val cv _) ?_).mp H
  funext h s
  rw [endLast]

/-- A query of the block, as a query of a strip. -/
theorem qAt_div (j : Fin 2048) : qAt ⟨j.val / 256, by omega⟩ ⟨j.val % 256, by omega⟩ = j := Fin.ext (by show 256 * (j.val / 256) + j.val % 256 = j.val; omega)

/-- The block written out: each query's causal softmax attention. -/
theorem result_apply (i : grid0.Coords) {x : Ins Ideal} {N : Nums} (R : Reads (i 1).val (i 1).isLt x N) (j : Fin 2048) (h : Fin 2) (d : Fin 64) :
    result x i (ix3 0 j ⟨64 * h.val + d.val, by omega⟩) = Cert.Fox.attn (N.U h j) (N.v h d) (2048 * (i 2).val + j.val) := by
  have hd := d.isLt
  have row : ∀ r : Fin 80, (![VecWindow.window (lastRun x (qsNew x.q) i).a ![0, 0, 0] S1x80x2048.size inb_S2x80x2048_S1x80x2048_0_0_0,
      VecWindow.window (lastRun x (qsNew x.q) i).a ![1, 0, 0] S1x80x2048.size inb_S2x80x2048_S1x80x2048_1_0_0] h : Vec Ideal S1x80x2048 .f32) (ix3 0 r j)
      = aAt (lastRun x (qsNew x.q) i).a h ⟨j.val / 256, by omega⟩ (ix3 0 r ⟨j.val % 256, by omega⟩) := by
    intro r
    have e : aAt (lastRun x (qsNew x.q) i).a h ⟨j.val / 256, by omega⟩ (ix3 0 r ⟨j.val % 256, by omega⟩) = (lastRun x (qsNew x.q) i).a (ix3 h r j) :=
      window3 _ _ _ _ _ _ _ _ _ (by simp) (by simp) (by show j.val = 256 * (j.val / 256) + j.val % 256; omega)
    rw [e]
    rcases (show h = 0 ∨ h = 1 by omega) with rfl | rfl
    · exact window3 (lastRun x (qsNew x.q) i).a ![0, 0, 0] inb_S2x80x2048_S1x80x2048_0_0_0 0 r j 0 r j (by simp) (by simp) (by simp)
    · exact window3 (lastRun x (qsNew x.q) i).a ![1, 0, 0] inb_S2x80x2048_S1x80x2048_1_0_0 0 r j 1 r j (by simp) (by simp) (by simp)
  have H := inv_last i R h ⟨j.val / 256, by omega⟩ ⟨j.val % 256, by omega⟩
  rw [qAt_div] at H
  have A := Cert.Fox.attn_of_col H (by show 2048 * (i 2).val + j.val < 2048 * (i 2).val + 256 * (j.val / 256 + 1); omega) ⟨d.val, by omega⟩ 64
    (fun t => by unfold Nums.w; rw [dif_neg (by decide)])
  refine (outBlock_apply _ _ h j d).trans ?_
  rw [row, row]
  refine A.trans ?_
  congr 1
  funext t
  unfold Nums.w
  rw [dif_pos hd]

end Cert.KernelIdeal.Fox
-- ==== Proof.Fox.Printed.lean ====
/-
  The printed body is the program of Program.lean.
-/
module

public import proofs.«01_k».proof.Proof.Fox.Program
public import Idealize.ShloMosaic.Lib.Exec
public import Idealize.ShloMosaic.Lib.Tactic

@[expose] public section

set_option maxRecDepth 65536

noncomputable section

namespace Cert.KernelIdeal.Fox

open Idealize.ShloMosaic Idealize.ShloMosaic.Tactic Idealize.SL.Sem Cert.KernelIdeal Cert.KernelIdeal.Gen

variable {F : FTy → Type} [FloatOps F] [Named F]

/-- A trip of the first loop. -/
theorem trip1_eq (i : grid0.Coords) (X : Mem) (p : BitVec 32) (lane : IVec S512x128 32) (one : FVec F S16x512 .bf16) (v26 c4 v27 : BitVec 32) (v28 : BitVec 1)
    (t : Fin (k0_t1_loop i).trips) :
    k0_t1_body i X.q X.hq X.k X.hk X.v X.hv X.g X.hg X.c X.hc X.o X.ho X.qs X.hqs X.m X.hm X.a X.ha p lane one v26 c4 v27 v28 t ⟨⟩
      = blocks X (place1 i t) lane one p 0#32 tripItems (.ret ⟨⟩) := by
  sl_kernel_rfl

/-- A trip of the second loop. -/
theorem trip2_eq (i : grid0.Coords) (X : Mem) (p : BitVec 32) (lane : IVec S512x128 32) (one : FVec F S16x512 .bf16) (v26 c4 v27 : BitVec 32) (v28 : BitVec 1) (v48 : BitVec 32)
    (t : Fin (k0_t2_loop i).trips) :
    k0_t2_body i X.q X.hq X.k X.hk X.v X.hv X.g X.hg X.c X.hc X.o X.ho X.qs X.hqs X.m X.hm X.a X.ha p lane one v26 c4 v27 v28 v48 t ⟨⟩
      = blocks X (place2 i t) lane one p 0#32 tripItems (.ret ⟨⟩) := by
  sl_kernel_rfl

/-- Everything after the set-up: the two loops, the last four key blocks, and the result. -/
def afterStart (i : grid0.Coords) (X : Mem) (p qb : BitVec 32) (lane : IVec S512x128 32) (one : FVec F S16x512 .bf16) (b : BitVec 32) : Pg F :=
  Scf.Loop.for (k0_t1_loop i) (k0_t1_ok i) ⟨⟩ (fun t _ => blocks X (place1 i t) lane one p 0#32 tripItems (.ret ⟨⟩)) >>= fun _ =>
  Scf.Loop.for (k0_t2_loop i) (k0_t2_ok i) ⟨⟩ (fun t _ => blocks X (place2 i t) lane one p 0#32 tripItems (.ret ⟨⟩)) >>= fun _ =>
  blocks X (place3 i b) lane one p qb lastItems (finish X)

/-- The whole body. -/
def body (i : grid0.Coords) (X : Mem) : Pg F :=
  start X (afterStart i X (BitVec.ofNat 32 (i 1).val) (BitVec.ofNat 32 (i 2).val) (iota .tc S512x128 32 [1] iota_S512x128_d1_w32)
    (broadcast S16x512 (Scalar.ofBits .bf16 0x3F80#16)) (Scalar.muli (BitVec.ofNat 32 (i 2).val) 4#32))

/-- The load after the two loops with which the printed piece of the body ends, and what it returns. -/
def firstGate (i : grid0.Coords) (X : Mem) (p : BitVec 32) (lane : IVec S512x128 32) (b : BitVec 32) :
    Prog (TpuEff nD τ sig (Elt F) Λ₀ .tc) (Σ' (v51 : BitVec 32) (v54 : FVec F S512x128 .f32), FVec F S512x1 .f32) :=
  .op (.load X.c (Rect.unit (s := S8192x128) (k0_off9 i 0#32) S512x128.size (k0_off9_inb i 0)).toLoadRect (View.loadsAt_vmem h_S512x128)) fun c =>
  .ret ⟨Scalar.muli (Scalar.addi b 0#32) 512#32, shapeCast S512x128 c shapeCasts_S512x128_S512x128, gate lane p c 0⟩

/-- The printed piece with the loops. -/
theorem loops_eq (i : grid0.Coords) (X : Mem) (p : BitVec 32) (lane : IVec S512x128 32) (one : FVec F S16x512 .bf16) (v26 c4 v27 : BitVec 32) (v28 : BitVec 1) :
    k0_part136 i X.q X.hq X.k X.hk X.v X.hv X.g X.hg X.c X.hc X.o X.ho X.qs X.hqs X.m X.hm X.a X.ha p lane one v26 c4 v27 v28
      = Scf.Loop.for (k0_t1_loop i) (k0_t1_ok i) ⟨⟩ (fun t _ => blocks X (place1 i t) lane one p 0#32 tripItems (.ret ⟨⟩)) >>= fun _ =>
        Scf.Loop.for (k0_t2_loop i) (k0_t2_ok i) ⟨⟩ (fun t _ => blocks X (place2 i t) lane one p 0#32 tripItems (.ret ⟨⟩)) >>= fun _ =>
        firstGate i X p lane v26 := by
  have e1 : (fun t _ => blocks X (place1 i t) lane one p 0#32 tripItems (.ret ⟨⟩))
      = k0_t1_body i X.q X.hq X.k X.hk X.v X.hv X.g X.hg X.c X.hc X.o X.ho X.qs X.hqs X.m X.hm X.a X.ha p lane one v26 c4 v27 v28 :=
    funext fun t => funext fun _ => (trip1_eq i X p lane one v26 c4 v27 v28 t).symm
  have e2 : (fun t _ => blocks X (place2 i t) lane one p 0#32 tripItems (.ret ⟨⟩))
      = k0_t2_body i X.q X.hq X.k X.hk X.v X.hv X.g X.hg X.c X.hc X.o X.ho X.qs X.hqs X.m X.hm X.a X.ha p lane one v26 c4 v27 v28 0#32 :=
    funext fun t => funext fun _ => (trip2_eq i X p lane one v26 c4 v27 v28 0#32 t).symm
  rw [e1, e2]
  sl_kernel_rfl

/-- The printed kernel function. -/
theorem fox_eq (i : grid0.Coords) (X : Mem) :
    cc0_fox (F := F) i X.q X.hq X.k X.hk X.v X.hv X.g X.hg X.c X.hc X.o X.ho X.qs X.hqs X.m X.hm X.a X.ha = body i X := by
  unfold cc0_fox k0_part183
  rw [Prog.bind_assoc]
  refine Eq.trans (b := k0_part135 i X.q X.hq X.k X.hk X.v X.hv X.g X.hg X.c X.hc X.o X.ho X.qs X.hqs X.m X.hm X.a X.ha >>= fun x =>
    afterStart i X x.1 x.2.1 x.2.2.1 x.2.2.2.1 x.2.2.2.2.1) (congrArg _ (funext fun x => ?_)) ?_
  · obtain ⟨p, qb, lane, one, b, c4, v27, v28⟩ := x
    dsimp only
    rw [Prog.bind_assoc, loops_eq, Prog.bind_assoc]
    refine congrArg _ (funext fun _ => ?_)
    rw [Prog.bind_assoc]
    refine congrArg _ (funext fun _ => ?_)
    sl_kernel_rfl
  · sl_kernel_rfl

end Cert.KernelIdeal.Fox
-- ==== Proof.Fox.Wp.lean ====
/-
  The kernel's program runs, and leaves what State.lean says: from the input blocks owned at `x`, the block written out
  is `result x i`.
-/
module

public import proofs.«01_k».proof.Proof.Fox.Printed
public import proofs.«01_k».proof.Proof.Fox.State
public import proofs.«01_k».proof.Proof.Gen.KernelIdeal.Frame.Runs

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's weakest precondition. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A load of a window of an owned buffer gives that window of its values. -/
theorem wp_window (c : Dev nD) {s : Shape} {e : EltTy} (M : Memref sig .tc .vmem s e) {X : s.Idx → Elt F e} {off size : Fin s.rank → ℕ}
    {inb : ∀ a, off a + size a ≤ s.size a} {hl : M.view.LoadsAt (Rect.unit off size inb).toLoadRect} {α : Type}
    {k : ((Rect.unit off size inb).shape.Idx → Elt F e) → Prog (TpuEff nD τ sig (Elt F) Λ₀ .tc) α} {Q : α → sProp 𝕄} :
    owns (c : Thread nD τ) M fullShare X
      ⊢ iprop((owns (c : Thread nD τ) M fullShare X -∗ wpK c (k (VecWindow.window X off size inb)) Q)
        -∗ wpK c (.op (.load M (Rect.unit off size inb).toLoadRect hl) k) Q) := by
  unfold owns
  iintro ⟨%f, %hf, H⟩ K
  subst hf
  iapply (wp_load Variants.none (c : Thread nD τ) none Set.univ (m := M) (View.setOn_subset_set _ _)) $$ H
  iintro H
  rw [View.readAt_unit M.view f inb rfl inb]
  iapply K
  iexists f
  isplitr
  · ipureintro; rfl
  iexact H

/-- An unmasked store of a window of an owned buffer puts the payload there. -/
theorem wp_put (c : Dev nD) {s : Shape} {e : EltTy} (M : Memref sig .tc .vmem s e) {X : s.Idx → Elt F e} {off size : Fin s.rank → ℕ}
    {inb : ∀ a, off a + size a ≤ s.size a} {w : (Rect.unit off size inb).shape.Idx → Elt F e} {hx : (M.access (Rect.unit off size inb)).Stores Finset.univ}
    {hm : Finset.univ = Finset.univ ∨ ∀ a, (Rect.unit off size inb).stride a = 1} {α : Type}
    {k : PUnit → Prog (TpuEff nD τ sig (Elt F) Λ₀ .tc) α} {Q : α → sProp 𝕄} :
    owns (c : Thread nD τ) M fullShare X
      ⊢ iprop((owns (c : Thread nD τ) M fullShare (VecWindow.put X off size w) -∗ wpK c (k ⟨⟩) Q)
        -∗ wpK c (.op (.store M (Rect.unit off size inb) w Finset.univ hx hm) k) Q) := by
  unfold owns
  iintro ⟨%f, %hf, H⟩ K
  subst hf
  iapply (wp_store_writes₀ Variants.none (c : Thread nD τ) none Set.univ (m := M) (View.set_slice_subset _ _)) $$ H
  iintro H
  iapply K
  iexists M.view.writes (Elt F) f [⟨Rect.unit off size inb, w⟩]
  isplitr
  · ipureintro
    rw [View.read_writes_cons_put M.view f inb w [] rfl, View.writes_nil]
  iexact H

/-- The buffers while the steps run: the input blocks at `x`, the heads' queries at `qs`, the running maxima and sums at `r`, and whatever else is held. -/
def Held (c : Dev nD) (X : Mem) (x : Ins F) (qs : Vec F S2x2048x128 .bf16) (R : sProp 𝕄) (r : Run F) : sProp 𝕄 :=
  iprop(owns (c : Thread nD τ) X.k fullShare x.k ∗ owns (c : Thread nD τ) X.v fullShare x.v ∗ owns (c : Thread nD τ) X.g fullShare x.g
    ∗ owns (c : Thread nD τ) X.c fullShare x.c ∗ owns (c : Thread nD τ) X.qs fullShare qs ∗ owns (c : Thread nD τ) X.m fullShare r.m
    ∗ owns (c : Thread nD τ) X.a fullShare r.a ∗ R)

section Steps

variable (c : Dev nD) (X : Mem) (x : Ins F) (qs : Vec F S2x2048x128 .bf16)

/-- Loading a strip's queries. -/
theorem wp_loadQ (R : sProp 𝕄) {Q : Unit → sProp 𝕄} (h : Fin 2) (s : Fin 8) (r : Run F) {K : Vec F S1x256x128 .bf16 → Pg F} (hK : Held c X x qs R r ⊢ wpK c (K (strip qs h s)) Q) :
    Held c X x qs R r ⊢ wpK c (loadQ X h s K) Q := by
  unfold loadQ
  unfold Held at hK ⊢
  iintro ⟨Hk, Hv, Hg, Hc, Hq, Hm, Ha, HR⟩
  iapply (wp_window c X.qs) $$ Hq
  iintro Hq
  iapply hK
  isplitl [Hk]; · iexact Hk
  isplitl [Hv]; · iexact Hv
  isplitl [Hg]; · iexact Hg
  isplitl [Hc]; · iexact Hc
  isplitl [Hq]; · iexact Hq
  isplitl [Hm]; · iexact Hm
  isplitl [Ha]; · iexact Ha
  iexact HR

/-- A step. -/
theorem wp_step (R : sProp 𝕄) {Q : Unit → sProp 𝕄} (h : Fin 2) (s : Fin 8) (k : Kind) (t : FVec F (ST k.keys) .f32) (v : FVec F ⟨2, ![80, k.keys]⟩ .bf16) (r : Run F) {K : Pg F}
    (hK : Held c X x qs R (stepRun x.g h s k t v r) ⊢ wpK c K Q) :
    Held c X x qs R r ⊢ wpK c (step X h s k t v K) Q := by
  unfold step
  unfold Held stepRun at hK
  unfold Held
  iintro ⟨Hk, Hv, Hg, Hc, Hq, Hm, Ha, HR⟩
  iapply (wp_window c X.g) $$ Hg
  iintro Hg
  iapply (wp_window c X.m) $$ Hm
  iintro Hm
  iapply (wp_window c X.a) $$ Ha
  iintro Ha
  iapply (wp_window c X.a) $$ Ha
  iintro Ha
  iapply (wp_put c X.a) $$ Ha
  iintro Ha
  iapply (wp_window c X.m) $$ Hm
  iintro Hm
  iapply (wp_put c X.m) $$ Hm
  iintro Hm
  iapply hK
  isplitl [Hk]; · iexact Hk
  isplitl [Hv]; · iexact Hv
  isplitl [Hg]; · iexact Hg
  isplitl [Hc]; · iexact Hc
  isplitl [Hq]; · iexact Hq
  isplitl [Hm]; · iexact Hm
  isplitl [Ha]; · iexact Ha
  iexact HR

/-- The steps of a list of items, when the queries loaded ahead are those of its first four. -/
theorem wp_go (R : sProp 𝕄) {Q : Unit → sProp 𝕄} (qb : BitVec 32) (B : Fin 4 → Blk F) {K : Pg F} : ∀ (its ahead : List Item) (q0 q1 q2 q3 : Vec F S1x256x128 .bf16) (r : Run F),
    ahead = its.drop 4 → (∀ it, its[0]? = some it → q0 = strip qs it.h it.s) → (∀ it, its[1]? = some it → q1 = strip qs it.h it.s) →
    (∀ it, its[2]? = some it → q2 = strip qs it.h it.s) → (∀ it, its[3]? = some it → q3 = strip qs it.h it.s) →
    (Held c X x qs R (its.foldl (itemRun x.g qs qb B) r) ⊢ wpK c K Q) →
    Held c X x qs R r ⊢ wpK c (go X qb B K its ahead q0 q1 q2 q3) Q
  | [], _, _, _, _, _, _, _, _, _, _, _, hK => by
    unfold go; exact hK
  | it :: its, [], q0, q1, q2, q3, r, ha, h0, h1, h2, h3, hK => by
    unfold go item
    have e0 := h0 it rfl
    subst e0
    refine wp_step c X x qs R _ _ _ _ _ _ (wp_go R qb B its [] q1 q2 q3 q3 _ ?_ h1 h2 h3 ?_ hK)
    · have : its.drop 3 = [] := ha.symm
      rw [List.drop_eq_nil_iff] at this
      exact (List.drop_eq_nil_iff.mpr (by omega)).symm
    · intro it' h'
      have : its.drop 3 = [] := ha.symm
      rw [List.drop_eq_nil_iff] at this
      rw [List.getElem?_eq_none this] at h'
      exact absurd h' (by simp)
  | it :: its, nx :: ahead, q0, q1, q2, q3, r, ha, h0, h1, h2, h3, hK => by
    unfold go item
    have e0 := h0 it rfl
    subst e0
    have hd : nx :: ahead = its.drop 3 := ha
    refine wp_loadQ c X x qs R _ _ _ (wp_step c X x qs R _ _ _ _ _ _ (wp_go R qb B its ahead q1 q2 q3 _ _ ?_ h1 h2 h3 ?_ hK))
    · rw [show its.drop 4 = (its.drop 3).drop 1 by rw [List.drop_drop], ← hd]; rfl
    · intro it' h'
      have e : (its.drop 3)[0]? = its[3]? := by rw [List.getElem?_drop]
      rw [← hd, h'] at e
      obtain rfl : nx = it' := Option.some.inj e
      rfl

/-- The steps of a list of at least four items. -/
theorem wp_steps (R : sProp 𝕄) {Q : Unit → sProp 𝕄} (qb : BitVec 32) (B : Fin 4 → Blk F) {K : Pg F} (its : List Item) (hl : 4 ≤ its.length) (r : Run F)
    (hK : Held c X x qs R (its.foldl (itemRun x.g qs qb B) r) ⊢ wpK c K Q) :
    Held c X x qs R r ⊢ wpK c (steps X qb B K its) Q := by
  match its, hl with
  | i0 :: i1 :: i2 :: i3 :: its, _ =>
    unfold steps
    refine wp_loadQ c X x qs R _ _ _ (wp_loadQ c X x qs R _ _ _ (wp_loadQ c X x qs R _ _ _ (wp_loadQ c X x qs R _ _ _ ?_)))
    refine wp_go c X x qs R qb B _ _ _ _ _ _ _ rfl ?_ ?_ ?_ ?_ hK
    all_goals intro it h; obtain rfl := Option.some.inj h; rfl

/-- Loading a key block. -/
theorem wp_loadBlk (R : sProp 𝕄) {Q : Unit → sProp 𝕄} (L : Place) (lane : IVec S512x128 32) (one : FVec F S16x512 .bf16) (p : BitVec 32) (b : Fin 4) (r : Run F) {K : Blk F → Pg F}
    (hK : Held c X x qs R r ⊢ wpK c (K (blkAt x L lane one p b)) Q) :
    Held c X x qs R r ⊢ wpK c (loadBlk X L lane one p b K) Q := by
  unfold loadBlk
  unfold Held blkAt at hK
  unfold Held
  iintro ⟨Hk, Hv, Hg, Hc, Hq, Hm, Ha, HR⟩
  iapply (wp_window c X.c) $$ Hc
  iintro Hc
  iapply (wp_window c X.v) $$ Hv
  iintro Hv
  iapply (wp_window c X.v) $$ Hv
  iintro Hv
  iapply (wp_window c X.k) $$ Hk
  iintro Hk
  iapply hK
  isplitl [Hk]; · iexact Hk
  isplitl [Hv]; · iexact Hv
  isplitl [Hg]; · iexact Hg
  isplitl [Hc]; · iexact Hc
  isplitl [Hq]; · iexact Hq
  isplitl [Hm]; · iexact Hm
  isplitl [Ha]; · iexact Ha
  iexact HR

/-- Four key blocks. -/
theorem wp_blocks (R : sProp 𝕄) {Q : Unit → sProp 𝕄} (L : Place) (lane : IVec S512x128 32) (one : FVec F S16x512 .bf16) (p qb : BitVec 32) (its : List Item) (hl : 4 ≤ its.length) (r : Run F) {K : Pg F}
    (hK : Held c X x qs R (blocksRun x qs L lane one p qb its r) ⊢ wpK c K Q) :
    Held c X x qs R r ⊢ wpK c (blocks X L lane one p qb its K) Q := by
  unfold blocks
  refine wp_loadBlk c X x qs R L lane one p 0 r (wp_loadBlk c X x qs R L lane one p 1 r (wp_loadBlk c X x qs R L lane one p 2 r
    (wp_loadBlk c X x qs R L lane one p 3 r (wp_steps c X x qs R qb _ its hl r ?_))))
  have e : (![blkAt x L lane one p 0, blkAt x L lane one p 1, blkAt x L lane one p 2, blkAt x L lane one p 3] : Fin 4 → Blk F) = blkAt x L lane one p := by
    funext b; fin_cases b <;> rfl
  rw [e]; exact hK

end Steps

/-- What the body is given: the input blocks at `x`, the buffers it writes at anything, and whatever else is held. -/
def Pre (c : Dev nD) (X : Mem) (x : Ins F) (R : sProp 𝕄) : sProp 𝕄 :=
  iprop(owns (c : Thread nD τ) X.q fullShare x.q ∗ owns (c : Thread nD τ) X.k fullShare x.k ∗ owns (c : Thread nD τ) X.v fullShare x.v
    ∗ owns (c : Thread nD τ) X.g fullShare x.g ∗ owns (c : Thread nD τ) X.c fullShare x.c ∗ (∃ d, owns (c : Thread nD τ) X.o fullShare d)
    ∗ (∃ d, owns (c : Thread nD τ) X.qs fullShare d) ∗ (∃ d, owns (c : Thread nD τ) X.m fullShare d) ∗ (∃ d, owns (c : Thread nD τ) X.a fullShare d) ∗ R)

/-- What it leaves: the input blocks as they were, the output block at `result x i`. -/
def Post (c : Dev nD) (X : Mem) (x : Ins F) (i : grid0.Coords) (R : sProp 𝕄) : sProp 𝕄 :=
  iprop(owns (c : Thread nD τ) X.q fullShare x.q ∗ owns (c : Thread nD τ) X.k fullShare x.k ∗ owns (c : Thread nD τ) X.v fullShare x.v
    ∗ owns (c : Thread nD τ) X.g fullShare x.g ∗ owns (c : Thread nD τ) X.c fullShare x.c ∗ owns (c : Thread nD τ) X.o fullShare (result x i)
    ∗ (∃ d, owns (c : Thread nD τ) X.qs fullShare d) ∗ (∃ d, owns (c : Thread nD τ) X.m fullShare d) ∗ (∃ d, owns (c : Thread nD τ) X.a fullShare d) ∗ R)

/-- A put of a whole buffer is the payload. -/
theorem put_whole {s : Shape} {α : Type} (X : s.Idx → α) (off : Fin s.rank → ℕ) (h0 : ∀ a, off a = 0) (w : s.Idx → α) : VecWindow.put X off s.size w = w := by
  funext y
  unfold VecWindow.put
  have h : ∀ a, off a ≤ (y a).val ∧ (y a).val < off a + s.size a := fun a => by
    have := (y a).isLt; rw [h0 a]; exact ⟨Nat.zero_le _, by omega⟩
  rw [dif_pos h]
  exact congrArg w (funext fun a => Fin.ext (by show (y a).val - off a = (y a).val; rw [h0 a]; rfl))

/-- A window of a whole buffer is the buffer. -/
theorem window_whole {s : Shape} {α : Type} (X : s.Idx → α) (off : Fin s.rank → ℕ) (inb : ∀ a, off a + s.size a ≤ s.size a) : VecWindow.window X off s.size inb = X := by
  funext y
  exact congrArg X (Rect.emb_unit_full inb y)

/-- The result is written out. -/
theorem wp_finish (c : Dev nD) (X : Mem) (x : Ins F) (qs : Vec F S2x2048x128 .bf16) (r : Run F) (i : grid0.Coords) (R : sProp 𝕄) (hr : outOf r.a = result x i) :
    Held c X x qs (iprop(owns (c : Thread nD τ) X.q fullShare x.q ∗ (∃ d, owns (c : Thread nD τ) X.o fullShare d) ∗ R)) r
      ⊢ wpK c (finish X) (fun _ => Post c X x i R) := by
  unfold finish Held Post
  rw [← hr]
  iintro ⟨Hk, Hv, Hg, Hc, Hq, Hm, Ha, Hx, ⟨%d, Ho⟩, HR⟩
  iapply (wp_window c X.a) $$ Ha
  iintro Ha
  iapply (wp_window c X.a) $$ Ha
  iintro Ha
  iapply (wp_window c X.o) $$ Ho
  iintro Ho
  iapply (wp_put c X.o) $$ Ho
  iintro Ho
  rw [put_whole (s := S1x2048x128) d ![0, 0, 0] (by decide)]
  unfold wpK
  rw [wp_ret]
  imodintro
  isplitl [Hx]; · iexact Hx
  isplitl [Hk]; · iexact Hk
  isplitl [Hv]; · iexact Hv
  isplitl [Hg]; · iexact Hg
  isplitl [Hc]; · iexact Hc
  isplitl [Ho]; · iexact Ho
  isplitl [Hq]; · iexists _; iexact Hq
  isplitl [Hm]; · iexists _; iexact Hm
  isplitl [Ha]; · iexists _; iexact Ha
  iexact HR

/-- The body. -/
theorem wp_body (c : Dev nD) (X : Mem) (x : Ins F) (i : grid0.Coords) (R : sProp 𝕄) : Pre c X x R ⊢ wpK c (body i X) (fun _ => Post c X x i R) := by
  have tail : Held c X x (qsNew x.q) (iprop(owns (c : Thread nD τ) X.q fullShare x.q ∗ (∃ d, owns (c : Thread nD τ) X.o fullShare d) ∗ R)) (after1 x (qsNew x.q) i (k0_t1_loop i).trips)
      ⊢ wpK c (blocks X (place3 i (Scalar.muli (BitVec.ofNat 32 (i 2).val) 4#32)) laneIota oneRows (BitVec.ofNat 32 (i 1).val) (BitVec.ofNat 32 (i 2).val) lastItems (finish X)) (fun _ => Post c X x i R) :=
    wp_blocks c X x _ _ _ _ _ _ _ lastItems (by decide) _ (wp_finish c X x _ _ i R rfl)
  unfold body start afterStart Pre
  iintro ⟨Hx, Hk, Hv, Hg, Hc, ⟨%d, Ho⟩, ⟨%eq, Hq⟩, ⟨%em, Hm⟩, ⟨%ea, Ha⟩, HR⟩
  iapply (wp_window c X.q) $$ Hx
  iintro Hx
  rw [window_whole (s := S1x2048x128) x.q ![0, 0, 0]]
  iapply (wp_window c X.qs) $$ Hq
  iintro Hq
  iapply (wp_put c X.qs) $$ Hq
  iintro Hq
  iapply (wp_window c X.qs) $$ Hq
  iintro Hq
  iapply (wp_put c X.qs) $$ Hq
  iintro Hq
  iapply (wp_window c X.m) $$ Hm
  iintro Hm
  iapply (wp_put c X.m) $$ Hm
  iintro Hm
  iapply (wp_window c X.a) $$ Ha
  iintro Ha
  iapply (wp_put c X.a) $$ Ha
  iintro Ha
  rw [put_whole (s := S2x1x2048) em ![0, 0, 0] (by decide), put_whole (s := S2x80x2048) ea ![0, 0, 0] (by decide),
    show VecWindow.put (VecWindow.put eq ![0, 0, 0] S1x2048x128.size (qmask x.q lowLanes)) ![1, 0, 0] S1x2048x128.size (qmask x.q highLanes) = qsNew x.q from qsOf_eq eq x.q]
  iapply (Scf.wp_for_bind frame (wpE (defs₀ (F := F)) Variants.none (c : Thread nD τ) none) Set.univ _ _ _ (k0_t1_ok i) _ _
    (fun n _ => Held c X x (qsNew x.q) (iprop(owns (c : Thread nD τ) X.q fullShare x.q ∗ (∃ d, owns (c : Thread nD τ) X.o fullShare d) ∗ R)) (after1 x (qsNew x.q) i n))
    (fun t _ => wp_blocks c X x _ _ _ _ _ _ _ tripItems (by decide) _ (by
      unfold wpK
      rw [wp_ret]
      refine Entails.trans ?_ fupd_intro
      rw [after1, dif_pos t.isLt]; exact .rfl))) $$ [Hx Hk Hv Hg Hc Ho Hq Hm Ha HR]
  · unfold Held
    isplitl [Hk]; · iexact Hk
    isplitl [Hv]; · iexact Hv
    isplitl [Hg]; · iexact Hg
    isplitl [Hc]; · iexact Hc
    isplitl [Hq]; · iexact Hq
    isplitl [Hm]; · iexact Hm
    isplitl [Ha]; · iexact Ha
    isplitl [Hx]; · iexact Hx
    isplitl [Ho]; · iexists _; iexact Ho
    iexact HR
  iintro %acc H
  iapply (Scf.wp_for_bind frame (wpE (defs₀ (F := F)) Variants.none (c : Thread nD τ) none) Set.univ _ _ _ (k0_t2_ok i) _ _
    (fun n _ => Held c X x (qsNew x.q) (iprop(owns (c : Thread nD τ) X.q fullShare x.q ∗ (∃ d, owns (c : Thread nD τ) X.o fullShare d) ∗ R)) (after1 x (qsNew x.q) i (k0_t1_loop i).trips))
    (fun t _ => absurd t.isLt (by have := trips2 i; unfold Scf.Loop.trips at this; omega))) $$ H
  iintro %acc2 H
  iapply tail
  iexact H

/-- The printed body. -/
theorem wp_fox (c : Dev nD) (X : Mem) (x : Ins F) (i : grid0.Coords) (R : sProp 𝕄) :
    Pre c X x R ⊢ wpK c (cc0_fox (F := F) i X.q X.hq X.k X.hk X.v X.hv X.g X.hg X.c X.hc X.o X.ho X.qs X.hqs X.m X.hm X.a X.ha) (fun _ => Post c X x i R) := by
  rw [fox_eq]; exact wp_body c X x i R

end Cert.KernelIdeal.Fox
-- ==== Proof.Fox.Launch.lean ====
/-
  The launch: at every grid point the body leaves `result` of the point's blocks, so the result array ends with each of its
  blocks at that.
-/
module

public import proofs.«01_k».proof.Proof.Fox.Wp
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks of a grid point. -/
def insAt (c : Dev nD) (t : Fin cfg0.N) : Ins F := ⟨iblk m c 0 t, iblk m c 1 t, iblk m c 2 t, iblk m c 3 t, iblk m c 4 t⟩

/-- What the windows hold after a grid point: the inputs their blocks, the output the block computed from them. -/
def foxDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result (insAt m c t) (grid0.coords t)
  Φ _ := Pipeline.ΦA spec0 c
  q w := Pipeline.shareOf spec0 w
  owed _ := 0

/-- The arrays are those the launch finds. -/
theorem foxDats_A (c : Dev nD) (w : Fin cfg0.W) : (foxDats m 0 c).A w = V m c (Pipeline.arrRef spec0 w) := by dsimp only [foxDats]
/-- The queries' window is left at its block. -/
theorem after_q (c : Dev nD) (t : Fin cfg0.N) : (foxDats m 0 c).after 0 t = iblk m c 0 t := by dsimp only [foxDats]
/-- The keys' window is left at its block. -/
theorem after_k (c : Dev nD) (t : Fin cfg0.N) : (foxDats m 0 c).after 1 t = iblk m c 1 t := by dsimp only [foxDats]
/-- The values' window is left at its block. -/
theorem after_v (c : Dev nD) (t : Fin cfg0.N) : (foxDats m 0 c).after 2 t = iblk m c 2 t := by dsimp only [foxDats]
/-- The query gates' window is left at its block. -/
theorem after_g (c : Dev nD) (t : Fin cfg0.N) : (foxDats m 0 c).after 3 t = iblk m c 3 t := by dsimp only [foxDats]
/-- The key gates' window is left at its block. -/
theorem after_c (c : Dev nD) (t : Fin cfg0.N) : (foxDats m 0 c).after 4 t = iblk m c 4 t := by dsimp only [foxDats]
/-- The output's window is left at the block computed. -/
theorem after_o (c : Dev nD) (t : Fin cfg0.N) : (foxDats m 0 c).after 5 t = result (insAt m c t) (grid0.coords t) := by dsimp only [foxDats]

/-- The queries' window is found at its block. -/
theorem before_q (c : Dev nD) (t : Fin cfg0.N) (d) : (foxDats m 0 c).before 0 t d = iblk m c 0 t :=
  before0_0_of m (foxDats m 0 c) (foxDats_A m c 0) (after_q m c) t d
/-- The keys' window is found at its block. -/
theorem before_k (c : Dev nD) (t : Fin cfg0.N) (d) : (foxDats m 0 c).before 1 t d = iblk m c 1 t :=
  before0_1_of m (foxDats m 0 c) (foxDats_A m c 1) (after_k m c) t d
/-- The values' window is found at its block. -/
theorem before_v (c : Dev nD) (t : Fin cfg0.N) (d) : (foxDats m 0 c).before 2 t d = iblk m c 2 t :=
  before0_2_of m (foxDats m 0 c) (foxDats_A m c 2) (after_v m c) t d
/-- The query gates' window is found at its block. -/
theorem before_g (c : Dev nD) (t : Fin cfg0.N) (d) : (foxDats m 0 c).before 3 t d = iblk m c 3 t :=
  before0_3_of m (foxDats m 0 c) (foxDats_A m c 3) (after_g m c) t d
/-- The key gates' window is found at its block. -/
theorem before_c (c : Dev nD) (t : Fin cfg0.N) (d) : (foxDats m 0 c).before 4 t d = iblk m c 4 t :=
  before0_4_of m (foxDats m 0 c) (foxDats_A m c 4) (after_c m c) t d

/-- What the body is called with at a grid point. -/
def foxPre (c : Dev nD) (t : Fin cfg0.N) : sProp 𝕄 :=
  iprop((foxDats m 0 c).Φ t.castSucc ∗ (foxDats m 0 c).owesAt () t.castSucc
    ∗ (∃ d, owns (c : Thread nD τ) (ms0_0 t) fullShare ((foxDats m 0 c).before 0 t d))
    ∗ (∃ d, owns (c : Thread nD τ) (ms0_1 t) fullShare ((foxDats m 0 c).before 1 t d))
    ∗ (∃ d, owns (c : Thread nD τ) (ms0_2 t) fullShare ((foxDats m 0 c).before 2 t d))
    ∗ (∃ d, owns (c : Thread nD τ) (ms0_3 t) fullShare ((foxDats m 0 c).before 3 t d))
    ∗ (∃ d, owns (c : Thread nD τ) (ms0_4 t) fullShare ((foxDats m 0 c).before 4 t d))
    ∗ (∃ d, owns (c : Thread nD τ) (ms0_5 t) fullShare ((foxDats m 0 c).before 5 t d)))

/-- What it returns. -/
def foxPost (c : Dev nD) (t : Fin cfg0.N) : sProp 𝕄 :=
  iprop((foxDats m 0 c).Φ t.succ ∗ (foxDats m 0 c).owesAt () t.succ
    ∗ owns (c : Thread nD τ) (ms0_0 t) fullShare ((foxDats m 0 c).after 0 t)
    ∗ owns (c : Thread nD τ) (ms0_1 t) fullShare ((foxDats m 0 c).after 1 t)
    ∗ owns (c : Thread nD τ) (ms0_2 t) fullShare ((foxDats m 0 c).after 2 t)
    ∗ owns (c : Thread nD τ) (ms0_3 t) fullShare ((foxDats m 0 c).after 3 t)
    ∗ owns (c : Thread nD τ) (ms0_4 t) fullShare ((foxDats m 0 c).after 4 t)
    ∗ owns (c : Thread nD τ) (ms0_5 t) fullShare ((foxDats m 0 c).after 5 t))

/-- The buffers of a grid point. -/
def memAt (t : Fin cfg0.N) : Mem :=
  ⟨ms0_0 t, hs0_0 t, ms0_1 t, hs0_1 t, ms0_2 t, hs0_2 t, ms0_3 t, hs0_3 t, ms0_4 t, hs0_4 t, ms0_5 t, hs0_5 t,
    scM0_0, Memref.isWhole_whole _, scM0_1, Memref.isWhole_whole _, scM0_2, Memref.isWhole_whole _⟩

/-- The body at a grid point. -/
theorem fox_sound (c : Dev nD) (t : Fin cfg0.N) :
    foxPre m c t ⊢ wp frame (wpE (defs₀ (F := F)) Variants.none c none) Set.univ (bodyAt0 t) (fun _ => foxPost m c t) := by
  have H := wp_fox (F := F) c (memAt t) (insAt m c t) (grid0.coords t) (iprop((∃ r, prngReg c r) ∗ (foxDats m 0 c).owesAt () t.castSucc))
  unfold foxPre foxPost bodyAt0
  simp only [before_q, before_k, before_v, before_g, before_c]
  rw [show (foxDats m 0 c).Φ t.succ = (foxDats m 0 c).Φ t.castSucc from rfl,
    show (foxDats m 0 c).owesAt () t.succ = (foxDats m 0 c).owesAt () t.castSucc from rfl,
    after_q, after_k, after_v, after_g, after_c, after_o]
  rw [show (foxDats m 0 c).Φ t.castSucc = Pipeline.ΦA spec0 c from rfl, PhiA0_eq]
  refine BIBase.Entails.trans ?_ (BIBase.Entails.trans H (wp_mono _ _ _ fun _ => ?_))
  · unfold Pre
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [Hg]; · iexact Hg
    iexact Ho
  · unfold Post
    iintro ⟨H0, H1, H2, H3, H4, H5, HS0, HS1, HS2, Hg, Ho⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body's row in the table of bodies. -/
theorem fox_row (t : Fin cfg0.N) : defs₀ (F := F) .tc cfg0.body (cfg0.bodyArgs t (cfg0.slots t)) = bodyAt0 t := by
  unfold defs₀; rw [Defs.onTc_tc]

/-- The body at every grid point. -/
theorem fox_obligation (c : Dev nD) : BodyObligation (foxDats (F := F) m 0 c) (defs₀ (F := F)) Variants.none () Set.univ := fun t => by
  rw [bigSep_W0, bigSep_W0, fox_row]
  exact triple_restated (fox_sound m c t) rfl .rfl fun _ => .rfl

set_option backward.isDefEq.respectTransparency.types false in
/-- The launch: every execution ends, with the arrays at what the windows were left with and the counters at zero. -/
theorem fox_launch : θ_run defs (onTc (τ := τ) (main (F := F))) (s₀ m ρ) (fun r => (Pipeline.FramePost cfgs (foxDats m) 0 (V m)) r ∧ r.2.sem = fun _ => 0) :=
  Pipeline.θ_run_frame_shared (Q' := _) cfgs (foxDats m) (0 : Fin 1) launch₀0 defs₀ Variants.none m ρ main
    (hbody := fun c => (fox_obligation m c).loose) (hq := fun _ _ _ => rfl)
    (howed := fun _ _ => rfl) (V := V m) (hmain := hmain m Variants.none) (hA := foxDats_A m) (hΦ := fun _ _ => rfl)

end Cert.KernelIdeal.Fox
-- ==== Proof.Fox.Blocks.lean ====
/-
  The blocks a grid point is given, in terms of the arrays.
-/
module

public import proofs.«01_k».proof.Proof.Fox.Host
public import proofs.«01_k».proof.Proof.Fox.Result
public import proofs.«01_k».proof.Proof.Fox.Launch
public import Idealize.ShloMosaic.Lib.Pipeline.Value

@[expose] public section

set_option maxRecDepth 16384

noncomputable section

namespace Cert.KernelIdeal.Fox

open Idealize.ShloMosaic Idealize.ShloMosaic.TcCoe Idealize.SL.Sem Idealize.ShloMosaic.Pipeline Cert.KernelIdeal Cert.KernelIdeal.Gen

/-- Which blocks a grid point is given. -/
theorem idx_facts : ∀ t : Fin cfg0.N,
    (win0_0.index t (0 : Fin 3) = (grid0.coords t 1).val ∧ win0_0.index t (1 : Fin 3) = 4 * (grid0.coords t 0).val + (grid0.coords t 2).val ∧ win0_0.index t (2 : Fin 3) = 0)
    ∧ (win0_1.index t (0 : Fin 3) = 8 + (grid0.coords t 1).val ∧ win0_1.index t (1 : Fin 3) = (grid0.coords t 0).val ∧ win0_1.index t (2 : Fin 3) = 0)
    ∧ (win0_2.index t (0 : Fin 3) = (grid0.coords t 1).val ∧ win0_2.index t (1 : Fin 3) = 0 ∧ win0_2.index t (2 : Fin 3) = (grid0.coords t 0).val)
    ∧ (win0_3.index t (0 : Fin 3) = (grid0.coords t 1).val ∧ win0_3.index t (1 : Fin 3) = 0 ∧ win0_3.index t (2 : Fin 3) = 4 * (grid0.coords t 0).val + (grid0.coords t 2).val)
    ∧ (win0_4.index t (0 : Fin 2) = (grid0.coords t 0).val ∧ win0_4.index t (1 : Fin 2) = 0)
    ∧ (win0_5.index t (0 : Fin 3) = (grid0.coords t 1).val ∧ win0_5.index t (1 : Fin 3) = 4 * (grid0.coords t 0).val + (grid0.coords t 2).val ∧ win0_5.index t (2 : Fin 3) = 0) :=
  (by decide +kernel : ∀ t : Fin grid0.N, _)

/-- Every triple of coordinates is a grid point's. -/
theorem idx_onto : ∀ (b : Fin 4) (p : Fin 8) (i : Fin 4), ∃ t : Fin cfg0.N, (grid0.coords t 0).val = b.val ∧ (grid0.coords t 1).val = p.val ∧ (grid0.coords t 2).val = i.val :=
  (by decide +kernel : ∀ (b : Fin 4) (p : Fin 8) (i : Fin 4), ∃ t : Fin grid0.N, _)

variable {F : FTy → Type} [FloatOps F] [Named F]
variable (m : (ℓ : Loc nD τ sig) → Buf (Elt F) ℓ)

/-- The batch, head pair and query block of a grid point. -/
abbrev bOf (t : Fin cfg0.N) : Fin 4 := grid0.coords t 0
abbrev pOf (t : Fin cfg0.N) : Fin 8 := grid0.coords t 1
abbrev iOf (t : Fin cfg0.N) : Fin 4 := grid0.coords t 2

/-- A query of a grid point's block, as a position. -/
def qPos (i : Fin 4) (j : Fin 2048) : Fin 8192 := ⟨2048 * i.val + j.val, by omega⟩

theorem blk_q (c : Dev nD) (t : Fin cfg0.N) (j : Fin 2048) (l : Fin 128) :
    (insAt m c t).q (ix3 0 j l) = V m c main_v10 (ix3 ⟨(pOf t).val, by have := (pOf t).isLt; omega⟩ (row (bOf t) (qPos (iOf t) j)) l) := by
  obtain ⟨⟨h0, h1, h2⟩, -⟩ := idx_facts t
  refine congrArg (V m c main_v10) (funext fun a => Fin.ext ((win0_0.rect_emb_val t (ix3 0 j l) a).trans ?_))
  fin_cases a
  · show win0_0.index t (0 : Fin 3) * 1 + 0 = (pOf t).val
    rw [h0]; exact Nat.mul_one _
  · show win0_0.index t (1 : Fin 3) * 2048 + j.val = 8192 * (bOf t).val + (2048 * (iOf t).val + j.val)
    rw [h1]; ring
  · show win0_0.index t (2 : Fin 3) * 128 + l.val = l.val
    rw [h2]; omega

theorem blk_k (c : Dev nD) (t : Fin cfg0.N) (s : Fin 8192) (l : Fin 128) :
    (insAt m c t).k (ix3 0 s l) = V m c main_v10 (ix3 ⟨8 + (pOf t).val, by have := (pOf t).isLt; omega⟩ (row (bOf t) s) l) := by
  obtain ⟨-, ⟨h0, h1, h2⟩, -⟩ := idx_facts t
  refine congrArg (V m c main_v10) (funext fun a => Fin.ext ((win0_1.rect_emb_val t (ix3 0 s l) a).trans ?_))
  fin_cases a
  · show win0_1.index t (0 : Fin 3) * 1 + 0 = 8 + (pOf t).val
    rw [h0]; exact Nat.mul_one _
  · show win0_1.index t (1 : Fin 3) * 8192 + s.val = 8192 * (bOf t).val + s.val
    rw [h1]; ring
  · show win0_1.index t (2 : Fin 3) * 128 + l.val = l.val
    rw [h2]; omega

theorem blk_v (c : Dev nD) (t : Fin cfg0.N) (r : Fin 128) (s : Fin 8192) :
    (insAt m c t).v (ix3 0 r s) = V m c main_v14 (ix3 (pOf t) r (row (bOf t) s)) := by
  obtain ⟨-, -, ⟨h0, h1, h2⟩, -⟩ := idx_facts t
  refine congrArg (V m c main_v14) (funext fun a => Fin.ext ((win0_2.rect_emb_val t (ix3 0 r s) a).trans ?_))
  fin_cases a
  · show win0_2.index t (0 : Fin 3) * 1 + 0 = (pOf t).val
    rw [h0]; exact Nat.mul_one _
  · show win0_2.index t (1 : Fin 3) * 128 + r.val = r.val
    rw [h1]; omega
  · show win0_2.index t (2 : Fin 3) * 8192 + s.val = 8192 * (bOf t).val + s.val
    rw [h2]; ring

theorem blk_g (c : Dev nD) (t : Fin cfg0.N) (r : Fin 8) (j : Fin 2048) :
    (insAt m c t).g (ix3 0 r j) = V m c main_v20 (ix3 (pOf t) r (row (bOf t) (qPos (iOf t) j))) := by
  obtain ⟨-, -, -, ⟨h0, h1, h2⟩, -⟩ := idx_facts t
  refine congrArg (V m c main_v20) (funext fun a => Fin.ext ((win0_3.rect_emb_val t (ix3 0 r j) a).trans ?_))
  fin_cases a
  · show win0_3.index t (0 : Fin 3) * 1 + 0 = (pOf t).val
    rw [h0]; exact Nat.mul_one _
  · show win0_3.index t (1 : Fin 3) * 8 + r.val = r.val
    rw [h1]; omega
  · show win0_3.index t (2 : Fin 3) * 2048 + j.val = 8192 * (bOf t).val + (2048 * (iOf t).val + j.val)
    rw [h2]; ring

theorem blk_c (c : Dev nD) (t : Fin cfg0.N) (s : Fin 8192) (l : Fin 128) :
    (insAt m c t).c (ix2 s l) = V m c main_v16 (ix2 (row (bOf t) s) l) := by
  obtain ⟨-, -, -, -, ⟨h0, h1⟩, -⟩ := idx_facts t
  refine congrArg (V m c main_v16) (funext fun a => Fin.ext ((win0_4.rect_emb_val t (ix2 s l) a).trans ?_))
  fin_cases a
  · show win0_4.index t (0 : Fin 2) * 8192 + s.val = 8192 * (bOf t).val + s.val
    rw [h0]; ring
  · show win0_4.index t (1 : Fin 2) * 128 + l.val = l.val
    rw [h1]; omega

end Cert.KernelIdeal.Fox
-- ==== Proof.Fox.Ref.lean ====
/-
  The reference's result, read at an index: the softmax attention of the problem's scores.
-/
module

public import proofs.«01_k».proof.Proof.Gen.ReferenceIdeal.Read
public import proofs.«01_k».proof.Proof.Fox.Score
public import Idealize.ShloMosaic.Lib.Pointwise
public import Idealize.ShloMosaic.Lib.WordCmp

@[expose] public section

set_option maxRecDepth 16384

noncomputable section

namespace Cert.ReferenceIdeal.Fox

open Idealize.ShloMosaic Idealize.ShloMosaic.TcCoe Idealize.SL.Sem Idealize.ShloMosaic.StableHlo Cert.ReferenceIdeal Cert.ReferenceIdeal.Gen Cert.ReferenceIdeal.Read

/-- A maximum over the last axis of four. -/
theorem max_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = (Finset.univ : Finset (Fin n3)).fold max (init (Shape.Idx.first hu)) fun k => x (ix4 a b c k) := by
  pointwise

theorem negInf : Ideal.ofBits .f32 0xFF800000#32 = (⊥ : EReal) := by simp [Ideal.ofBits, Ideal.ieee]
theorem eighth : Ideal.ofBits .f32 0x3E000000#32 = ((1 / 8 : ℝ) : EReal) := by
  simp [Ideal.ofBits, Ideal.ieee]
  rw [← EReal.coe_mul]
  norm_num

section

variable (q k v : (⟨S4x8192x1024, .f32⟩ : BufTy).Contents (Elt Ideal)) (c : (⟨S4x8192x16, .f32⟩ : BufTy).Contents (Elt Ideal))

/-- The masked scores. -/
theorem scores_at (b : Fin 4) (e : Fin 16) (i j : Fin 8192) : val_main_v19 q k c (ix4 b e i j) = if j.val ≤ i.val then
    (∑ x : Fin 64, q (ix3 b i (Cert.Fox.lane e x)) * k (ix3 b j (Cert.Fox.lane e x))) * Ideal.ofBits .f32 0x3E000000#32 + c (ix3 b i e) - c (ix3 b j e) else ⊥ := by
  pointwise [val_main_v19, val_main_v13, val_main_v12, val_main_v11, val_main_v10, val_main_v9, val_main_v8, val_main_v7, val_main_v6, val_main_v5, val_main_v4, val_main_v3, val_main_v1, val_main_v0, val_main_v14, val_main_v15, val_main_v16, val_main_v17, val_main_v18, val_main_cst, val_main_call0_v0, val_main_call0_v1, val_main_call0_v2, val_main_cst_0]
  have hi := i.isLt
  have hj := j.isLt
  rw [WordCmp.cmpi_sle_ofNat (by omega) (by omega), WordCmp.select_ofBool, ← negInf]
  simp only [decide_eq_true_eq]
  rfl

/-- The maximum that is subtracted. -/
theorem max_at (b : Fin 4) (e : Fin 16) (i : Fin 8192) :
    val_main_v22 q k c (ix3 b e i) = max (⊥ : EReal) ((Finset.univ : Finset (Fin 8192)).fold max (⊥ : EReal) fun j => val_main_v19 q k c (ix4 b e i j)) := by
  have h21 : val_main_v21 (F := Ideal) (ix3 b e i) = (⊥ : EReal) := (val_main_v21_apply _).trans ((val_main_cst_2_apply _).trans negInf)
  have h20 : val_main_v20 q k c (ix3 b e i) = (Finset.univ : Finset (Fin 8192)).fold max (⊥ : EReal) fun j => val_main_v19 q k c (ix4 b e i j) := by
    rw [val_main_v20, max_last, val_main_cst_1_apply]
    rw [show FloatOps.ofBits (F := Ideal) .f32 0xFF800000#32 = (⊥ : EReal) from negInf]
  rw [val_main_v22_apply, h21, h20]
  rfl

/-- The weights. -/
theorem weights_at (b : Fin 4) (e : Fin 16) (i j : Fin 8192) : val_main_v30 q k c (ix4 b e i j)
    = Ideal.div (Ideal.exp (val_main_v19 q k c (ix4 b e i j) - val_main_v22 q k c (ix3 b e i)))
      (∑ x : Fin 8192, Ideal.exp (val_main_v19 q k c (ix4 b e i x) - val_main_v22 q k c (ix3 b e i))) := by
  pointwise [val_main_v30, val_main_v29, val_main_v28, val_main_v27, val_main_v26, val_main_v25, val_main_v24, val_main_v23, val_main_cst_3]

/-- The result, as weighted values. -/
theorem out_at (p : Fin 8) (b : Fin 4) (J : Fin 8192) (h : Fin 2) (d : Fin 64) :
    val_main_v35 q k v c (ix3 p ⟨8192 * b.val + J.val, by omega⟩ ⟨64 * h.val + d.val, by omega⟩)
      = ∑ x : Fin 8192, v (ix3 b x (Cert.Fox.lane (Cert.Fox.head p h) d)) * val_main_v30 q k c (ix4 b (Cert.Fox.head p h) J x) := by
  pointwise [val_main_v35, val_main_v34, val_main_v33, val_main_v32, val_main_v31, val_main_v2]
  refine Finset.sum_congr rfl fun x _ => ?_
  have hJ := J.isLt
  have hd := d.isLt
  have e3 : (⟨p.val * 2 + (64 * h.val + d.val) / 64, by omega⟩ : Fin 16) = Cert.Fox.head p h := Fin.ext (by show p.val * 2 + (64 * h.val + d.val) / 64 = 2 * p.val + h.val; omega)
  have e4 : (⟨(p.val * 2 + (64 * h.val + d.val) / 64) * 64 + d.val, by omega⟩ : Fin 1024) = Cert.Fox.lane (Cert.Fox.head p h) d :=
    Fin.ext (by show (p.val * 2 + (64 * h.val + d.val) / 64) * 64 + d.val = (2 * p.val + h.val) * 64 + d.val; omega)
  exact congrArg₂ (· * ·) (congrArg v (congrArg (ix3 b x) e4)) (congrArg (val_main_v30 q k c) (congrArg (fun e => ix4 b e J x) e3))

/-- Of real queries, keys and gates, the result is the attention of the problem's scores. -/
theorem ref_at {Q K : Fin 4 → Fin 8192 → Fin 1024 → ℝ} {C : Fin 4 → Fin 8192 → Fin 16 → ℝ} (hq : ∀ b i e, q (ix3 b i e) = ((Q b i e : ℝ) : EReal))
    (hk : ∀ b i e, k (ix3 b i e) = ((K b i e : ℝ) : EReal)) (hc : ∀ b i e, c (ix3 b i e) = ((C b i e : ℝ) : EReal))
    (p : Fin 8) (b : Fin 4) (J : Fin 8192) (h : Fin 2) (d : Fin 64) :
    val_main_v35 q k v c (ix3 p ⟨8192 * b.val + J.val, by omega⟩ ⟨64 * h.val + d.val, by omega⟩)
      = Cert.Fox.attn (fun t => Cert.Fox.score Q K C b (Cert.Fox.head p h) J t * (Real.log 2)⁻¹)
        (fun t => v (ix3 b (Cert.Fox.pos t) (Cert.Fox.lane (Cert.Fox.head p h) d))) J.val := by
  rw [out_at]
  refine Eq.trans ?_ (Cert.Fox.softmax_attn (Cert.Fox.score Q K C b (Cert.Fox.head p h) J) _ J.isLt (fun j => val_main_v19 q k c (ix4 b (Cert.Fox.head p h) J j)) ?_ _ (max_at q k c b _ J))
  · refine Finset.sum_congr rfl fun x _ => ?_
    rw [weights_at, Cert.Fox.pos_val, zero_add]
  · intro t
    rw [scores_at]
    refine if_congr Iff.rfl ?_ rfl
    simp only [hq, hk, hc, eighth, ← EReal.coe_mul, Cert.Fox.sum_coe, ← EReal.coe_add, ← EReal.coe_sub]
    rw [Cert.Fox.score, Cert.Fox.pos_val]

end

end Cert.ReferenceIdeal.Fox
-- ==== Proof.Fox.Array.lean ====
/-
  The array the kernel leaves: the attention of the reference, index by index.
-/
module

public import proofs.«01_k».proof.Proof.Fox.Blocks
public import proofs.«01_k».proof.Proof.Fox.Ref

@[expose] public section

set_option maxRecDepth 16384

noncomputable section

namespace Cert.KernelIdeal.Fox

open Idealize.ShloMosaic Idealize.ShloMosaic.TcCoe Idealize.SL.Sem Idealize.ShloMosaic.Pipeline Cert.KernelIdeal Cert.KernelIdeal.Gen
open Cert.Fox (lane head pos pos_val score)

/-- A sum over a pair's 128 lanes, of which those of one head are kept, is the sum over that head's 64 lanes. -/
theorem sum_head (f g : Fin 128 → ℝ) (h : Fin 2) :
    ∑ l : Fin 128, f l * (if l.val / 64 = h.val then g l else 0) = ∑ d : Fin 64, f ⟨64 * h.val + d.val, by omega⟩ * g ⟨64 * h.val + d.val, by omega⟩ := by
  rw [← Equiv.sum_comp (finProdFinEquiv : Fin 2 × Fin 64 ≃ Fin 128), Fintype.sum_prod_type, Finset.sum_eq_single h]
  · refine Finset.sum_congr rfl fun d _ => ?_
    have e : (finProdFinEquiv (h, d) : Fin (2 * 64)) = (⟨64 * h.val + d.val, by omega⟩ : Fin 128) := Fin.ext (by show d.val + 64 * h.val = 64 * h.val + d.val; omega)
    rw [e, if_pos (by show (64 * h.val + d.val) / 64 = h.val; omega)]
  · intro a _ ha
    refine Finset.sum_eq_zero fun d _ => ?_
    have e : ((finProdFinEquiv (a, d) : Fin (2 * 64)).val) / 64 = a.val := by show (d.val + 64 * a.val) / 64 = a.val; omega
    rw [if_neg (by rw [e]; exact fun e' => ha (Fin.ext e')), mul_zero]
  · exact fun h' => absurd (Finset.mem_univ _) h'

/-- The numbers a grid point works on. -/
def numsAt (Q K : Fin 4 → Fin 8192 → Fin 1024 → ℝ) (C : Fin 4 → Fin 8192 → Fin 16 → ℝ) (v : (⟨S4x8192x1024, .f32⟩ : BufTy).Contents (Elt Ideal)) (b : Fin 4) (p : Fin 8) (i : Fin 4) : Nums where
  q j l := Q b (qPos i j) ⟨p.val * 128 + l.val, by omega⟩ * (1 / 8) * lam
  k t l := K b (pos t) ⟨p.val * 128 + l.val, by omega⟩
  g h j := C b (qPos i j) (head p h)
  c h t := C b (pos t) (head p h)
  v h d t := v (ix3 b (pos t) (lane (head p h) d))

/-- The exponents are the scores in base two. -/
theorem numsAt_U (Q K : Fin 4 → Fin 8192 → Fin 1024 → ℝ) (C : Fin 4 → Fin 8192 → Fin 16 → ℝ) (v : (⟨S4x8192x1024, .f32⟩ : BufTy).Contents (Elt Ideal)) (b : Fin 4) (p : Fin 8) (i : Fin 4) (h : Fin 2) (j : Fin 2048) (t : ℕ) :
    (numsAt Q K C v b p i).U h j t = score Q K C b (head p h) (qPos i j) t * lam := by
  have e : ∀ d : Fin 64, (⟨p.val * 128 + (64 * h.val + d.val), by omega⟩ : Fin 1024) = lane (head p h) d :=
    fun d => Fin.ext (by show p.val * 128 + (64 * h.val + d.val) = (2 * p.val + h.val) * 64 + d.val; omega)
  unfold Nums.U Nums.D Nums.qm score
  rw [sum_head]
  simp only [numsAt, e]
  rw [show ∀ S x y : ℝ, (S * (1 / 8) + x - y) * lam = S * ((1 / 8) * lam) - y * lam + x * lam from fun S x y => by ring, Finset.sum_mul]
  refine congrArg (fun s : ℝ => s - _ + _) (Finset.sum_congr rfl fun d _ => by ring)

variable (m : (ℓ : Loc nD τ sig) → Buf (Elt Ideal) ℓ)

/-- The four arguments. -/
abbrev argQ (c : Dev nD) : (⟨S4x8192x1024, .f32⟩ : BufTy).Contents (Elt Ideal) := m ((c : Thread nD τ).loc main_arg0)
abbrev argK (c : Dev nD) : (⟨S4x8192x1024, .f32⟩ : BufTy).Contents (Elt Ideal) := m ((c : Thread nD τ).loc main_arg1)
abbrev argV (c : Dev nD) : (⟨S4x8192x1024, .f32⟩ : BufTy).Contents (Elt Ideal) := m ((c : Thread nD τ).loc main_arg2)
abbrev argC (c : Dev nD) : (⟨S4x8192x16, .f32⟩ : BufTy).Contents (Elt Ideal) := m ((c : Thread nD τ).loc main_arg3)

section

variable {Q K : Fin 4 → Fin 8192 → Fin 1024 → ℝ} {C : Fin 4 → Fin 8192 → Fin 16 → ℝ} {c : Dev nD}
  (hq : ∀ b i e, argQ m c (ix3 b i e) = (Q b i e : EReal)) (hk : ∀ b i e, argK m c (ix3 b i e) = (K b i e : EReal)) (hc : ∀ b i e, argC m c (ix3 b i e) = (C b i e : EReal))

include hq hk hc

/-- A grid point's blocks hold its numbers. -/
theorem reads_at (t : Fin cfg0.N) : Reads (grid0.coords t 1).val (grid0.coords t 1).isLt (insAt m c t) (numsAt Q K C (argV m c) (bOf t) (pOf t) (iOf t)) where
  q j l := by
    rw [blk_q, V_qk]
    exact q_at (argQ m c) (argK m c) (pOf t) (bOf t) (qPos (iOf t) j) l (hq _ _ _)
  k s l := by
    rw [blk_k, V_qk]
    refine (k_at (argQ m c) (argK m c) (pOf t) (bOf t) s l).trans ((hk _ _ _).trans ?_)
    show _ = ((K (bOf t) (pos s.val) _ : ℝ) : EReal)
    rw [pos_val]
  v h d s := by
    rw [blk_v, V_v]
    refine (v_at (argV m c) (pOf t) (bOf t) s h d).trans ?_
    show _ = argV m c (ix3 (bOf t) (pos s.val) _)
    rw [pos_val]
  g h j := by
    rw [blk_g, V_g]
    exact (g_at (argC m c) (pOf t) h (bOf t) (qPos (iOf t) j)).trans (hc _ _ _)
  c h s := by
    rw [blk_c, V_c]
    have e := (c_at (argC m c) (bOf t) s (head (pOf t) h)).trans (hc _ _ _)
    refine Eq.trans (congrArg (cArr (argC m c)) (congrArg (ix2 _) (Fin.ext ?_))) (e.trans ?_)
    · show 16 + 2 * (pOf t).val + h.val = 16 + (2 * (pOf t).val + h.val)
      omega
    · show _ = ((C (bOf t) (pos s.val) _ : ℝ) : EReal)
      rw [pos_val]

/-- What a grid point stores is its block of the reference's result. -/
theorem stored (t : Fin cfg0.N) (j : Fin 2048) (h : Fin 2) (d : Fin 64) :
    result (insAt m c t) (grid0.coords t) (ix3 0 j ⟨64 * h.val + d.val, by omega⟩)
      = Cert.ReferenceIdeal.Read.val_main_v35 (argQ m c) (argK m c) (argV m c) (argC m c) (ix3 (pOf t) (row (bOf t) (qPos (iOf t) j)) ⟨64 * h.val + d.val, by omega⟩) := by
  rw [result_apply (grid0.coords t) (reads_at m hq hk hc t) j h d]
  refine Eq.trans ?_ (Cert.ReferenceIdeal.Fox.ref_at (argQ m c) (argK m c) (argV m c) (argC m c) hq hk hc (pOf t) (bOf t) (qPos (iOf t) j) h d).symm
  rw [show (numsAt Q K C (argV m c) (bOf t) (pOf t) (iOf t)).U h j = _ from funext fun s => numsAt_U Q K C (argV m c) (bOf t) (pOf t) (iOf t) h j s]
  rfl

theorem flushed_o (t : Fin cfg0.N) : (foxDats m 0 c).flushed 5 t
    = ((cfg0.win 5).blk t).view.read (Elt Ideal) (Cert.ReferenceIdeal.Read.val_main_v35 (argQ m c) (argK m c) (argV m c) (argC m c)) := by
  show (cfg0.win 5).cut (grid0.coords t) ((foxDats m 0 c).after 5 t) = _
  rw [after_o]
  refine funext fun (y : S1x2048x128.Idx) => ?_
  obtain ⟨-, -, -, -, -, h0, h1, h2⟩ := idx_facts t
  have hy : y = ix3 0 (y 1 : Fin 2048) (⟨64 * ((y 2).val / 64) + (y 2).val % 64, by have : (y 2).val < 128 := (y 2).isLt; omega⟩ : Fin 128) := by
    funext a
    fin_cases a
    · exact Subsingleton.elim (α := Fin 1) _ _
    · rfl
    · exact Fin.ext (Nat.div_add_mod (y 2).val 64).symm
  have hl : (y 2).val < 128 := (y 2).isLt
  have e := stored m hq hk hc t (y 1) ⟨(y 2).val / 64, by omega⟩ ⟨(y 2).val % 64, by omega⟩
  refine Eq.trans (congrArg (result (insAt m c t) (grid0.coords t)) hy) (e.trans (congrArg (Cert.ReferenceIdeal.Read.val_main_v35 (argQ m c) (argK m c) (argV m c) (argC m c))
    (funext fun a => Fin.ext (Eq.trans ?_ (win0_5.rect_emb_val t y a).symm))))
  fin_cases a
  · show (pOf t).val = win0_5.index t (0 : Fin 3) * 1 + (y 0).val
    have : (y 0).val < 1 := (y 0).isLt
    rw [h0, show (y 0).val = 0 by omega]
    exact (Nat.mul_one _).symm
  · show 8192 * (bOf t).val + (2048 * (iOf t).val + (y 1).val) = win0_5.index t (1 : Fin 3) * 2048 + (y 1).val
    rw [h1]; ring
  · show 64 * ((y 2).val / 64) + (y 2).val % 64 = win0_5.index t (2 : Fin 3) * 128 + (y 2).val
    rw [h2]; omega

omit hq hk hc in
/-- Every index of the result is in the block of some grid point. -/
theorem cover_o (y : S8x32768x128.Idx) : ∃ t : Fin cfg0.N, (cfg0.win 5).flush t = true ∧ y ∈ ((cfg0.win 5).blk t).view.set := by
  have y0 : (y 0).val < 8 := (y 0).isLt
  have y1 : (y 1).val < 32768 := (y 1).isLt
  have y2 : (y 2).val < 128 := (y 2).isLt
  obtain ⟨t, hb, hp, hi⟩ := idx_onto ⟨(y 1).val / 8192, by omega⟩ ⟨(y 0).val, y0⟩ ⟨(y 1).val / 2048 % 4, by omega⟩
  obtain ⟨-, -, -, -, -, h0, h1, h2⟩ := idx_facts t
  rw [hp] at h0
  rw [hb, hi] at h1
  refine ⟨t, flush0_5 t, ?_⟩
  show y ∈ ((View.whole main_v21).slice (win0_5.rect t)).set
  rw [View.set_slice_whole, Rect.mem_set_unit]
  intro a
  fin_cases a
  · show win0_5.index t (0 : Fin 3) * 1 ≤ (y 0).val ∧ (y 0).val < win0_5.index t (0 : Fin 3) * 1 + 1
    rw [h0]; dsimp only; omega
  · show win0_5.index t (1 : Fin 3) * 2048 ≤ (y 1).val ∧ (y 1).val < win0_5.index t (1 : Fin 3) * 2048 + 2048
    rw [h1]; dsimp only; omega
  · show win0_5.index t (2 : Fin 3) * 128 ≤ (y 2).val ∧ (y 2).val < win0_5.index t (2 : Fin 3) * 128 + 128
    rw [h2]; omega

/-- The kernel's result is the reference's. -/
theorem final_o : (foxDats m 0 c).arrAt 5 cfg0.N = Cert.ReferenceIdeal.Read.val_main_v35 (argQ m c) (argK m c) (argV m c) (argC m c) :=
  (foxDats m 0 c).arrAt_eq_of_cover 5 _ (fun t _ => flushed_o m hq hk hc t) cover_o

end

end Cert.KernelIdeal.Fox
-- ==== Proof.Fox.Finite.lean ====
/-
  The precondition: every query, key and gate is a real number.
-/
module

public import proofs.«01_k».proof.Defs
public import proofs.«01_k».proof.Proof.Gen.Pre_finite
public import Idealize.ShloMosaic.Lib.Pointwise
public import Idealize.ShloMosaic.Lib.ReduceAll

@[expose] public section

set_option maxRecDepth 16384

noncomputable section

namespace Cert.Pre_finite.Fox

open Idealize.ShloMosaic Idealize.ShloMosaic.TcCoe Idealize.SL.Sem Cert.Pre_finite

/-- An extended real whose absolute value is below infinity is real. -/
theorem real_of_lt (x : EReal) (h : Ideal.cmp .olt (max x (-x)) (Ideal.ofBits .f32 0x7F800000#32) = 1#1) : x = ((x.toReal : ℝ) : EReal) := by
  rw [show Ideal.ofBits .f32 0x7F800000#32 = (⊤ : EReal) by simp [Ideal.ofBits, Ideal.ieee]] at h
  have hlt : max x (-x) < ⊤ := by
    by_contra hn
    simp [Ideal.cmp, hn] at h
  refine (EReal.coe_toReal ?_ ?_).symm
  · rintro rfl
    simp at hlt
  · rintro rfl
    simp at hlt

instance : Subsingleton S_.Idx := ⟨fun a b => funext fun i => i.elim0⟩

/-- The word the test leaves is one only if the test passed everywhere. -/
theorem all_real {s : Shape} {axes : List (Fin s.rank)} (x : FVec Ideal s .f32) (bc : S_.BroadcastsInDim s ![]) (h : s.ReducesTo axes S_) (hu : 0 < S_.numel) (j : S_.Idx)
    (e : Host.reduce IntOp.andi (cmpf .olt (Host.absf x) (broadcastInDim s ![] bc (constant S_ .f32 0x7F800000#32))) (constantI S_ 1 1#1) h hu j = 1#1) (i : s.Idx) :
    x i = (((x i : EReal).toReal : ℝ) : EReal) :=
  real_of_lt _ (Host.reduce_andi_all _ _ h hu j e i)

theorem reals (q k v : FVec Ideal S4x8192x1024 .f32) (c : FVec Ideal S4x8192x16 .f32) (H : Cert.Pre_finite.fn (F := Ideal) q k v c = fun _ => 1#1) :
    (∀ i, q i = (((q i : EReal).toReal : ℝ) : EReal)) ∧ (∀ i, k i = (((k i : EReal).toReal : ℝ) : EReal)) ∧ (∀ i, c i = (((c i : EReal).toReal : ℝ) : EReal)) := by
  have H0 := congrFun H ix0
  obtain ⟨h1, hc⟩ := IntOp.andi_eq_one.1 H0
  obtain ⟨hq, hk⟩ := IntOp.andi_eq_one.1 h1
  exact ⟨all_real q _ _ _ _ hq, all_real k _ _ _ _ hk, all_real c _ _ _ _ hc⟩

end Cert.Pre_finite.Fox
-- ==== Proof.Fox.Run.lean ====
/-
  The kernel's run over the extended reals, when queries, keys and gates are real: the result is the reference's.
-/
module

public import proofs.«01_k».proof.Proof.Fox.Array
public import proofs.«01_k».proof.Proof.Fox.Finite

@[expose] public section

noncomputable section

namespace Cert.KernelIdeal.Fox

open Idealize.ShloMosaic Idealize.ShloMosaic.TcCoe Idealize.SL.Sem Idealize.ShloMosaic.Pipeline Cert.KernelIdeal Cert.KernelIdeal.Gen

variable (m : (ℓ : Loc nD τ sig) → Buf (Elt Ideal) ℓ) (ρ : Dev nD → PrngReg)

/-- On every device the result ends as the reference's value of the arguments, and the arguments as they were. -/
theorem run (H : Cert.Pre_KernelIdeal_finite m) :
    θ_run defs (onTc (τ := τ) (main (F := Ideal))) ⟨m, fun _ => 0, ρ⟩ (fun r => ∀ c : Dev nD,
      r.2.mem ((c.tc : Thread nD τ).loc main_v21) = Cert.ReferenceIdeal.Read.val_main_v35 (argQ m c) (argK m c) (argV m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (fox_launch m ρ)
  obtain ⟨hq, hk, hc⟩ := Cert.Pre_finite.Fox.reals (argQ m c) (argK m c) (argV m c) (argC m c) (H c)
  have w := h.1 c
  exact ⟨(w.1 5).trans (final_o m (Q := fun b i e => (argQ m c (ix3 b i e) : EReal).toReal) (K := fun b i e => (argK m c (ix3 b i e) : EReal).toReal)
      (C := fun b i e => (argC m c (ix3 b i e) : EReal).toReal) (fun b i e => hq _) (fun b i e => hk _) (fun b i e => hc _)),
    (w.2 main_arg0 (mem_restRefs_of main_arg0 (by decide) (by decide))).trans (V_main_arg0 m c),
    (w.2 main_arg1 (mem_restRefs_of main_arg1 (by decide) (by decide))).trans (V_main_arg1 m c),
    (w.2 main_arg2 (mem_restRefs_of main_arg2 (by decide) (by decide))).trans (V_main_arg2 m c),
    (w.2 main_arg3 (mem_restRefs_of main_arg3 (by decide) (by decide))).trans (V_main_arg3 m c)⟩

end Cert.KernelIdeal.Fox
-- ==== Proof.Conv.Payload.lean ====
/-
  The convolution kernel's values as plain functions of vectors: a column of the new rows, a tap of the convolution, and
  the block written out from the convolution's result.
-/
module

public import proofs.«01_k».proof.Proof.Gen.KernelConvIdeal
public import Idealize.ShloMosaic.Lib.VecWindow

@[expose] public section

noncomputable section

namespace Cert.KernelConvIdeal.Conv

open Idealize.ShloMosaic Idealize.SL.Sem Cert.KernelConvIdeal Cert.KernelConvIdeal.Gen

variable {F : FTy → Type} [FloatOps F]

/-- A column of new rows, widened. -/
def newCol (v : Vec F S1x512x128 .bf16) : FVec F S512x128 .f32 :=
  shapeCast S512x128 (extf .f32 (shapeCast S512x128 v shapeCasts_S1x512x128_S512x128) bitsLt_bf16_f32) shapeCasts_S512x128_S512x128

/-- The bias of a column in every row. -/
def biasCol (b : Vec F S1x128 .f32) : FVec F S512x128 .f32 :=
  broadcastTo S512x128 (shapeCast S1x128 b shapeCasts_S1x128_S1x128) broadcasts_S1x128_S512x128

/-- One tap more. -/
def addTap (a s : FVec F S512x128 .f32) (w : Vec F S1x128 .f32) : FVec F S512x128 .f32 :=
  addf a (mulf s (broadcastTo S512x128 w broadcasts_S1x128_S512x128))

/-- The sum over a row of 2048, divided by 2048. -/
def rowMean (v : FVec F S512x2048 .f32) : FVec F S512x1 .f32 :=
  divf (shapeCast S512x1 (multiReduction .add [1] S512 v 0x00000000#32 reduces_S512x2048_S512 (.inl rfl) rfl) shapeCasts_S512_S512x1)
    (broadcast S512x1 (Scalar.ofBits .f32 0x45000000#32))

/-- The rows less their means. -/
def centred (v : FVec F S512x2048 .f32) : FVec F S512x2048 .f32 := subf v (broadcastTo S512x2048 (rowMean v) broadcasts_S512x1_S512x2048)

/-- The layer norm of the rows. -/
def normed (v : FVec F S512x2048 .f32) (g b : Vec F S1x2048 .f32) : FVec F S512x2048 .f32 :=
  addf (mulf (mulf (centred v) (broadcastTo S512x2048 (rsqrt (addf (rowMean (mulf (centred v) (centred v))) (broadcast S512x1 (Scalar.ofBits .f32 0x358637BD#32)))) broadcasts_S512x1_S512x2048))
    (broadcastTo S512x2048 (shapeCast S1x2048 g shapeCasts_S1x2048_S1x2048) broadcasts_S1x2048_S512x2048))
    (broadcastTo S512x2048 (shapeCast S1x2048 b shapeCasts_S1x2048_S1x2048) broadcasts_S1x2048_S512x2048)

/-- `v` times its logistic function. -/
def silu (v : FVec F S512x2048 .f32) : FVec F S512x2048 .f32 :=
  mulf v (divf (broadcast S512x2048 (Scalar.ofBits .f32 0x3F800000#32))
    (addf (broadcast S512x2048 (Scalar.ofBits .f32 0x3F800000#32)) (exp (subf (broadcast S512x2048 (Scalar.ofBits .f32 0x00000000#32)) v))))

/-- Sixteen columns side by side, widened. -/
def sideBySide (f : Fin 16 → FVec F S512x128 .bf16) : FVec F S512x2048 .f32 :=
  extf .f32 (concatenate S512x2048 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩,
    ⟨S512x128, f 8⟩, ⟨S512x128, f 9⟩, ⟨S512x128, f 10⟩, ⟨S512x128, f 11⟩, ⟨S512x128, f 12⟩, ⟨S512x128, f 13⟩, ⟨S512x128, f 14⟩, ⟨S512x128, f 15⟩]
    concatenates_S512x128_S512x128_S512x128_S512x128_S512x128_S512x128_S512x128_S512x128_S512x128_S512x128_S512x128_S512x128_S512x128_S512x128_S512x128_S512x128_S512x2048_d1) bitsLt_bf16_f32

/-- The gated rows times the projection. -/
def projected (n : FVec F S512x2048 .f32) (z : FVec F S512x2048 .f32) (w : Vec F S2048x1024 .bf16) : FVec F S512x1024 .f32 :=
  matmul dot_S512x2048_S2048x1024_S512x1024_1_0_0_1_n_n none (truncf .bf16 (mulf (silu n) (silu z)) bitsLt_bf16_f32)
    (shapeCast S2048x1024 w shapeCasts_S2048x1024_S2048x1024) (constant S512x1024 .f32 0x00000000#32)

/-- The sum over a row of 1024, divided by 1024. -/
def rowMean' (v : FVec F S512x1024 .f32) : FVec F S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- The residual and the projection's root-mean-square norm. -/
def added (x : Vec F S512x1024 .f32) (p : FVec F S512x1024 .f32) (g : Vec F S1x1024 .f32) : FVec F S512x1024 .f32 :=
  addf (shapeCast S512x1024 x shapeCasts_S512x1024_S512x1024)
    (mulf (mulf p (broadcastTo S512x1024 (rsqrt (addf (rowMean' (mulf p p)) (broadcast S512x1 (Scalar.ofBits .f32 0x358637BD#32)))) broadcasts_S512x1_S512x1024))
      (broadcastTo S512x1024 (shapeCast S1x1024 g shapeCasts_S1x1024_S1x1024) broadcasts_S1x1024_S512x1024))

end Cert.KernelConvIdeal.Conv
-- ==== Proof.Conv.Program.lean ====
/-
  The kernel's memory operations, written once for every column of 128 lanes: the new rows go under the 32 rows kept from
  before, seven shifted copies of a column are stored, its taps are summed, and at the end the last 32 rows are kept and
  the block is written out. The printed body is this program.
-/
module

public import proofs.«01_k».proof.Proof.Conv.Payload

@[expose] public section

set_option maxRecDepth 65536

noncomputable section

namespace Cert.KernelConvIdeal.Conv

open Idealize.ShloMosaic Idealize.SL.Sem Cert.KernelConvIdeal Cert.KernelConvIdeal.Gen

variable {F : FTy → Type} [FloatOps F]

/-- The kernel's buffers. -/
structure Mem where
  h : Memref sig .tc .vmem S16x512x128 .bf16
  hh : h.IsWhole
  z : Memref sig .tc .vmem S16x512x128 .bf16
  hz : z.IsWhole
  x : Memref sig .tc .vmem S512x1024 .f32
  hx : x.IsWhole
  cw : Memref sig .tc .vmem S31x2048 .f32
  hcw : cw.IsWhole
  cb : Memref sig .tc .vmem S1x2048 .f32
  hcb : cb.IsWhole
  lg : Memref sig .tc .vmem S1x2048 .f32
  hlg : lg.IsWhole
  lb : Memref sig .tc .vmem S1x2048 .f32
  hlb : lb.IsWhole
  w : Memref sig .tc .vmem S2048x1024 .bf16
  hw : w.IsWhole
  g : Memref sig .tc .vmem S1x1024 .f32
  hg : g.IsWhole
  o : Memref sig .tc .vmem S512x1024 .f32
  ho : o.IsWhole
  e : Memref sig .tc .vmem S544x2048 .f32
  he : e.IsWhole
  y : Memref sig .tc .vmem S512x2048 .f32
  hy : y.IsWhole
  s : Memref sig .tc .vmem S7x536x128 .f32
  hs : s.IsWhole

/-- A program of the kernel that returns nothing. -/
abbrev Pg (F : FTy → Type) := Prog (TpuEff nD τ sig (Elt F) Λ₀ .tc) PUnit

theorem inb_h (c : Fin 16) : ∀ a, (![c.val, 0, 0] : Fin 3 → ℕ) a + S1x512x128.size a ≤ S16x512x128.size a := by
  have := c.isLt
  intro a; fin_cases a <;> simp [S1x512x128, S16x512x128] <;> omega
theorem inb_e (o : ℕ) (ho : o ≤ 32) (c : Fin 16) : ∀ a, (![o, 128 * c.val] : Fin 2 → ℕ) a + S512x128.size a ≤ S544x2048.size a := by
  have := c.isLt
  intro a; fin_cases a <;> simp [S512x128, S544x2048] <;> omega
theorem inb_e7 (r : Fin 7) (c : Fin 16) : ∀ a, (![r.val + 1, 128 * c.val] : Fin 2 → ℕ) a + S536x128.size a ≤ S544x2048.size a := by
  have := c.isLt; have := r.isLt
  intro a; fin_cases a <;> simp [S536x128, S544x2048] <;> omega
theorem inb_s7 (r : Fin 7) : ∀ a, (![r.val, 0, 0] : Fin 3 → ℕ) a + S1x536x128.size a ≤ S7x536x128.size a := by
  have := r.isLt
  intro a; fin_cases a <;> simp [S1x536x128, S7x536x128] <;> omega
theorem inb_s (k : Fin 31) (hk : ¬(k.val + 2) % 8 = 0) :
    ∀ a, (![(k.val + 2) % 8 - 1, (k.val + 2) / 8 * 8, 0] : Fin 3 → ℕ) a + S1x512x128.size a ≤ S7x536x128.size a := by
  have := k.isLt
  intro a; fin_cases a <;> simp [S1x512x128, S7x536x128] <;> omega
theorem inb_cw (k : Fin 31) (c : Fin 16) : ∀ a, (![k.val, 128 * c.val] : Fin 2 → ℕ) a + S1x128.size a ≤ S31x2048.size a := by
  have := c.isLt; have := k.isLt
  intro a; fin_cases a <;> simp [S1x128, S31x2048] <;> omega
theorem inb_cb (c : Fin 16) : ∀ a, (![0, 128 * c.val] : Fin 2 → ℕ) a + S1x128.size a ≤ S1x2048.size a := by
  have := c.isLt
  intro a; fin_cases a <;> simp [S1x128, S1x2048] <;> omega
theorem inb_y (c : Fin 16) : ∀ a, (![0, 128 * c.val] : Fin 2 → ℕ) a + S512x128.size a ≤ S512x2048.size a := by
  have := c.isLt
  intro a; fin_cases a <;> simp [S512x128, S512x2048] <;> omega

/-- All sixteen columns. -/
def cols : List (Fin 16) := [0, 1, 2, 3, 4, 5, 6, 7, 8, 9, 10, 11, 12, 13, 14, 15]
/-- All thirty-one taps. -/
def allTaps : List (Fin 31) := [0, 1, 2, 3, 4, 5, 6, 7, 8, 9, 10, 11, 12, 13, 14, 15, 16, 17, 18, 19, 20, 21, 22, 23, 24, 25, 26, 27, 28, 29, 30]

/-- The first rows of a batch have nothing before them. -/
def clear (i : grid0.Coords) (X : Mem) (K : Pg F) : Pg F :=
  if Scalar.cmpi .ne (Scalar.extui (Scalar.cmpi .eq (BitVec.ofNat 32 (i 1).val) 0#32) : BitVec 32) 0#32 = 1#1 then
    .op (.load X.e (Rect.unit (s := S544x2048) ![0, 0] S32x2048.size inb_S544x2048_S32x2048_0_0).toLoadRect (View.loadsAt_vmem h_S32x2048)) fun _ =>
    .op (.store X.e (Rect.unit (s := S544x2048) ![0, 0] S32x2048.size inb_S544x2048_S32x2048_0_0)
      (shapeCast S32x2048 (broadcast S32x2048 (Scalar.ofBits (F := F) .f32 0x00000000#32)) shapeCasts_S32x2048_S32x2048) Finset.univ
      (View.stores_vmem_bits_univ h_S32x2048 rfl) (.inl rfl)) fun _ => K
  else K

/-- The new rows go under the kept ones, a column at a time. -/
def fill (X : Mem) (K : Pg F) : List (Fin 16) → Pg F
  | [] => K
  | c :: cs =>
    .op (.load X.h (Rect.unit (s := S16x512x128) ![c.val, 0, 0] S1x512x128.size (inb_h c)).toLoadRect (View.loadsAt_vmem h_S1x512x128)) fun v =>
    .op (.load X.e (Rect.unit (s := S544x2048) ![32, 128 * c.val] S512x128.size (inb_e 32 le_rfl c)).toLoadRect (View.loadsAt_vmem h_S512x128)) fun _ =>
    .op (.store X.e (Rect.unit (s := S544x2048) ![32, 128 * c.val] S512x128.size (inb_e 32 le_rfl c)) (newCol v) Finset.univ
      (View.stores_vmem_bits_univ h_S512x128 rfl) (.inl rfl)) fun _ => fill X K cs

/-- The shifted copies of a column. -/
def shifts (X : Mem) (c : Fin 16) (K : Pg F) : List (Fin 7) → Pg F
  | [] => K
  | r :: rs =>
    .op (.load X.e (Rect.unit (s := S544x2048) ![r.val + 1, 128 * c.val] S536x128.size (inb_e7 r c)).toLoadRect (View.loadsAt_vmem h_S536x128)) fun v =>
    .op (.load X.s (Rect.unit (s := S7x536x128) ![r.val, 0, 0] S1x536x128.size (inb_s7 r)).toLoadRect (View.loadsAt_vmem h_S1x536x128)) fun _ =>
    .op (.store X.s (Rect.unit (s := S7x536x128) ![r.val, 0, 0] S1x536x128.size (inb_s7 r)) (shapeCast S1x536x128 v shapeCasts_S536x128_S1x536x128) Finset.univ
      (View.stores_vmem_bits_univ h_S1x536x128 rfl) (.inl rfl)) fun _ => shifts X c K rs

/-- The rows a tap reads, from the copy of its shift. -/
def source (X : Mem) (c : Fin 16) (k : Fin 31) (K : FVec F S512x128 .f32 → Pg F) : Pg F :=
  if h : (k.val + 2) % 8 = 0 then
    .op (.load X.e (Rect.unit (s := S544x2048) ![k.val + 2, 128 * c.val] S512x128.size (inb_e (k.val + 2) (by omega) c)).toLoadRect (View.loadsAt_vmem h_S512x128)) fun (v : Vec F S512x128 .f32) => K v
  else
    .op (.load X.s (Rect.unit (s := S7x536x128) ![(k.val + 2) % 8 - 1, (k.val + 2) / 8 * 8, 0] S1x512x128.size (inb_s k h)).toLoadRect (View.loadsAt_vmem h_S1x512x128)) fun v =>
    K (shapeCast S512x128 v shapeCasts_S1x512x128_S512x128)

/-- The taps of a column are added one after the other. -/
def taps (X : Mem) (c : Fin 16) (K : FVec F S512x128 .f32 → Pg F) : List (Fin 31) → FVec F S512x128 .f32 → Pg F
  | [], a => K a
  | k :: ks, a => source X c k fun s =>
    .op (.load X.cw (Rect.unit (s := S31x2048) ![k.val, 128 * c.val] S1x128.size (inb_cw k c)).toLoadRect (View.loadsAt_vmem h_S1x128)) fun w =>
    taps X c K ks (addTap a s w)

/-- The convolution of a column. -/
def column (X : Mem) (c : Fin 16) (K : Pg F) : Pg F :=
  shifts X c (.op (.load X.cb (Rect.unit (s := S1x2048) ![0, 128 * c.val] S1x128.size (inb_cb c)).toLoadRect (View.loadsAt_vmem h_S1x128)) fun b =>
    taps X c (fun a =>
      .op (.load X.y (Rect.unit (s := S512x2048) ![0, 128 * c.val] S512x128.size (inb_y c)).toLoadRect (View.loadsAt_vmem h_S512x128)) fun _ =>
      .op (.store X.y (Rect.unit (s := S512x2048) ![0, 128 * c.val] S512x128.size (inb_y c)) (shapeCast S512x128 a shapeCasts_S512x128_S512x128) Finset.univ
        (View.stores_vmem_bits_univ h_S512x128 rfl) (.inl rfl)) fun _ => K) allTaps (biasCol b)) [0, 1, 2, 3, 4, 5, 6]

/-- The convolution of a list of columns. -/
def columns (X : Mem) (K : Pg F) : List (Fin 16) → Pg F
  | [] => K
  | c :: cs => column X c (columns X K cs)

/-- A column of the gate. -/
def gateCol (X : Mem) (c : Fin 16) (K : FVec F S512x128 .bf16 → Pg F) : Pg F :=
  .op (.load X.z (Rect.unit (s := S16x512x128) ![c.val, 0, 0] S1x512x128.size (inb_h c)).toLoadRect (View.loadsAt_vmem h_S1x512x128)) fun v =>
  K (shapeCast S512x128 v shapeCasts_S1x512x128_S512x128)

/-- All columns of the gate. -/
def gates (X : Mem) (K : (Fin 16 → FVec F S512x128 .bf16) → Pg F) : Pg F :=
  gateCol X 0 fun v0 => gateCol X 1 fun v1 => gateCol X 2 fun v2 => gateCol X 3 fun v3 => gateCol X 4 fun v4 => gateCol X 5 fun v5 =>
  gateCol X 6 fun v6 => gateCol X 7 fun v7 => gateCol X 8 fun v8 => gateCol X 9 fun v9 => gateCol X 10 fun v10 => gateCol X 11 fun v11 =>
  gateCol X 12 fun v12 => gateCol X 13 fun v13 => gateCol X 14 fun v14 => gateCol X 15 fun v15 =>
  K ![v0, v1, v2, v3, v4, v5, v6, v7, v8, v9, v10, v11, v12, v13, v14, v15]

/-- The last rows are kept, and the block is written out. -/
def finish (X : Mem) : Pg F :=
  .op (.load X.e (Rect.unit (s := S544x2048) ![512, 0] S32x2048.size inb_S544x2048_S32x2048_512_0).toLoadRect (View.loadsAt_vmem h_S32x2048)) fun t =>
  .op (.load X.e (Rect.unit (s := S544x2048) ![0, 0] S32x2048.size inb_S544x2048_S32x2048_0_0).toLoadRect (View.loadsAt_vmem h_S32x2048)) fun _ =>
  .op (.store X.e (Rect.unit (s := S544x2048) ![0, 0] S32x2048.size inb_S544x2048_S32x2048_0_0) (shapeCast S32x2048 t shapeCasts_S32x2048_S32x2048) Finset.univ
    (View.stores_vmem_bits_univ h_S32x2048 rfl) (.inl rfl)) fun _ =>
  .op (.load X.y (Rect.unit (s := S512x2048) ![0, 0] S512x2048.size inb_S512x2048_S512x2048_0_0).toLoadRect (View.loadsAt_vmem h_S512x2048)) fun (y : Vec F S512x2048 .f32) =>
  .op (.load X.lg (Rect.unit (s := S1x2048) ![0, 0] S1x2048.size inb_S1x2048_S1x2048_0_0).toLoadRect (View.loadsAt_vmem h_S1x2048)) fun lg =>
  .op (.load X.lb (Rect.unit (s := S1x2048) ![0, 0] S1x2048.size inb_S1x2048_S1x2048_0_0).toLoadRect (View.loadsAt_vmem h_S1x2048)) fun lb =>
  gates X fun z =>
  .op (.load X.w (Rect.unit (s := S2048x1024) ![0, 0] S2048x1024.size inb_S2048x1024_S2048x1024_0_0).toLoadRect (View.loadsAt_vmem h_S2048x1024)) fun w =>
  .op (.load X.x (Rect.unit (s := S512x1024) ![0, 0] S512x1024.size inb_S512x1024_S512x1024_0_0).toLoadRect (View.loadsAt_vmem h_S512x1024)) fun x =>
  .op (.load X.g (Rect.unit (s := S1x1024) ![0, 0] S1x1024.size inb_S1x1024_S1x1024_0_0).toLoadRect (View.loadsAt_vmem h_S1x1024)) fun g =>
  .op (.load X.o (Rect.unit (s := S512x1024) ![0, 0] S512x1024.size inb_S512x1024_S512x1024_0_0).toLoadRect (View.loadsAt_vmem h_S512x1024)) fun _ =>
  .op (.store X.o (Rect.unit (s := S512x1024) ![0, 0] S512x1024.size inb_S512x1024_S512x1024_0_0) (added x (projected (normed y lg lb) (sideBySide z) w) g) Finset.univ
    (View.stores_vmem_bits_univ h_S512x1024 rfl) (.inl rfl)) fun _ => .ret ⟨⟩

/-- The whole body. -/
def body (i : grid0.Coords) (X : Mem) : Pg F := clear i X (fill X (columns X (finish X) cols) cols)

end Cert.KernelConvIdeal.Conv
-- ==== Proof.Conv.Printed.lean ====
/-
  The printed body is the program of Program.lean.
-/
module

public import proofs.«01_k».proof.Proof.Conv.Program
public import Idealize.ShloMosaic.Lib.Exec
public import Idealize.ShloMosaic.Lib.Tactic

@[expose] public section

set_option maxRecDepth 65536

noncomputable section

namespace Cert.KernelConvIdeal.Conv

open Idealize.ShloMosaic Idealize.ShloMosaic.Tactic Idealize.SL.Sem Cert.KernelConvIdeal Cert.KernelConvIdeal.Gen

variable {F : FTy → Type} [FloatOps F]

/-- The printed kernel function. -/
theorem conv_eq (i : grid0.Coords) (X : Mem) :
    cc0_conv1 (F := F) i X.h X.hh X.z X.hz X.x X.hx X.cw X.hcw X.cb X.hcb X.lg X.hlg X.lb X.hlb X.w X.hw X.g X.hg X.o X.ho X.e X.he X.y X.hy X.s X.hs = body i X := by
  by_cases hc : Scalar.cmpi .ne (Scalar.extui (Scalar.cmpi .eq (BitVec.ofNat 32 (i 1).val) 0#32) : BitVec 32) 0#32 = 1#1
  · unfold cc0_conv1 k0_part117 k0_part1 body clear
    rw [if_pos hc]
    dsimp only
    rw [dif_pos hc]
    sl_kernel_rfl
  · unfold cc0_conv1 k0_part117 k0_part1 body clear
    rw [if_neg hc]
    dsimp only
    rw [dif_neg hc]
    sl_kernel_rfl

end Cert.KernelConvIdeal.Conv
-- ==== Proof.Conv.State.lean ====
/-
  What the kernel computes, as a function of the blocks it is given and of the rows kept from before.
-/
module

public import proofs.«01_k».proof.Proof.Conv.Program
public import Idealize.ShloMosaic.Lib.Pointwise
public import Idealize.ShloMosaic.Lib.ValueLayout

@[expose] public section

noncomputable section

namespace Cert.KernelConvIdeal.Conv

open Idealize.ShloMosaic Idealize.SL.Sem Cert.KernelConvIdeal Cert.KernelConvIdeal.Gen

variable {F : FTy → Type} [FloatOps F]

/-- The blocks a grid point is given: the new rows, the gate, the residual, the taps and bias, the layer norm's factors and offsets, the projection, the last norm's factors. -/
structure Ins (F : FTy → Type) where
  h : Vec F S16x512x128 .bf16
  z : Vec F S16x512x128 .bf16
  x : Vec F S512x1024 .f32
  cw : Vec F S31x2048 .f32
  cb : Vec F S1x2048 .f32
  lg : Vec F S1x2048 .f32
  lb : Vec F S1x2048 .f32
  w : Vec F S2048x1024 .bf16
  g : Vec F S1x1024 .f32

/-- Whether the rows are the first of a batch. -/
abbrev atStart (i : grid0.Coords) : Prop := Scalar.cmpi .ne (Scalar.extui (Scalar.cmpi .eq (BitVec.ofNat 32 (i 1).val) 0#32) : BitVec 32) 0#32 = 1#1

/-- The kept rows, cleared at the start of a batch. -/
def cleared (i : grid0.Coords) (e : Vec F S544x2048 .f32) : Vec F S544x2048 .f32 :=
  if atStart i then VecWindow.put e ![0, 0] S32x2048.size (shapeCast S32x2048 (broadcast S32x2048 (Scalar.ofBits (F := F) .f32 0x00000000#32)) shapeCasts_S32x2048_S32x2048) else e

/-- A column of the new rows. -/
def hCol (h : Vec F S16x512x128 .bf16) (c : Fin 16) : FVec F S512x128 .f32 := newCol (VecWindow.window h ![c.val, 0, 0] S1x512x128.size (inb_h c))

/-- The new rows under the kept ones. -/
def filled (h : Vec F S16x512x128 .bf16) (e : Vec F S544x2048 .f32) (l : List (Fin 16)) : Vec F S544x2048 .f32 :=
  l.foldl (fun e c => VecWindow.put e ![32, 128 * c.val] S512x128.size (hCol h c)) e

/-- The rows a tap reads. -/
def rowsAt (e : Vec F S544x2048 .f32) (c : Fin 16) (k : Fin 31) : FVec F S512x128 .f32 := VecWindow.window e ![k.val + 2, 128 * c.val] S512x128.size (inb_e (k.val + 2) (by omega) c)

/-- The taps of a list, added. -/
def tapSum (e : Vec F S544x2048 .f32) (cw : Vec F S31x2048 .f32) (c : Fin 16) (l : List (Fin 31)) (a : FVec F S512x128 .f32) : FVec F S512x128 .f32 :=
  l.foldl (fun a k => addTap a (rowsAt e c k) (VecWindow.window cw ![k.val, 128 * c.val] S1x128.size (inb_cw k c))) a

/-- The convolution of a column. -/
def colConv (e : Vec F S544x2048 .f32) (cw : Vec F S31x2048 .f32) (cb : Vec F S1x2048 .f32) (c : Fin 16) : FVec F S512x128 .f32 :=
  tapSum e cw c allTaps (biasCol (VecWindow.window cb ![0, 128 * c.val] S1x128.size (inb_cb c)))

/-- The convolution of a list of columns. -/
def convs (e : Vec F S544x2048 .f32) (cw : Vec F S31x2048 .f32) (cb : Vec F S1x2048 .f32) (l : List (Fin 16)) (y : Vec F S512x2048 .f32) : Vec F S512x2048 .f32 :=
  l.foldl (fun y c => VecWindow.put y ![0, 128 * c.val] S512x128.size (shapeCast S512x128 (colConv e cw cb c) shapeCasts_S512x128_S512x128)) y

/-- The column of an index. -/
def colOf (p : S512x2048.Idx) : Fin 16 := ⟨(p 1).val / 128, by have : (p 1).val < 2048 := (p 1).isLt; omega⟩
/-- An index within its column. -/
def inCol (p : S512x2048.Idx) : S512x128.Idx := ix2 (p 0 : Fin 512) (⟨(p 1).val % 128, Nat.mod_lt _ (by norm_num)⟩ : Fin 128)

/-- The convolution. -/
def conv (e : Vec F S544x2048 .f32) (cw : Vec F S31x2048 .f32) (cb : Vec F S1x2048 .f32) : Vec F S512x2048 .f32 :=
  fun p => colConv e cw cb (colOf p) (inCol p)

/-- The block written out. -/
def result (x : Ins F) (e : Vec F S544x2048 .f32) : Vec F S512x1024 .f32 :=
  added x.x (projected (normed (conv e x.cw x.cb) x.lg x.lb)
    (sideBySide fun c => shapeCast S512x128 (VecWindow.window x.z ![c.val, 0, 0] S1x512x128.size (inb_h c)) shapeCasts_S1x512x128_S512x128) x.w) x.g

/-- The rows kept for the next block. -/
def kept (e : Vec F S544x2048 .f32) : Vec F S544x2048 .f32 :=
  VecWindow.put e ![0, 0] S32x2048.size (shapeCast S32x2048 (VecWindow.window e ![512, 0] S32x2048.size inb_S544x2048_S32x2048_512_0) shapeCasts_S32x2048_S32x2048)

/-- All rows, the kept and the new. -/
def rows (x : Ins F) (i : grid0.Coords) (e : Vec F S544x2048 .f32) : Vec F S544x2048 .f32 := filled x.h (cleared i e) cols

/-- Puts at several places are the array that has all of them, wherever one of them is or the array was that already. -/
theorem foldl_put {s : Shape} {α ι : Type} (off : ι → Fin s.rank → ℕ) (size : Fin s.rank → ℕ) (P : ι → (⟨s.rank, size⟩ : Shape).Idx → α) (T : s.Idx → α)
    (hT : ∀ c, VecWindow.put T (off c) size (P c) = T) : ∀ (l : List ι) (X : s.Idx → α),
    (∀ p : s.Idx, X p = T p ∨ ∃ c ∈ l, ∀ a, off c a ≤ (p a).val ∧ (p a).val < off c a + size a) →
    l.foldl (fun X c => VecWindow.put X (off c) size (P c)) X = T
  | [], X, h => by
    funext p
    rcases h p with h | ⟨c, hc, -⟩
    · exact h
    · exact absurd hc (by simp)
  | c :: l, X, h => by
    refine foldl_put off size P T hT l _ fun p => ?_
    have e := congrFun (hT c) p
    unfold VecWindow.put at e
    show (VecWindow.put X (off c) size (P c)) p = T p ∨ _
    unfold VecWindow.put
    by_cases hp : ∀ a, off c a ≤ (p a).val ∧ (p a).val < off c a + size a
    · rw [dif_pos hp] at e ⊢
      exact .inl e
    · rw [dif_neg hp]
      rcases h p with h | ⟨c', hc, hin⟩
      · exact .inl h
      · rcases List.mem_cons.mp hc with rfl | hc
        · exact absurd hin hp
        · exact .inr ⟨c', hc, hin⟩

/-- A window's coordinates are its offsets and the coordinates in it. -/
theorem emb_val {s : Shape} (off size : Fin s.rank → ℕ) (inb : ∀ a, off a + size a ≤ s.size a) (y : (Rect.unit off size inb).shape.Idx) (a : Fin s.rank) :
    (((Rect.unit off size inb).emb y) a).val = off a + (y a).val := by
  show off a + 1 * (y a).val = _
  rw [Nat.one_mul]

theorem cast_self {s : Shape} {α : Type} (x : s.Idx → α) (h : s.ShapeCasts s) (p : s.Idx) : shapeCast s x h p = x p := shapeCast_apply x h p p rfl

theorem cast_drop {α : Type} (a b : ℕ) (x : (⟨3, ![1, a, b]⟩ : Shape).Idx → α) (h : (⟨3, ![1, a, b]⟩ : Shape).ShapeCasts ⟨2, ![a, b]⟩) (p : (⟨2, ![a, b]⟩ : Shape).Idx) :
    shapeCast ⟨2, ![a, b]⟩ x h p = x (ix3 (0 : Fin 1) (p 0 : Fin a) (p 1 : Fin b)) := by
  have e : p = ix2 (p 0 : Fin a) (p 1 : Fin b) := funext fun i => by fin_cases i <;> rfl
  exact (congrArg _ e).trans (Idealize.ShloMosaic.ValueIdx.shapeCast_1ab_ab_apply x h _ _)

theorem cast_add {α : Type} (a b : ℕ) (x : (⟨2, ![a, b]⟩ : Shape).Idx → α) (h : (⟨2, ![a, b]⟩ : Shape).ShapeCasts ⟨3, ![1, a, b]⟩) (p : (⟨3, ![1, a, b]⟩ : Shape).Idx) :
    shapeCast ⟨3, ![1, a, b]⟩ x h p = x (ix2 (p 1 : Fin a) (p 2 : Fin b)) := by
  have e : p = ix3 (p 0 : Fin 1) (p 1 : Fin a) (p 2 : Fin b) := funext fun i => by fin_cases i <;> rfl
  exact (congrArg _ e).trans (Idealize.ShloMosaic.ValueIdx.shapeCast_ab_1ab_apply x h _ _ _)

/-- What was in the buffer does not matter to the convolution. -/
theorem convs_eq (e : Vec F S544x2048 .f32) (cw : Vec F S31x2048 .f32) (cb : Vec F S1x2048 .f32) (y : Vec F S512x2048 .f32) : convs e cw cb cols y = conv e cw cb := by
  refine foldl_put (s := S512x2048) (fun c : Fin 16 => ![0, 128 * c.val]) S512x128.size _ _ (fun c => ?_) cols y fun p => .inr ?_
  · funext p
    unfold VecWindow.put
    split
    · rename_i h
      have h0 : 0 ≤ (p 0).val ∧ (p 0).val < 0 + 512 := h 0
      have h1 : 128 * c.val ≤ (p 1).val ∧ (p 1).val < 128 * c.val + 128 := h 1
      have hc : colOf p = c := Fin.ext (by show (p 1).val / 128 = c.val; omega)
      unfold conv
      rw [hc]
      refine (cast_self _ _ _).trans (congrArg (colConv e cw cb c) (funext fun a => Fin.ext ((Rect.unitLocal_val _ _ _).trans ?_)))
      fin_cases a
      · exact Nat.sub_zero _
      · show (p 1).val - 128 * c.val = (p 1).val % 128
        omega
    · rfl
  · have b0 : (p 0).val < 512 := (p 0).isLt
    have b1 : (p 1).val < 2048 := (p 1).isLt
    refine ⟨colOf p, by unfold cols; generalize colOf p = c; revert c; decide, fun a => ?_⟩
    fin_cases a
    · exact ⟨Nat.zero_le _, by show (p 0).val < 0 + 512; omega⟩
    · show 128 * ((p 1).val / 128) ≤ (p 1).val ∧ (p 1).val < 128 * ((p 1).val / 128) + 128
      omega

/-- The seven shifted copies of a column. -/
def copies (e : Vec F S544x2048 .f32) (c : Fin 16) : Vec F S7x536x128 .f32 := fun p =>
  e (ix2 (⟨(p 0).val + 1 + (p 1).val, by have : (p 0).val < 7 := (p 0).isLt; have : (p 1).val < 536 := (p 1).isLt; omega⟩ : Fin 544)
    (⟨128 * c.val + (p 2).val, by have : (p 2).val < 128 := (p 2).isLt; have := c.isLt; omega⟩ : Fin 2048))

/-- What the shifts leave. -/
theorem shifted_eq (e : Vec F S544x2048 .f32) (c : Fin 16) (s : Vec F S7x536x128 .f32) :
    ([0, 1, 2, 3, 4, 5, 6] : List (Fin 7)).foldl (fun (s : Vec F S7x536x128 .f32) (r : Fin 7) => VecWindow.put (s := S7x536x128) s ![r.val, 0, 0] S1x536x128.size
      (shapeCast S1x536x128 (VecWindow.window e ![r.val + 1, 128 * c.val] S536x128.size (inb_e7 r c)) shapeCasts_S536x128_S1x536x128)) s = copies e c := by
  refine foldl_put (s := S7x536x128) (fun r : Fin 7 => ![r.val, 0, 0]) S1x536x128.size _ _ (fun r => ?_) _ s fun p => .inr ?_
  · funext p
    unfold VecWindow.put
    split
    · rename_i h
      have h0 : r.val ≤ (p 0).val ∧ (p 0).val < r.val + 1 := h 0
      refine (cast_add _ _ _ _ _).trans ?_
      refine congrArg e (funext fun a => Fin.ext ?_)
      fin_cases a
      · show r.val + 1 + 1 * ((p 1).val - 0) = (p 0).val + 1 + (p 1).val
        omega
      · show 128 * c.val + 1 * ((p 2).val - 0) = 128 * c.val + (p 2).val
        omega
    · rfl
  · have b0 : (p 0).val < 7 := (p 0).isLt
    refine ⟨⟨(p 0).val, b0⟩, ?_, fun a => ?_⟩
    · generalize (⟨(p 0).val, b0⟩ : Fin 7) = r
      revert r; decide
    fin_cases a
    · show (p 0).val ≤ (p 0).val ∧ (p 0).val < (p 0).val + 1
      omega
    · exact ⟨Nat.zero_le _, by show (p 1).val < 0 + 536; have : (p 1).val < 536 := (p 1).isLt; omega⟩
    · exact ⟨Nat.zero_le _, by show (p 2).val < 0 + 128; have : (p 2).val < 128 := (p 2).isLt; omega⟩

/-- The rows a tap reads, from the copy of its shift. -/
theorem rowsAt_copies (e : Vec F S544x2048 .f32) (c : Fin 16) (k : Fin 31) (hk : ¬(k.val + 2) % 8 = 0) :
    shapeCast S512x128 (VecWindow.window (copies e c) ![(k.val + 2) % 8 - 1, (k.val + 2) / 8 * 8, 0] S1x512x128.size (inb_s k hk)) shapeCasts_S1x512x128_S512x128 = rowsAt e c k := by
  funext p
  refine (cast_drop _ _ _ _ _).trans ?_
  refine congrArg e (funext fun a => Fin.ext ?_)
  have := k.isLt
  fin_cases a
  · show (k.val + 2) % 8 - 1 + 1 * 0 + 1 + ((k.val + 2) / 8 * 8 + 1 * (p 0).val) = k.val + 2 + 1 * (p 0).val
    omega
  · show 128 * c.val + (0 + 1 * (p 1).val) = 128 * c.val + 1 * (p 1).val
    omega

end Cert.KernelConvIdeal.Conv
-- ==== Proof.Conv.Wp.lean ====
/-
  The kernel's program runs, and leaves what State.lean says: from the blocks owned at `x` and all rows at `e`, the block
  written out is `result x (rows x i e)`, and the rows end at `kept (rows x i e)`.
-/
module

public import proofs.«01_k».proof.Proof.Conv.Printed
public import proofs.«01_k».proof.Proof.Conv.State
public import proofs.«01_k».proof.Proof.Gen.KernelConvIdeal.Frame.Runs

@[expose] public section

set_option maxRecDepth 16384

noncomputable section

namespace Cert.KernelConvIdeal.Conv

open Cert.KernelConvIdeal Cert.KernelConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's weakest precondition. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A load of a window of an owned buffer gives that window of its values. -/
theorem wp_window (c : Dev nD) {s : Shape} {e : EltTy} (M : Memref sig .tc .vmem s e) {X : s.Idx → Elt F e} {off size : Fin s.rank → ℕ}
    {inb : ∀ a, off a + size a ≤ s.size a} {hl : M.view.LoadsAt (Rect.unit off size inb).toLoadRect} {α : Type}
    {k : ((Rect.unit off size inb).shape.Idx → Elt F e) → Prog (TpuEff nD τ sig (Elt F) Λ₀ .tc) α} {Q : α → sProp 𝕄} :
    owns (c : Thread nD τ) M fullShare X
      ⊢ iprop((owns (c : Thread nD τ) M fullShare X -∗ wpK c (k (VecWindow.window X off size inb)) Q)
        -∗ wpK c (.op (.load M (Rect.unit off size inb).toLoadRect hl) k) Q) := by
  unfold owns
  iintro ⟨%f, %hf, H⟩ K
  subst hf
  iapply (wp_load Variants.none (c : Thread nD τ) none Set.univ (m := M) (View.setOn_subset_set _ _)) $$ H
  iintro H
  rw [View.readAt_unit M.view f inb rfl inb]
  iapply K
  iexists f
  isplitr
  · ipureintro; rfl
  iexact H

/-- An unmasked store of a window of an owned buffer puts the payload there. -/
theorem wp_put (c : Dev nD) {s : Shape} {e : EltTy} (M : Memref sig .tc .vmem s e) {X : s.Idx → Elt F e} {off size : Fin s.rank → ℕ}
    {inb : ∀ a, off a + size a ≤ s.size a} {w : (Rect.unit off size inb).shape.Idx → Elt F e} {hx : (M.access (Rect.unit off size inb)).Stores Finset.univ}
    {hm : Finset.univ = Finset.univ ∨ ∀ a, (Rect.unit off size inb).stride a = 1} {α : Type}
    {k : PUnit → Prog (TpuEff nD τ sig (Elt F) Λ₀ .tc) α} {Q : α → sProp 𝕄} :
    owns (c : Thread nD τ) M fullShare X
      ⊢ iprop((owns (c : Thread nD τ) M fullShare (VecWindow.put X off size w) -∗ wpK c (k ⟨⟩) Q)
        -∗ wpK c (.op (.store M (Rect.unit off size inb) w Finset.univ hx hm) k) Q) := by
  unfold owns
  iintro ⟨%f, %hf, H⟩ K
  subst hf
  iapply (wp_store_writes₀ Variants.none (c : Thread nD τ) none Set.univ (m := M) (View.set_slice_subset _ _)) $$ H
  iintro H
  iapply K
  iexists M.view.writes (Elt F) f [⟨Rect.unit off size inb, w⟩]
  isplitr
  · ipureintro
    rw [View.read_writes_cons_put M.view f inb w [] rfl, View.writes_nil]
  iexact H

/-- A put of a whole buffer is the payload. -/
theorem put_whole {s : Shape} {α : Type} (X : s.Idx → α) (off : Fin s.rank → ℕ) (h0 : ∀ a, off a = 0) (w : s.Idx → α) : VecWindow.put X off s.size w = w := by
  funext y
  unfold VecWindow.put
  have h : ∀ a, off a ≤ (y a).val ∧ (y a).val < off a + s.size a := fun a => by
    have := (y a).isLt; rw [h0 a]; exact ⟨Nat.zero_le _, by omega⟩
  rw [dif_pos h]
  exact congrArg w (funext fun a => Fin.ext (by show (y a).val - off a = (y a).val; rw [h0 a]; rfl))

/-- A window of a whole buffer is the buffer. -/
theorem window_whole {s : Shape} {α : Type} (X : s.Idx → α) (off : Fin s.rank → ℕ) (inb : ∀ a, off a + s.size a ≤ s.size a) : VecWindow.window X off s.size inb = X := by
  funext y
  exact congrArg X (Rect.emb_unit_full inb y)

/-- The buffers while the convolution runs: new rows, taps and bias as given, all rows at `e`, its result so far at `y`, the shifted copies at `s`, and whatever else is held. -/
def Held (c : Dev nD) (X : Mem) (x : Ins F) (R : sProp 𝕄) (e : Vec F S544x2048 .f32) (y : Vec F S512x2048 .f32) (s : Vec F S7x536x128 .f32) : sProp 𝕄 :=
  iprop(owns (c : Thread nD τ) X.h fullShare x.h ∗ owns (c : Thread nD τ) X.cw fullShare x.cw ∗ owns (c : Thread nD τ) X.cb fullShare x.cb
    ∗ owns (c : Thread nD τ) X.e fullShare e ∗ owns (c : Thread nD τ) X.y fullShare y ∗ owns (c : Thread nD τ) X.s fullShare s ∗ R)

section Steps

variable (c : Dev nD) (X : Mem) (x : Ins F)

/-- Clearing the kept rows. -/
theorem wp_clear (R : sProp 𝕄) {Q : PUnit → sProp 𝕄} (i : grid0.Coords) (e : Vec F S544x2048 .f32) (y : Vec F S512x2048 .f32) (s : Vec F S7x536x128 .f32) {K : Pg F}
    (hK : Held c X x R (cleared i e) y s ⊢ wpK c K Q) : Held c X x R e y s ⊢ wpK c (clear i X K) Q := by
  unfold clear
  unfold cleared atStart at hK
  split
  · rename_i h
    rw [if_pos h] at hK
    unfold Held at hK ⊢
    iintro ⟨Hh, Hw, Hb, He, Hy, Hs, HR⟩
    iapply (wp_window c X.e) $$ He
    iintro He
    iapply (wp_put c X.e) $$ He
    iintro He
    iapply hK
    isplitl [Hh]; · iexact Hh
    isplitl [Hw]; · iexact Hw
    isplitl [Hb]; · iexact Hb
    isplitl [He]; · iexact He
    isplitl [Hy]; · iexact Hy
    isplitl [Hs]; · iexact Hs
    iexact HR
  · rename_i h
    rw [if_neg h] at hK
    exact hK

/-- Laying the new rows under the kept ones. -/
theorem wp_fill (R : sProp 𝕄) {Q : PUnit → sProp 𝕄} (y : Vec F S512x2048 .f32) (s : Vec F S7x536x128 .f32) {K : Pg F} : ∀ (l : List (Fin 16)) (e : Vec F S544x2048 .f32),
    (Held c X x R (filled x.h e l) y s ⊢ wpK c K Q) → Held c X x R e y s ⊢ wpK c (fill X K l) Q
  | [], _, hK => by unfold fill; exact hK
  | j :: l, e, hK => by
    have ih := wp_fill R y s l (VecWindow.put e ![32, 128 * j.val] S512x128.size (hCol x.h j)) hK
    unfold fill
    unfold Held at ih ⊢
    iintro ⟨Hh, Hw, Hb, He, Hy, Hs, HR⟩
    iapply (wp_window c X.h) $$ Hh
    iintro Hh
    iapply (wp_window c X.e) $$ He
    iintro He
    iapply (wp_put c X.e) $$ He
    iintro He
    iapply ih
    isplitl [Hh]; · iexact Hh
    isplitl [Hw]; · iexact Hw
    isplitl [Hb]; · iexact Hb
    isplitl [He]; · iexact He
    isplitl [Hy]; · iexact Hy
    isplitl [Hs]; · iexact Hs
    iexact HR

/-- Storing shifted copies. -/
theorem wp_shifts (R : sProp 𝕄) {Q : PUnit → sProp 𝕄} (j : Fin 16) (e : Vec F S544x2048 .f32) (y : Vec F S512x2048 .f32) {K : Pg F} : ∀ (l : List (Fin 7)) (s : Vec F S7x536x128 .f32),
    (Held c X x R e y (l.foldl (fun (s : Vec F S7x536x128 .f32) (r : Fin 7) => VecWindow.put (s := S7x536x128) s ![r.val, 0, 0] S1x536x128.size
      (shapeCast S1x536x128 (VecWindow.window e ![r.val + 1, 128 * j.val] S536x128.size (inb_e7 r j)) shapeCasts_S536x128_S1x536x128)) s) ⊢ wpK c K Q) →
    Held c X x R e y s ⊢ wpK c (shifts X j K l) Q
  | [], _, hK => by unfold shifts; exact hK
  | r :: l, s, hK => by
    have ih := wp_shifts R j e y l (VecWindow.put (s := S7x536x128) s ![r.val, 0, 0] S1x536x128.size
      (shapeCast S1x536x128 (VecWindow.window e ![r.val + 1, 128 * j.val] S536x128.size (inb_e7 r j)) shapeCasts_S536x128_S1x536x128)) hK
    unfold shifts
    unfold Held at ih ⊢
    iintro ⟨Hh, Hw, Hb, He, Hy, Hs, HR⟩
    iapply (wp_window c X.e) $$ He
    iintro He
    iapply (wp_window c X.s) $$ Hs
    iintro Hs
    iapply (wp_put c X.s) $$ Hs
    iintro Hs
    iapply ih
    isplitl [Hh]; · iexact Hh
    isplitl [Hw]; · iexact Hw
    isplitl [Hb]; · iexact Hb
    isplitl [He]; · iexact He
    isplitl [Hy]; · iexact Hy
    isplitl [Hs]; · iexact Hs
    iexact HR

/-- Reading the rows of a tap. -/
theorem wp_source (R : sProp 𝕄) {Q : PUnit → sProp 𝕄} (j : Fin 16) (k : Fin 31) (e : Vec F S544x2048 .f32) (y : Vec F S512x2048 .f32) {K : FVec F S512x128 .f32 → Pg F}
    (hK : Held c X x R e y (copies e j) ⊢ wpK c (K (rowsAt e j k)) Q) : Held c X x R e y (copies e j) ⊢ wpK c (source X j k K) Q := by
  unfold source
  split
  · unfold Held at hK ⊢
    iintro ⟨Hh, Hw, Hb, He, Hy, Hs, HR⟩
    iapply (wp_window c X.e) $$ He
    iintro He
    iapply hK
    isplitl [Hh]; · iexact Hh
    isplitl [Hw]; · iexact Hw
    isplitl [Hb]; · iexact Hb
    isplitl [He]; · iexact He
    isplitl [Hy]; · iexact Hy
    isplitl [Hs]; · iexact Hs
    iexact HR
  · rename_i h
    rw [← rowsAt_copies e j k h] at hK
    unfold Held at hK ⊢
    iintro ⟨Hh, Hw, Hb, He, Hy, Hs, HR⟩
    iapply (wp_window c X.s) $$ Hs
    iintro Hs
    iapply hK
    isplitl [Hh]; · iexact Hh
    isplitl [Hw]; · iexact Hw
    isplitl [Hb]; · iexact Hb
    isplitl [He]; · iexact He
    isplitl [Hy]; · iexact Hy
    isplitl [Hs]; · iexact Hs
    iexact HR

/-- Adding taps. -/
theorem wp_taps (R : sProp 𝕄) {Q : PUnit → sProp 𝕄} (j : Fin 16) (e : Vec F S544x2048 .f32) (y : Vec F S512x2048 .f32) {K : FVec F S512x128 .f32 → Pg F} : ∀ (l : List (Fin 31)) (a : FVec F S512x128 .f32),
    (Held c X x R e y (copies e j) ⊢ wpK c (K (tapSum e x.cw j l a)) Q) → Held c X x R e y (copies e j) ⊢ wpK c (taps X j K l a) Q
  | [], _, hK => by unfold taps; exact hK
  | k :: l, a, hK => by
    have ih := wp_taps R j e y l (addTap a (rowsAt e j k) (VecWindow.window x.cw ![k.val, 128 * j.val] S1x128.size (inb_cw k j))) hK
    unfold taps
    refine wp_source c X x R j k e y ?_
    unfold Held at ih ⊢
    iintro ⟨Hh, Hw, Hb, He, Hy, Hs, HR⟩
    iapply (wp_window c X.cw) $$ Hw
    iintro Hw
    iapply ih
    isplitl [Hh]; · iexact Hh
    isplitl [Hw]; · iexact Hw
    isplitl [Hb]; · iexact Hb
    isplitl [He]; · iexact He
    isplitl [Hy]; · iexact Hy
    isplitl [Hs]; · iexact Hs
    iexact HR

/-- A column. -/
theorem wp_column (R : sProp 𝕄) {Q : PUnit → sProp 𝕄} (j : Fin 16) (e : Vec F S544x2048 .f32) (y : Vec F S512x2048 .f32) (s : Vec F S7x536x128 .f32) {K : Pg F}
    (hK : Held c X x R e (VecWindow.put y ![0, 128 * j.val] S512x128.size (shapeCast S512x128 (colConv e x.cw x.cb j) shapeCasts_S512x128_S512x128)) (copies e j) ⊢ wpK c K Q) :
    Held c X x R e y s ⊢ wpK c (column X j K) Q := by
  unfold column
  refine wp_shifts c X x R j e y _ s ?_
  rw [shifted_eq]
  have main := wp_taps (Q := Q) c X x R j e y (K := fun a =>
      .op (.load X.y (Rect.unit (s := S512x2048) ![0, 128 * j.val] S512x128.size (inb_y j)).toLoadRect (View.loadsAt_vmem h_S512x128)) fun _ =>
      .op (.store X.y (Rect.unit (s := S512x2048) ![0, 128 * j.val] S512x128.size (inb_y j)) (shapeCast S512x128 a shapeCasts_S512x128_S512x128) Finset.univ
        (View.stores_vmem_bits_univ h_S512x128 rfl) (.inl rfl)) fun _ => K) allTaps (biasCol (VecWindow.window x.cb ![0, 128 * j.val] S1x128.size (inb_cb j))) (by
    unfold Held at hK ⊢
    iintro ⟨Hh, Hw, Hb, He, Hy, Hs, HR⟩
    iapply (wp_window c X.y) $$ Hy
    iintro Hy
    iapply (wp_put c X.y) $$ Hy
    iintro Hy
    iapply hK
    isplitl [Hh]; · iexact Hh
    isplitl [Hw]; · iexact Hw
    isplitl [Hb]; · iexact Hb
    isplitl [He]; · iexact He
    isplitl [Hy]; · iexact Hy
    isplitl [Hs]; · iexact Hs
    iexact HR)
  unfold Held at main ⊢
  iintro ⟨Hh, Hw, Hb, He, Hy, Hs, HR⟩
  iapply (wp_window c X.cb) $$ Hb
  iintro Hb
  iapply main
  isplitl [Hh]; · iexact Hh
  isplitl [Hw]; · iexact Hw
  isplitl [Hb]; · iexact Hb
  isplitl [He]; · iexact He
  isplitl [Hy]; · iexact Hy
  isplitl [Hs]; · iexact Hs
  iexact HR

/-- The columns of a list. -/
theorem wp_columns (R : sProp 𝕄) {Q : PUnit → sProp 𝕄} (e : Vec F S544x2048 .f32) {K : Pg F} : ∀ (l : List (Fin 16)) (y : Vec F S512x2048 .f32) (s : Vec F S7x536x128 .f32),
    (∀ s, Held c X x R e (convs e x.cw x.cb l y) s ⊢ wpK c K Q) → Held c X x R e y s ⊢ wpK c (columns X K l) Q
  | [], _, s, hK => by unfold columns; exact hK s
  | j :: l, y, s, hK => by
    unfold columns
    exact wp_column c X x R j e y s (wp_columns R e l _ _ hK)

end Steps

/-- The buffers the convolution does not touch. -/
def Rest (c : Dev nD) (X : Mem) (x : Ins F) (R : sProp 𝕄) : sProp 𝕄 :=
  iprop(owns (c : Thread nD τ) X.z fullShare x.z ∗ owns (c : Thread nD τ) X.x fullShare x.x ∗ owns (c : Thread nD τ) X.lg fullShare x.lg
    ∗ owns (c : Thread nD τ) X.lb fullShare x.lb ∗ owns (c : Thread nD τ) X.w fullShare x.w ∗ owns (c : Thread nD τ) X.g fullShare x.g
    ∗ (∃ d, owns (c : Thread nD τ) X.o fullShare d) ∗ R)

/-- What the body leaves: the input blocks as they were, the output block at the result, the rows kept. -/
def Post (c : Dev nD) (X : Mem) (x : Ins F) (e : Vec F S544x2048 .f32) (R : sProp 𝕄) : sProp 𝕄 :=
  iprop(owns (c : Thread nD τ) X.h fullShare x.h ∗ owns (c : Thread nD τ) X.cw fullShare x.cw ∗ owns (c : Thread nD τ) X.cb fullShare x.cb
    ∗ owns (c : Thread nD τ) X.e fullShare (kept e) ∗ (∃ y, owns (c : Thread nD τ) X.y fullShare y) ∗ (∃ s, owns (c : Thread nD τ) X.s fullShare s)
    ∗ owns (c : Thread nD τ) X.z fullShare x.z ∗ owns (c : Thread nD τ) X.x fullShare x.x ∗ owns (c : Thread nD τ) X.lg fullShare x.lg
    ∗ owns (c : Thread nD τ) X.lb fullShare x.lb ∗ owns (c : Thread nD τ) X.w fullShare x.w ∗ owns (c : Thread nD τ) X.g fullShare x.g
    ∗ owns (c : Thread nD τ) X.o fullShare (result x e) ∗ R)

/-- The columns of the gate, loaded one after the other. -/
theorem gates_eq (f : Fin 16 → FVec F S512x128 .bf16) : (![f 0, f 1, f 2, f 3, f 4, f 5, f 6, f 7, f 8, f 9, f 10, f 11, f 12, f 13, f 14, f 15] : Fin 16 → FVec F S512x128 .bf16) = f := by
  funext c; fin_cases c <;> rfl

/-- The rows are kept and the block is written out. -/
theorem wp_finish (c : Dev nD) (X : Mem) (x : Ins F) (e : Vec F S544x2048 .f32) (s : Vec F S7x536x128 .f32) (R : sProp 𝕄) :
    Held c X x (Rest c X x R) e (conv e x.cw x.cb) s ⊢ wpK c (finish X) (fun _ => Post c X x e R) := by
  unfold finish Held Rest Post result kept gates gateCol
  rw [← gates_eq (fun c => shapeCast S512x128 (VecWindow.window x.z ![c.val, 0, 0] S1x512x128.size (inb_h c)) shapeCasts_S1x512x128_S512x128)]
  iintro ⟨Hh, Hcw, Hcb, He, Hy, Hs, Hz, Hx, Hlg, Hlb, Hw, Hg, ⟨%d, Ho⟩, HR⟩
  iapply (wp_window c X.e) $$ He
  iintro He
  iapply (wp_window c X.e) $$ He
  iintro He
  iapply (wp_put c X.e) $$ He
  iintro He
  iapply (wp_window c X.y) $$ Hy
  iintro Hy
  rw [window_whole (s := S512x2048) (conv e x.cw x.cb) ![0, 0]]
  iapply (wp_window c X.lg) $$ Hlg
  iintro Hlg
  rw [window_whole (s := S1x2048) x.lg ![0, 0]]
  iapply (wp_window c X.lb) $$ Hlb
  iintro Hlb
  rw [window_whole (s := S1x2048) x.lb ![0, 0]]
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.z) $$ Hz
  iintro Hz
  iapply (wp_window c X.w) $$ Hw
  iintro Hw
  rw [window_whole (s := S2048x1024) x.w ![0, 0]]
  iapply (wp_window c X.x) $$ Hx
  iintro Hx
  rw [window_whole (s := S512x1024) x.x ![0, 0]]
  iapply (wp_window c X.g) $$ Hg
  iintro Hg
  rw [window_whole (s := S1x1024) x.g ![0, 0]]
  iapply (wp_window c X.o) $$ Ho
  iintro Ho
  iapply (wp_put c X.o) $$ Ho
  iintro Ho
  rw [put_whole (s := S512x1024) d ![0, 0] (by decide)]
  unfold wpK
  rw [wp_ret]
  imodintro
  isplitl [Hh]; · iexact Hh
  isplitl [Hcw]; · iexact Hcw
  isplitl [Hcb]; · iexact Hcb
  isplitl [He]; · iexact He
  isplitl [Hy]; · iexists _; iexact Hy
  isplitl [Hs]; · iexists _; iexact Hs
  isplitl [Hz]; · iexact Hz
  isplitl [Hx]; · iexact Hx
  isplitl [Hlg]; · iexact Hlg
  isplitl [Hlb]; · iexact Hlb
  isplitl [Hw]; · iexact Hw
  isplitl [Hg]; · iexact Hg
  isplitl [Ho]; · iexact Ho
  iexact HR

/-- The printed body. -/
theorem wp_conv (c : Dev nD) (X : Mem) (x : Ins F) (i : grid0.Coords) (e : Vec F S544x2048 .f32) (y : Vec F S512x2048 .f32) (s : Vec F S7x536x128 .f32) (R : sProp 𝕄) :
    Held c X x (Rest c X x R) e y s
      ⊢ wpK c (cc0_conv1 (F := F) i X.h X.hh X.z X.hz X.x X.hx X.cw X.hcw X.cb X.hcb X.lg X.hlg X.lb X.hlb X.w X.hw X.g X.hg X.o X.ho X.e X.he X.y X.hy X.s X.hs)
        (fun _ => Post c X x (rows x i e) R) := by
  rw [conv_eq]
  unfold body
  refine wp_clear c X x _ i e y s (wp_fill c X x _ y s cols _ (wp_columns c X x _ _ cols y s fun s' => ?_))
  rw [convs_eq]
  exact wp_finish c X x _ s' R

end Cert.KernelConvIdeal.Conv
-- ==== Proof.Conv.Rows.lean ====
/-
  The rows the convolution reads at a grid point: the last 32 rows of the block before, or zeros at the start of a batch,
  and under them the new rows.
-/
module

public import proofs.«01_k».proof.Proof.Conv.State

@[expose] public section

noncomputable section

namespace Cert.KernelConvIdeal.Conv

open Idealize.ShloMosaic Idealize.SL.Sem Cert.KernelConvIdeal Cert.KernelConvIdeal.Gen

variable {F : FTy → Type} [FloatOps F]

/-- A feature of a row of a block. -/
def rowOf (h : Vec F S16x512x128 .bf16) (r : Fin 512) (q : Fin 2048) : F .f32 :=
  hCol h ⟨q.val / 128, by omega⟩ (ix2 r (⟨q.val % 128, Nat.mod_lt _ (by norm_num)⟩ : Fin 128))

/-- All rows: zeros or the last 32 of the block before, then those of the block. -/
def rowsFrom (z : Prop) [Decidable z] (hp h : Vec F S16x512x128 .bf16) : Vec F S544x2048 .f32 := fun p =>
  if hlt : (p 0).val < 32 then (if z then Scalar.ofBits (F := F) .f32 0x00000000#32 else rowOf hp ⟨480 + (p 0).val, by omega⟩ (p 1))
  else rowOf h ⟨(p 0).val - 32, by have : (p 0).val < 544 := (p 0).isLt; omega⟩ (p 1)

/-- What a grid point finds in the kept rows decides all rows. -/
theorem rows_eq (x : Ins F) (i : grid0.Coords) (e : Vec F S544x2048 .f32) (hp : Vec F S16x512x128 .bf16) (z : Prop) [Decidable z] (hz : atStart i ↔ z)
    (he : ¬z → ∀ (r : Fin 32) (q : Fin 2048), e (ix2 (⟨r.val, by omega⟩ : Fin 544) q) = rowOf hp ⟨480 + r.val, by omega⟩ q) :
    rows x i e = rowsFrom z hp x.h := by
  refine foldl_put (s := S544x2048) (fun c : Fin 16 => ![32, 128 * c.val]) S512x128.size _ _ (fun c => ?_) cols _ fun p => ?_
  · funext p
    unfold VecWindow.put
    split
    · rename_i h
      have h0 : 32 ≤ (p 0).val ∧ (p 0).val < 32 + 512 := h 0
      have h1 : 128 * c.val ≤ (p 1).val ∧ (p 1).val < 128 * c.val + 128 := h 1
      have hc : (⟨(p 1).val / 128, by omega⟩ : Fin 16) = c := Fin.ext (by show (p 1).val / 128 = c.val; omega)
      unfold rowsFrom rowOf
      rw [dif_neg (by omega)]
      refine Eq.trans (congrArg (hCol x.h c) (funext fun a => Fin.ext ((Rect.unitLocal_val _ _ _).trans ?_))) (congrArg (fun c => hCol x.h c _) hc.symm)
      fin_cases a
      · rfl
      · show (p 1).val - 128 * c.val = (p 1).val % 128
        omega
    · rfl
  · have b0 : (p 0).val < 544 := (p 0).isLt
    have b1 : (p 1).val < 2048 := (p 1).isLt
    by_cases hlt : (p 0).val < 32
    · left
      unfold cleared rowsFrom
      rw [dif_pos hlt]
      by_cases hs : atStart i
      · rw [if_pos hs, if_pos (hz.mp hs)]
        unfold VecWindow.put
        rw [dif_pos (fun a => by
          fin_cases a
          · exact ⟨Nat.zero_le _, by show (p 0).val < 0 + 32; omega⟩
          · exact ⟨Nat.zero_le _, by show (p 1).val < 0 + 2048; omega⟩)]
        exact cast_self _ _ _
      · rw [if_neg hs, if_neg (fun h => hs (hz.mpr h))]
        refine Eq.trans (congrArg e (funext fun a => ?_)) (he (fun h => hs (hz.mpr h)) ⟨(p 0).val, hlt⟩ (p 1))
        fin_cases a <;> rfl
    · right
      refine ⟨⟨(p 1).val / 128, by omega⟩, ?_, fun a => ?_⟩
      · generalize (⟨(p 1).val / 128, by omega⟩ : Fin 16) = c
        unfold cols
        revert c; decide
      fin_cases a
      · show 32 ≤ (p 0).val ∧ (p 0).val < 32 + 512
        omega
      · show 128 * ((p 1).val / 128) ≤ (p 1).val ∧ (p 1).val < 128 * ((p 1).val / 128) + 128
        omega

/-- The rows kept are the last of the block. -/
theorem kept_eq (z : Prop) [Decidable z] (hp h : Vec F S16x512x128 .bf16) (r : Fin 32) (q : Fin 2048) :
    kept (rowsFrom z hp h) (ix2 (⟨r.val, by omega⟩ : Fin 544) q) = rowOf h ⟨480 + r.val, by omega⟩ q := by
  unfold kept VecWindow.put
  rw [dif_pos (fun a => by
    fin_cases a
    · exact ⟨Nat.zero_le _, by show r.val < 0 + 32; omega⟩
    · exact ⟨Nat.zero_le _, by show q.val < 0 + 2048; omega⟩)]
  refine (cast_self _ _ _).trans ?_
  show rowsFrom z hp h ((Rect.unit (s := S544x2048) ![512, 0] S32x2048.size inb_S544x2048_S32x2048_512_0).emb _) = _
  unfold rowsFrom
  have e0 : (((Rect.unit (s := S544x2048) ![512, 0] S32x2048.size inb_S544x2048_S32x2048_512_0).emb
      (Rect.unitLocal (s := S544x2048) (off := ![0, 0]) (size := S32x2048.size) (ix2 (⟨r.val, by omega⟩ : Fin 544) q) (fun a => by
    fin_cases a
    · exact ⟨Nat.zero_le _, by show r.val < 0 + 32; omega⟩
    · exact ⟨Nat.zero_le _, by show q.val < 0 + 2048; omega⟩))) 0).val = 512 + r.val := by
    show 512 + 1 * (r.val - 0) = 512 + r.val
    omega
  rw [dif_neg (by rw [e0]; omega)]
  refine congr (congrArg (rowOf h) (Fin.ext ?_)) (Fin.ext ?_)
  · show 512 + 1 * (r.val - 0) - 32 = 480 + r.val
    omega
  · show 0 + 1 * (q.val - 0) = q.val
    omega

end Cert.KernelConvIdeal.Conv
-- ==== Proof.Conv.Launch.lean ====
/-
  The launch: at every grid point the body leaves `result` of the point's blocks and rows, so the result array ends with
  each of its blocks at that.
-/
module

public import proofs.«01_k».proof.Proof.Conv.Wp
public import proofs.«01_k».proof.Proof.Conv.Rows
public import Idealize.ShloMosaic.Lib.Claim

@[expose] public section

set_option maxRecDepth 16384

noncomputable section

namespace Cert.KernelConvIdeal.Conv

open Cert.KernelConvIdeal Cert.KernelConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of a grid point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- The grid point before. -/
def prevOf (t : Fin cfg0.N) : Fin cfg0.N := ⟨t.val - 1, by have := t.isLt; omega⟩

/-- All rows of a grid point. -/
def rowsOf (c : Dev nD) (t : Fin cfg0.N) : Vec F S544x2048 .f32 := rowsFrom (t.val % 16 = 0) (insAt m c (prevOf t)).h (insAt m c t).h

/-- What the kept rows hold after `n` grid points, unless a batch starts. -/
def Keeps (c : Dev nD) (n : ℕ) (d : Vec F S544x2048 .f32) : Prop :=
  ∀ t : Fin cfg0.N, t.val + 1 = n → ¬n % 16 = 0 → ∀ (r : Fin 32) (q : Fin 2048), d (ix2 (⟨r.val, by omega⟩ : Fin 544) q) = rowOf (insAt m c t).h ⟨480 + r.val, by omega⟩ q

/-- The scratch after `n` grid points: the kept rows as said, the rest at anything. -/
def Phi (c : Dev nD) (n : ℕ) : sProp 𝕄 :=
  iprop(((∃ d, ⌜Keeps m c n d⌝ ∗ owns (c : Thread nD τ) scM0_0 fullShare d) ∗ (∃ d, owns (c : Thread nD τ) scM0_1 fullShare d) ∗ (∃ d, owns (c : Thread nD τ) scM0_2 fullShare d))
    ∗ (∃ r, prngReg c r))

/-- What the windows hold after a grid point: the inputs their blocks, the output the block computed from them. -/
def convDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result (insAt m c t) (rowsOf m c t)
  Φ t := Phi m c t.val
  q _ := fullShare
  owed _ := 0

/-- The arrays are those the launch finds. -/
theorem convDats_A (c : Dev nD) (w : Fin cfg0.W) : (convDats m 0 c).A w = V m c (Pipeline.arrRef spec0 w) := by dsimp only [convDats]
/-- The input windows are left at their blocks, the output's at the block computed. -/
theorem after_0 (c : Dev nD) (t : Fin cfg0.N) : (convDats m 0 c).after 0 t = iblk m c 0 t := by dsimp only [convDats]
theorem after_1 (c : Dev nD) (t : Fin cfg0.N) : (convDats m 0 c).after 1 t = iblk m c 1 t := by dsimp only [convDats]
theorem after_2 (c : Dev nD) (t : Fin cfg0.N) : (convDats m 0 c).after 2 t = iblk m c 2 t := by dsimp only [convDats]
theorem after_3 (c : Dev nD) (t : Fin cfg0.N) : (convDats m 0 c).after 3 t = iblk m c 3 t := by dsimp only [convDats]
theorem after_4 (c : Dev nD) (t : Fin cfg0.N) : (convDats m 0 c).after 4 t = iblk m c 4 t := by dsimp only [convDats]
theorem after_5 (c : Dev nD) (t : Fin cfg0.N) : (convDats m 0 c).after 5 t = iblk m c 5 t := by dsimp only [convDats]
theorem after_6 (c : Dev nD) (t : Fin cfg0.N) : (convDats m 0 c).after 6 t = iblk m c 6 t := by dsimp only [convDats]
theorem after_7 (c : Dev nD) (t : Fin cfg0.N) : (convDats m 0 c).after 7 t = iblk m c 7 t := by dsimp only [convDats]
theorem after_8 (c : Dev nD) (t : Fin cfg0.N) : (convDats m 0 c).after 8 t = iblk m c 8 t := by dsimp only [convDats]
theorem after_o (c : Dev nD) (t : Fin cfg0.N) : (convDats m 0 c).after 9 t = result (insAt m c t) (rowsOf m c t) := by dsimp only [convDats]

/-- The input windows are found at their blocks. -/
theorem before_0 (c : Dev nD) (t : Fin cfg0.N) (d) : (convDats m 0 c).before 0 t d = iblk m c 0 t := before0_0_of m (convDats m 0 c) (convDats_A m c 0) (after_0 m c) t d
theorem before_1 (c : Dev nD) (t : Fin cfg0.N) (d) : (convDats m 0 c).before 1 t d = iblk m c 1 t := before0_1_of m (convDats m 0 c) (convDats_A m c 1) (after_1 m c) t d
theorem before_2 (c : Dev nD) (t : Fin cfg0.N) (d) : (convDats m 0 c).before 2 t d = iblk m c 2 t := before0_2_of m (convDats m 0 c) (convDats_A m c 2) (after_2 m c) t d
theorem before_3 (c : Dev nD) (t : Fin cfg0.N) (d) : (convDats m 0 c).before 3 t d = iblk m c 3 t := before0_3_of m (convDats m 0 c) (convDats_A m c 3) (after_3 m c) t d
theorem before_4 (c : Dev nD) (t : Fin cfg0.N) (d) : (convDats m 0 c).before 4 t d = iblk m c 4 t := before0_4_of m (convDats m 0 c) (convDats_A m c 4) (after_4 m c) t d
theorem before_5 (c : Dev nD) (t : Fin cfg0.N) (d) : (convDats m 0 c).before 5 t d = iblk m c 5 t := before0_5_of m (convDats m 0 c) (convDats_A m c 5) (after_5 m c) t d
theorem before_6 (c : Dev nD) (t : Fin cfg0.N) (d) : (convDats m 0 c).before 6 t d = iblk m c 6 t := before0_6_of m (convDats m 0 c) (convDats_A m c 6) (after_6 m c) t d
theorem before_7 (c : Dev nD) (t : Fin cfg0.N) (d) : (convDats m 0 c).before 7 t d = iblk m c 7 t := before0_7_of m (convDats m 0 c) (convDats_A m c 7) (after_7 m c) t d
theorem before_8 (c : Dev nD) (t : Fin cfg0.N) (d) : (convDats m 0 c).before 8 t d = iblk m c 8 t := before0_8_of m (convDats m 0 c) (convDats_A m c 8) (after_8 m c) t d

/-- What the body is called with at a grid point. -/
def convPre (c : Dev nD) (t : Fin cfg0.N) : sProp 𝕄 :=
  iprop((convDats m 0 c).Φ t.castSucc ∗ (convDats m 0 c).owesAt () t.castSucc
    ∗ (∃ d, owns (c : Thread nD τ) (ms0_0 t) fullShare ((convDats m 0 c).before 0 t d))
    ∗ (∃ d, owns (c : Thread nD τ) (ms0_1 t) fullShare ((convDats m 0 c).before 1 t d))
    ∗ (∃ d, owns (c : Thread nD τ) (ms0_2 t) fullShare ((convDats m 0 c).before 2 t d))
    ∗ (∃ d, owns (c : Thread nD τ) (ms0_3 t) fullShare ((convDats m 0 c).before 3 t d))
    ∗ (∃ d, owns (c : Thread nD τ) (ms0_4 t) fullShare ((convDats m 0 c).before 4 t d))
    ∗ (∃ d, owns (c : Thread nD τ) (ms0_5 t) fullShare ((convDats m 0 c).before 5 t d))
    ∗ (∃ d, owns (c : Thread nD τ) (ms0_6 t) fullShare ((convDats m 0 c).before 6 t d))
    ∗ (∃ d, owns (c : Thread nD τ) (ms0_7 t) fullShare ((convDats m 0 c).before 7 t d))
    ∗ (∃ d, owns (c : Thread nD τ) (ms0_8 t) fullShare ((convDats m 0 c).before 8 t d))
    ∗ (∃ d, owns (c : Thread nD τ) (ms0_9 t) fullShare ((convDats m 0 c).before 9 t d)))

/-- What it returns. -/
def convPost (c : Dev nD) (t : Fin cfg0.N) : sProp 𝕄 :=
  iprop((convDats m 0 c).Φ t.succ ∗ (convDats m 0 c).owesAt () t.succ
    ∗ owns (c : Thread nD τ) (ms0_0 t) fullShare ((convDats m 0 c).after 0 t)
    ∗ owns (c : Thread nD τ) (ms0_1 t) fullShare ((convDats m 0 c).after 1 t)
    ∗ owns (c : Thread nD τ) (ms0_2 t) fullShare ((convDats m 0 c).after 2 t)
    ∗ owns (c : Thread nD τ) (ms0_3 t) fullShare ((convDats m 0 c).after 3 t)
    ∗ owns (c : Thread nD τ) (ms0_4 t) fullShare ((convDats m 0 c).after 4 t)
    ∗ owns (c : Thread nD τ) (ms0_5 t) fullShare ((convDats m 0 c).after 5 t)
    ∗ owns (c : Thread nD τ) (ms0_6 t) fullShare ((convDats m 0 c).after 6 t)
    ∗ owns (c : Thread nD τ) (ms0_7 t) fullShare ((convDats m 0 c).after 7 t)
    ∗ owns (c : Thread nD τ) (ms0_8 t) fullShare ((convDats m 0 c).after 8 t)
    ∗ owns (c : Thread nD τ) (ms0_9 t) fullShare ((convDats m 0 c).after 9 t))

/-- The buffers of a grid point. -/
def memAt (t : Fin cfg0.N) : Mem :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    ms0_8 t, hs0_8 t, ms0_9 t, hs0_9 t, scM0_0, Memref.isWhole_whole _, scM0_1, Memref.isWhole_whole _, scM0_2, Memref.isWhole_whole _⟩

/-- The rows the body works on. -/
theorem rows_at (c : Dev nD) (t : Fin cfg0.N) (e : Vec F S544x2048 .f32) (h : Keeps m c t.val e) : rows (insAt m c t) (grid0.coords t) e = rowsOf m c t := by
  refine rows_eq (insAt m c t) (grid0.coords t) e (insAt m c (prevOf t)).h (t.val % 16 = 0) (hcond0_0 t) fun hz r q => h (prevOf t) ?_ hz r q
  show t.val - 1 + 1 = t.val
  omega

/-- The rows it keeps. -/
theorem keeps_next (c : Dev nD) (t : Fin cfg0.N) : Keeps m c (t.val + 1) (kept (rowsOf m c t)) := by
  intro t' ht _ r q
  obtain rfl : t' = t := Fin.ext (by omega)
  exact kept_eq _ _ _ r q

/-- The body at a grid point. -/
theorem conv_sound (c : Dev nD) (t : Fin cfg0.N) :
    convPre m c t ⊢ wp frame (wpE (defs₀ (F := F)) Variants.none c none) Set.univ (bodyAt0 t) (fun _ => convPost m c t) := by
  have H := fun e y s => wp_conv (F := F) c (memAt t) (insAt m c t) (grid0.coords t) e y s (iprop((∃ r, prngReg c r) ∗ (convDats m 0 c).owesAt () t.castSucc))
  unfold convPre convPost bodyAt0
  simp only [before_0, before_1, before_2, before_3, before_4, before_5, before_6, before_7, before_8]
  rw [show (convDats m 0 c).owesAt () t.succ = (convDats m 0 c).owesAt () t.castSucc from rfl,
    after_0, after_1, after_2, after_3, after_4, after_5, after_6, after_7, after_8, after_o,
    show (convDats m 0 c).Φ t.castSucc = Phi m c t.val from rfl, show (convDats m 0 c).Φ t.succ = Phi m c (t.val + 1) from rfl]
  have fin : ∀ e, Keeps m c t.val e → Post c (memAt t) (insAt m c t) (rows (insAt m c t) (grid0.coords t) e) (iprop((∃ r, prngReg c r) ∗ (convDats m 0 c).owesAt () t.castSucc))
      ⊢ iprop(Phi m c (t.val + 1) ∗ (convDats m 0 c).owesAt () t.castSucc
    ∗ owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t) ∗ owns (c : Thread nD τ) (ms0_5 t) fullShare (iblk m c 5 t)
    ∗ owns (c : Thread nD τ) (ms0_6 t) fullShare (iblk m c 6 t) ∗ owns (c : Thread nD τ) (ms0_7 t) fullShare (iblk m c 7 t)
    ∗ owns (c : Thread nD τ) (ms0_8 t) fullShare (iblk m c 8 t) ∗ owns (c : Thread nD τ) (ms0_9 t) fullShare (result (insAt m c t) (rowsOf m c t))) := by
    intro e he
    rw [rows_at m c t e he]
    unfold Post Phi
    iintro ⟨H0, H3, H4, HS0, HS1, HS2, H1, H2, H5, H6, H7, H8, H9, Hg, Ho⟩
    isplitl [HS0 HS1 HS2 Hg]
    · isplitl [HS0 HS1 HS2]
      · isplitl [HS0]
        · iexists _
          isplitr
          · ipureintro; exact keeps_next m c t
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have start := fun e (he : Keeps m c t.val e) y s => (H e y s).trans (wp_mono _ _ _ fun _ => fin e he)
  unfold Held Rest at start
  rw [show Phi m c t.val = iprop(((∃ d, ⌜Keeps m c t.val d⌝ ∗ owns (c : Thread nD τ) scM0_0 fullShare d) ∗ (∃ d, owns (c : Thread nD τ) scM0_1 fullShare d)
    ∗ (∃ d, owns (c : Thread nD τ) scM0_2 fullShare d)) ∗ (∃ r, prngReg c r)) from rfl]
  iintro ⟨⟨⟨⟨%e, %he, HS0⟩, ⟨%y, HS1⟩, ⟨%s, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (start e he y s)
  isplitl [H0]; · iexact H0
  isplitl [H3]; · iexact H3
  isplitl [H4]; · iexact H4
  isplitl [HS0]; · iexact HS0
  isplitl [HS1]; · iexact HS1
  isplitl [HS2]; · iexact HS2
  isplitl [H1]; · iexact H1
  isplitl [H2]; · iexact H2
  isplitl [H5]; · iexact H5
  isplitl [H6]; · iexact H6
  isplitl [H7]; · iexact H7
  isplitl [H8]; · iexact H8
  isplitl [H9]; · iexists _; iexact H9
  isplitl [Hg]; · iexact Hg
  iexact Ho

/-- The body's row in the table of bodies. -/
theorem conv_row (t : Fin cfg0.N) : defs₀ (F := F) .tc cfg0.body (cfg0.bodyArgs t (cfg0.slots t)) = bodyAt0 t := by
  unfold defs₀; rw [Defs.onTc_tc]

/-- The body at every grid point. -/
theorem conv_obligation (c : Dev nD) : BodyObligation (convDats (F := F) m 0 c) (defs₀ (F := F)) Variants.none () Set.univ := fun t => by
  rw [bigSep_W0, bigSep_W0, conv_row]
  exact triple_restated (conv_sound m c t) rfl .rfl fun _ => .rfl

/-- Before the first point nothing is said of the scratch. -/
theorem phi_first (c : Dev nD) : Pipeline.ΦA spec0 c ⊢ (convDats m 0 c).Φ 0 := by
  rw [show (convDats m 0 c).Φ 0 = Phi m c 0 from rfl, PhiA0_eq]
  unfold Phi
  iintro ⟨⟨⟨%d, HS0⟩, HS1, HS2⟩, Hg⟩
  isplitl [HS0 HS1 HS2]
  · isplitl [HS0]
    · iexists d
      isplitr
      · ipureintro; exact fun t h => absurd h (by omega)
      iexact HS0
    isplitl [HS1]; · iexact HS1
    iexact HS2
  iexact Hg

/-- After the last point what is said is forgotten. -/
theorem phi_last (c : Dev nD) : (convDats m 0 c).Φ (Fin.last cfg0.N) ⊢ Pipeline.ΦA spec0 c := by
  rw [show (convDats m 0 c).Φ (Fin.last cfg0.N) = Phi m c (Fin.last cfg0.N).val from rfl, PhiA0_eq]
  unfold Phi
  iintro ⟨⟨⟨%d, %h, HS0⟩, HS1, HS2⟩, Hg⟩
  isplitl [HS0 HS1 HS2]
  · isplitl [HS0]
    · iexists d; iexact HS0
    isplitl [HS1]; · iexact HS1
    iexact HS2
  iexact Hg

set_option backward.isDefEq.respectTransparency.types false in
/-- The launch: every execution ends, with the arrays at what the windows were left with and the counters at zero. -/
theorem conv_launch : θ_run defs (onTc (τ := τ) (main (F := F))) (s₀ m ρ) (fun r => (Pipeline.FramePost cfgs (convDats m) 0 (V m)) r ∧ r.2.sem = fun _ => 0) :=
  Pipeline.θ_run_frame_track (Q' := _) cfgs (convDats m) (0 : Fin 1) launch0 defs₀ Variants.none m ρ main
    (hbody := fun c => (conv_obligation m c).loose) (hshare := fun c => (convDats m 0 c).share_full fun _ => rfl)
    (howed := fun _ _ => rfl) (V := V m) (hmain := hmain m Variants.none) (hA := convDats_A m) (hin := phi_first m) (hout := phi_last m)

end Cert.KernelConvIdeal.Conv
-- ==== Proof.Conv.Blocks.lean ====
/-
  The blocks a grid point is given, in terms of the arrays.
-/
module

public import proofs.«01_k».proof.Proof.Conv.Launch
public import Idealize.ShloMosaic.Lib.Pipeline.Value

@[expose] public section

set_option maxRecDepth 16384

noncomputable section

namespace Cert.KernelConvIdeal.Conv

open Idealize.ShloMosaic Idealize.ShloMosaic.TcCoe Idealize.SL.Sem Idealize.ShloMosaic.Pipeline Cert.KernelConvIdeal Cert.KernelConvIdeal.Gen

/-- Which blocks a grid point is given. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

/-- The whole arrays are one block. -/
theorem idx_whole : ∀ t : Fin cfg0.N,
    (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

/-- There are 64 grid points. -/
theorem lt64 (t : Fin cfg0.N) : t.val < 64 := Nat.lt_of_lt_of_eq t.isLt N_0

/-- A row of a grid point's block, among all rows. -/
def rowAt (t : Fin cfg0.N) (r : Fin 512) : Fin 32768 := ⟨512 * t.val + r.val, by have := lt64 t; omega⟩

variable {F : FTy → Type} [FloatOps F]
variable (m : (ℓ : Loc nD τ sig) → Buf (Elt F) ℓ)

theorem blk_h (c : Dev nD) (t : Fin cfg0.N) (k : Fin 16) (r : Fin 512) (l : Fin 128) : (insAt m c t).h (ix3 k r l) = V m c main_v2 (ix3 k (rowAt t r) l) := by
  obtain ⟨⟨h0, h1, h2⟩, -⟩ := idx_facts t
  refine congrArg (V m c main_v2) (funext fun a => Fin.ext ((win0_0.rect_emb_val t (ix3 k r l) a).trans ?_))
  fin_cases a
  · show win0_0.index t (0 : Fin 3) * 16 + k.val = k.val
    rw [h0]; omega
  · show win0_0.index t (1 : Fin 3) * 512 + r.val = 512 * t.val + r.val
    rw [h1, Nat.mul_comm]
  · show win0_0.index t (2 : Fin 3) * 128 + l.val = l.val
    rw [h2]; omega

theorem blk_z (c : Dev nD) (t : Fin cfg0.N) (k : Fin 16) (r : Fin 512) (l : Fin 128) : (insAt m c t).z (ix3 k r l) = V m c main_v5 (ix3 k (rowAt t r) l) := by
  obtain ⟨-, ⟨h0, h1, h2⟩, -⟩ := idx_facts t
  refine congrArg (V m c main_v5) (funext fun a => Fin.ext ((win0_1.rect_emb_val t (ix3 k r l) a).trans ?_))
  fin_cases a
  · show win0_1.index t (0 : Fin 3) * 16 + k.val = k.val
    rw [h0]; omega
  · show win0_1.index t (1 : Fin 3) * 512 + r.val = 512 * t.val + r.val
    rw [h1, Nat.mul_comm]
  · show win0_1.index t (2 : Fin 3) * 128 + l.val = l.val
    rw [h2]; omega

theorem blk_x (c : Dev nD) (t : Fin cfg0.N) (r : Fin 512) (j : Fin 1024) : (insAt m c t).x (ix2 r j) = V m c main_v6 (ix2 (rowAt t r) j) := by
  obtain ⟨-, -, ⟨h0, h1⟩, -⟩ := idx_facts t
  refine congrArg (V m c main_v6) (funext fun a => Fin.ext ((win0_2.rect_emb_val t (ix2 r j) a).trans ?_))
  fin_cases a
  · show win0_2.index t (0 : Fin 2) * 512 + r.val = 512 * t.val + r.val
    rw [h0, Nat.mul_comm]
  · show win0_2.index t (1 : Fin 2) * 1024 + j.val = j.val
    rw [h1]; omega

theorem blk_cw (c : Dev nD) (t : Fin cfg0.N) (k : Fin 31) (q : Fin 2048) : (insAt m c t).cw (ix2 k q) = V m c main_arg3 (ix2 k q) := by
  obtain ⟨⟨h0, h1⟩, -⟩ := idx_whole t
  refine congrArg (V m c main_arg3) (funext fun a => Fin.ext ((win0_3.rect_emb_val t (ix2 k q) a).trans ?_))
  fin_cases a
  · show win0_3.index t (0 : Fin 2) * 31 + k.val = k.val
    rw [h0]; omega
  · show win0_3.index t (1 : Fin 2) * 2048 + q.val = q.val
    rw [h1]; omega

theorem blk_cb (c : Dev nD) (t : Fin cfg0.N) (q : Fin 2048) : (insAt m c t).cb (ix2 0 q) = V m c main_v7 (ix2 0 q) := by
  obtain ⟨-, ⟨h0, h1⟩, -⟩ := idx_whole t
  refine congrArg (V m c main_v7) (funext fun a => Fin.ext ((win0_4.rect_emb_val t (ix2 0 q) a).trans ?_))
  fin_cases a
  · show win0_4.index t (0 : Fin 2) * 1 + 0 = 0
    rw [h0]
  · show win0_4.index t (1 : Fin 2) * 2048 + q.val = q.val
    rw [h1]; omega

theorem blk_lg (c : Dev nD) (t : Fin cfg0.N) (q : Fin 2048) : (insAt m c t).lg (ix2 0 q) = V m c main_v8 (ix2 0 q) := by
  obtain ⟨-, -, ⟨h0, h1⟩, -⟩ := idx_whole t
  refine congrArg (V m c main_v8) (funext fun a => Fin.ext ((win0_5.rect_emb_val t (ix2 0 q) a).trans ?_))
  fin_cases a
  · show win0_5.index t (0 : Fin 2) * 1 + 0 = 0
    rw [h0]
  · show win0_5.index t (1 : Fin 2) * 2048 + q.val = q.val
    rw [h1]; omega

theorem blk_lb (c : Dev nD) (t : Fin cfg0.N) (q : Fin 2048) : (insAt m c t).lb (ix2 0 q) = V m c main_v9 (ix2 0 q) := by
  obtain ⟨-, -, -, ⟨h0, h1⟩, -⟩ := idx_whole t
  refine congrArg (V m c main_v9) (funext fun a => Fin.ext ((win0_6.rect_emb_val t (ix2 0 q) a).trans ?_))
  fin_cases a
  · show win0_6.index t (0 : Fin 2) * 1 + 0 = 0
    rw [h0]
  · show win0_6.index t (1 : Fin 2) * 2048 + q.val = q.val
    rw [h1]; omega

theorem blk_w (c : Dev nD) (t : Fin cfg0.N) (q : Fin 2048) (j : Fin 1024) : (insAt m c t).w (ix2 q j) = V m c main_v10 (ix2 q j) := by
  obtain ⟨-, -, -, -, ⟨h0, h1⟩, -⟩ := idx_whole t
  refine congrArg (V m c main_v10) (funext fun a => Fin.ext ((win0_7.rect_emb_val t (ix2 q j) a).trans ?_))
  fin_cases a
  · show win0_7.index t (0 : Fin 2) * 2048 + q.val = q.val
    rw [h0]; omega
  · show win0_7.index t (1 : Fin 2) * 1024 + j.val = j.val
    rw [h1]; omega

theorem blk_g (c : Dev nD) (t : Fin cfg0.N) (j : Fin 1024) : (insAt m c t).g (ix2 0 j) = V m c main_v11 (ix2 0 j) := by
  obtain ⟨-, -, -, -, -, h0, h1⟩ := idx_whole t
  refine congrArg (V m c main_v11) (funext fun a => Fin.ext ((win0_8.rect_emb_val t (ix2 0 j) a).trans ?_))
  fin_cases a
  · show win0_8.index t (0 : Fin 2) * 1 + 0 = 0
    rw [h0]
  · show win0_8.index t (1 : Fin 2) * 1024 + j.val = j.val
    rw [h1]; omega

end Cert.KernelConvIdeal.Conv
-- ==== Proof.Conv.Host.lean ====
/-
  The arrays the host code prepares for the convolution module, read at an index.
-/
module

public import proofs.«01_k».proof.Proof.Gen.KernelConvIdeal.Frame.Runs
public import Idealize.ShloMosaic.Lib.Pointwise

@[expose] public section

set_option maxRecDepth 16384

noncomputable section

namespace Cert.KernelConvIdeal.Conv

open Idealize.ShloMosaic Idealize.ShloMosaic.TcCoe Idealize.SL.Sem Idealize.ShloMosaic.StableHlo Cert.KernelConvIdeal Cert.KernelConvIdeal.Gen

section Arrays

variable {F : FTy → Type} [FloatOps F]

/-- Channels in columns of 128, columns outermost. -/
def colArr (a : (⟨S4x8192x2048, .f32⟩ : BufTy).Contents (Elt F)) : (⟨S16x32768x128, .bf16⟩ : BufTy).Contents (Elt F) :=
  truncf .bf16 (transpose S16x32768x128 [1, 0, 2] (shapeCast S32768x16x128 a shapeCasts_S4x8192x2048_S32768x16x128) transposes_S32768x16x128_S16x32768x128_1_0_2) bitsLt_bf16_f32

/-- The residual's rows, batch after batch. -/
def resArr (a : (⟨S4x8192x1024, .f32⟩ : BufTy).Contents (Elt F)) : (⟨S32768x1024, .f32⟩ : BufTy).Contents (Elt F) :=
  shapeCast S32768x1024 a shapeCasts_S4x8192x1024_S32768x1024

/-- A parameter of 2048 channels, as a row. -/
def rowArr (a : (⟨S2048, .f32⟩ : BufTy).Contents (Elt F)) : (⟨S1x2048, .f32⟩ : BufTy).Contents (Elt F) := broadcastInDim S1x2048 ![1] bcast_S2048_S1x2048_1 a

/-- A parameter of 1024 channels, as a row. -/
def rowArr' (a : (⟨S1024, .f32⟩ : BufTy).Contents (Elt F)) : (⟨S1x1024, .f32⟩ : BufTy).Contents (Elt F) := broadcastInDim S1x1024 ![1] bcast_S1024_S1x1024_1 a

/-- The projection, narrowed. -/
def projArr (a : (⟨S2048x1024, .f32⟩ : BufTy).Contents (Elt F)) : (⟨S2048x1024, .bf16⟩ : BufTy).Contents (Elt F) := truncf .bf16 a bitsLt_bf16_f32

variable (m : (ℓ : Loc nD τ sig) → Buf (Elt F) ℓ)

theorem V_h (c : Dev nD) : V m c main_v2 = colArr (m ((c : Thread nD τ).loc main_arg0)) := by
  simp only [V, hostOps0, List.flatten_cons, List.flatten_nil, List.append_nil, List.cons_append, List.nil_append, TRef.binary, TRef.unary, TRef.toBuf, TRef.ofBuf, cast_eq]
  after_results_simp
  rfl

theorem V_z (c : Dev nD) : V m c main_v5 = colArr (m ((c : Thread nD τ).loc main_arg1)) := by
  simp only [V, hostOps0, List.flatten_cons, List.flatten_nil, List.append_nil, List.cons_append, List.nil_append, TRef.binary, TRef.unary, TRef.toBuf, TRef.ofBuf, cast_eq]
  after_results_simp
  rfl

theorem V_x (c : Dev nD) : V m c main_v6 = resArr (m ((c : Thread nD τ).loc main_arg2)) := by
  simp only [V, hostOps0, List.flatten_cons, List.flatten_nil, List.append_nil, List.cons_append, List.nil_append, TRef.binary, TRef.unary, TRef.toBuf, TRef.ofBuf, cast_eq]
  after_results_simp
  rfl

theorem V_cb (c : Dev nD) : V m c main_v7 = rowArr (m ((c : Thread nD τ).loc main_arg4)) := by
  simp only [V, hostOps0, List.flatten_cons, List.flatten_nil, List.append_nil, List.cons_append, List.nil_append, TRef.binary, TRef.unary, TRef.toBuf, TRef.ofBuf, cast_eq]
  after_results_simp
  rfl

theorem V_lg (c : Dev nD) : V m c main_v8 = rowArr (m ((c : Thread nD τ).loc main_arg5)) := by
  simp only [V, hostOps0, List.flatten_cons, List.flatten_nil, List.append_nil, List.cons_append, List.nil_append, TRef.binary, TRef.unary, TRef.toBuf, TRef.ofBuf, cast_eq]
  after_results_simp
  rfl

theorem V_lb (c : Dev nD) : V m c main_v9 = rowArr (m ((c : Thread nD τ).loc main_arg6)) := by
  simp only [V, hostOps0, List.flatten_cons, List.flatten_nil, List.append_nil, List.cons_append, List.nil_append, TRef.binary, TRef.unary, TRef.toBuf, TRef.ofBuf, cast_eq]
  after_results_simp
  rfl

theorem V_w (c : Dev nD) : V m c main_v10 = projArr (m ((c : Thread nD τ).loc main_arg7)) := by
  simp only [V, hostOps0, List.flatten_cons, List.flatten_nil, List.append_nil, List.cons_append, List.nil_append, TRef.binary, TRef.unary, TRef.toBuf, TRef.ofBuf, cast_eq]
  after_results_simp
  rfl

theorem V_g (c : Dev nD) : V m c main_v11 = rowArr' (m ((c : Thread nD τ).loc main_arg8)) := by
  simp only [V, hostOps0, List.flatten_cons, List.flatten_nil, List.append_nil, List.cons_append, List.nil_append, TRef.binary, TRef.unary, TRef.toBuf, TRef.ofBuf, cast_eq]
  after_results_simp
  rfl

end Arrays

/-- A channel of a row. -/
theorem colArr_apply (a : (⟨S4x8192x2048, .f32⟩ : BufTy).Contents (Elt Ideal)) (c : Fin 16) (p : Fin 32768) (l : Fin 128) :
    colArr a (ix3 c p l) = a (ix3 ⟨p.val / 8192, by omega⟩ ⟨p.val % 8192, by omega⟩ ⟨c.val * 128 + l.val, by omega⟩) := by
  pointwise [colArr]

theorem resArr_apply (a : (⟨S4x8192x1024, .f32⟩ : BufTy).Contents (Elt Ideal)) (p : Fin 32768) (j : Fin 1024) :
    resArr a (ix2 p j) = a (ix3 ⟨p.val / 8192, by omega⟩ ⟨p.val % 8192, by omega⟩ j) := by
  pointwise [resArr]

theorem rowArr_apply (a : (⟨S2048, .f32⟩ : BufTy).Contents (Elt Ideal)) (q : Fin 2048) : rowArr a (ix2 0 q) = a (ix1 q) := by
  pointwise [rowArr]

theorem rowArr'_apply (a : (⟨S1024, .f32⟩ : BufTy).Contents (Elt Ideal)) (j : Fin 1024) : rowArr' a (ix2 0 j) = a (ix1 j) := by
  pointwise [rowArr']

end Cert.KernelConvIdeal.Conv
-- ==== Proof.Conv.Read.lean ====
/-
  The kernel's values read at an index, over the extended reals.
-/
module

public import proofs.«01_k».proof.Proof.Conv.State

@[expose] public section

set_option maxRecDepth 16384

noncomputable section

namespace Cert.KernelConvIdeal.Conv

open Idealize.ShloMosaic Idealize.SL.Sem Cert.KernelConvIdeal Cert.KernelConvIdeal.Gen

theorem newCol_apply (v : Vec Ideal S1x512x128 .bf16) (r : Fin 512) (l : Fin 128) : newCol v (ix2 r l) = v (ix3 0 r l) := by
  pointwise [newCol]

theorem biasCol_apply (b : Vec Ideal S1x128 .f32) (r : Fin 512) (l : Fin 128) : biasCol b (ix2 r l) = b (ix2 0 l) := by
  pointwise [biasCol]

theorem addTap_apply (a s : FVec Ideal S512x128 .f32) (w : Vec Ideal S1x128 .f32) (r : Fin 512) (l : Fin 128) :
    addTap a s w (ix2 r l) = a (ix2 r l) + s (ix2 r l) * w (ix2 0 l) := by
  pointwise [addTap]

theorem rowMean_apply (v : FVec Ideal S512x2048 .f32) (r : Fin 512) :
    rowMean v (ix2 r 0) = Ideal.div (∑ q : Fin 2048, v (ix2 r q)) (Ideal.ofBits .f32 0x45000000#32) := by
  pointwise [rowMean]

theorem centred_apply (v : FVec Ideal S512x2048 .f32) (r : Fin 512) (q : Fin 2048) :
    centred v (ix2 r q) = v (ix2 r q) - rowMean v (ix2 r 0) := by
  pointwise [centred]

theorem normed_apply (v : FVec Ideal S512x2048 .f32) (g b : Vec Ideal S1x2048 .f32) (r : Fin 512) (q : Fin 2048) :
    normed v g b (ix2 r q) = centred v (ix2 r q) * Ideal.rsqrt (rowMean (mulf (centred v) (centred v)) (ix2 r 0) + Ideal.ofBits .f32 0x358637BD#32) * g (ix2 0 q) + b (ix2 0 q) := by
  pointwise [normed]

theorem silu_apply (v : FVec Ideal S512x2048 .f32) (r : Fin 512) (q : Fin 2048) :
    silu v (ix2 r q) = v (ix2 r q) * Ideal.div 1 (1 + Ideal.exp (0 - v (ix2 r q))) := by
  pointwise [silu]

theorem projected_apply (n z : FVec Ideal S512x2048 .f32) (w : Vec Ideal S2048x1024 .bf16) (r : Fin 512) (j : Fin 1024) :
    projected n z w (ix2 r j) = ∑ q : Fin 2048, silu n (ix2 r q) * silu z (ix2 r q) * w (ix2 q j) := by
  pointwise [projected]

theorem rowMean'_apply (v : FVec Ideal S512x1024 .f32) (r : Fin 512) :
    rowMean' v (ix2 r 0) = Ideal.div (∑ q : Fin 1024, v (ix2 r q)) (Ideal.ofBits .f32 0x44800000#32) := by
  pointwise [rowMean']

theorem added_apply (x : Vec Ideal S512x1024 .f32) (p : FVec Ideal S512x1024 .f32) (g : Vec Ideal S1x1024 .f32) (r : Fin 512) (j : Fin 1024) :
    added x p g (ix2 r j) = x (ix2 r j) + p (ix2 r j) * Ideal.rsqrt (rowMean' (mulf p p) (ix2 r 0) + Ideal.ofBits .f32 0x358637BD#32) * g (ix2 0 j) := by
  pointwise [added]

end Cert.KernelConvIdeal.Conv
-- ==== Proof.Conv.Side.lean ====
/-
  Sixteen columns side by side, read at an index.
-/
module

public import proofs.«01_k».proof.Proof.Conv.State

@[expose] public section

set_option maxRecDepth 16384

noncomputable section

namespace Cert.KernelConvIdeal.Conv

open Idealize.ShloMosaic Idealize.SL.Sem Cert.KernelConvIdeal Cert.KernelConvIdeal.Gen

/-- The pieces before the one located and the position in it add up to the position. -/
theorem locate_sum : ∀ (ns : List ℕ) (c : ℕ) (h : c < ns.sum), (ns.take (locate ns c h).1.val).sum + (locate ns c h).2.val = c
  | [], _, h => absurd h (Nat.not_lt_zero _)
  | n :: ns, c, h => by
    by_cases hc : c < n
    · have e : locate (n :: ns) c h = ⟨⟨0, Nat.zero_lt_succ _⟩, ⟨c, hc⟩⟩ := dif_pos hc
      rw [e]
      show (List.take 0 (n :: ns)).sum + c = c
      simp
    · have hs : c - n < ns.sum := by rw [List.sum_cons] at h; omega
      have ih := locate_sum ns (c - n) hs
      have e : locate (n :: ns) c h = ⟨(locate ns (c - n) hs).1.succ, (locate ns (c - n) hs).2⟩ := dif_neg hc
      rw [e]
      show (List.take ((locate ns (c - n) hs).1.val + 1) (n :: ns)).sum + (locate ns (c - n) hs).2.val = c
      rw [List.take_succ_cons, List.sum_cons]
      omega

/-- Vectors side by side, read in the piece an index falls in. -/
theorem concatenate_at {α : Type} (t : Shape) (a : Fin t.rank) (xs : List ((s : Shape) × (s.Idx → α))) (h : Shape.Concatenates (xs.map (·.1)) t a) (j : t.Idx)
    (hc : (j a).val < ((xs.map (·.1)).map fun s : Shape => if h : s.rank = t.rank then s.size (a.cast h.symm) else 0).sum)
    (k : ℕ) (hk : k < xs.length) (i : xs[k].1.Idx) (hr : xs[k].1.rank = t.rank)
    (e : (locate ((xs.map (·.1)).map fun s : Shape => if h : s.rank = t.rank then s.size (a.cast h.symm) else 0) (j a).val hc).1.val = k)
    (hi : ∀ b, (i b).val = if b.cast hr = a then (locate ((xs.map (·.1)).map fun s : Shape => if h : s.rank = t.rank then s.size (a.cast h.symm) else 0) (j a).val hc).2.val else (j (b.cast hr)).val) :
    concatenate t a xs h j = xs[k].2 i := by
  subst e
  unfold concatenate
  refine congrArg _ (funext fun b => Fin.ext ?_)
  rw [hi b]
  split <;> rfl

/-- The same, of a piece that is known. -/
theorem concatenate_piece {α : Type} (t : Shape) (a : Fin t.rank) (xs : List ((s : Shape) × (s.Idx → α))) (h : Shape.Concatenates (xs.map (·.1)) t a) (j : t.Idx)
    (ns : List ℕ) (hns : ((xs.map (·.1)).map fun s : Shape => if h : s.rank = t.rank then s.size (a.cast h.symm) else 0) = ns) (hc : (j a).val < ns.sum)
    (k : ℕ) (hk : k < xs.length) (p : (s : Shape) × (s.Idx → α)) (hp : xs[k] = p) (i : p.1.Idx) (hr : p.1.rank = t.rank) (e : (locate ns (j a).val hc).1.val = k)
    (hi : ∀ b, (i b).val = if b.cast hr = a then (locate ns (j a).val hc).2.val else (j (b.cast hr)).val) :
    concatenate t a xs h j = p.2 i := by
  subst hp hns
  exact concatenate_at t a xs h j hc k hk i hr e hi

/-- Sixteen columns, as vectors of their shape. -/
def pieces (f : Fin 16 → FVec Ideal S512x128 .bf16) : List ((s : Shape) × (s.Idx → Ideal .bf16)) := (List.finRange 16).map fun c => ⟨S512x128, f c⟩

/-- A column of the list. -/
theorem pieces_at (f : Fin 16 → FVec Ideal S512x128 .bf16) (k : ℕ) (hk : k < (pieces f).length) (h16 : k < 16) : (pieces f)[k] = ⟨S512x128, f ⟨k, h16⟩⟩ := by
  simp [pieces]

/-- The sizes of sixteen columns. -/
def sizes : List ℕ := List.replicate 16 128

/-- Their sizes along the lanes. -/
theorem pieces_sizes (f : Fin 16 → FVec Ideal S512x128 .bf16) :
    (((pieces f).map (·.1)).map fun s : Shape => if h : s.rank = S512x2048.rank then s.size ((1 : Fin S512x2048.rank).cast h.symm) else 0) = sizes := by
  unfold pieces sizes
  rw [List.map_map, List.map_map]
  exact (List.map_congr_left fun c _ => rfl).trans (List.map_const'.trans (by rw [List.length_finRange]))

/-- They fit side by side. -/
theorem pieces_beside (f : Fin 16 → FVec Ideal S512x128 .bf16) : Shape.Concatenates ((pieces f).map (·.1)) S512x2048 1 := by
  have e : (pieces f).map (·.1) = List.replicate 16 S512x128 := by
    unfold pieces
    rw [List.map_map]
    exact (List.map_congr_left fun c _ => rfl).trans (List.map_const'.trans (by rw [List.length_finRange]))
  rw [e]
  exact concatenates_S512x128_S512x128_S512x128_S512x128_S512x128_S512x128_S512x128_S512x128_S512x128_S512x128_S512x128_S512x128_S512x128_S512x128_S512x128_S512x128_S512x2048_d1

/-- The sixteen columns are the list's. -/
theorem sideBySide_pieces (f : Fin 16 → FVec Ideal S512x128 .bf16) (p : S512x2048.Idx) : sideBySide f p = concatenate S512x2048 1 (pieces f) (pieces_beside f) p := rfl

/-- Side by side, a lane is its column's. -/
theorem sideBySide_apply (f : Fin 16 → FVec Ideal S512x128 .bf16) (r : Fin 512) (q : Fin 2048) :
    sideBySide f (ix2 r q) = f ⟨q.val / 128, by omega⟩ (ix2 r ⟨q.val % 128, Nat.mod_lt _ (by norm_num)⟩) := by
  have hq : q.val < sizes.sum := by have := q.isLt; unfold sizes; rw [List.sum_replicate_nat]; omega
  have hs := locate_sum sizes q.val hq
  have hk16 : (locate sizes q.val hq).1.val < 16 := (locate sizes q.val hq).1.isLt.trans_eq (by unfold sizes; rw [List.length_replicate])
  have hn' : (locate sizes q.val hq).2.val < 128 := (locate sizes q.val hq).2.isLt.trans_eq (by unfold sizes; exact List.getElem_replicate _)
  have hs' : 128 * (locate sizes q.val hq).1.val + (locate sizes q.val hq).2.val = q.val := by
    refine Eq.trans (congrArg (· + _) ?_) hs
    unfold sizes
    rw [List.take_replicate, List.sum_replicate_nat, Nat.min_eq_left]
    · exact Nat.mul_comm _ _
    · exact Nat.le_of_lt hk16
  have e3 : (⟨q.val / 128, by omega⟩ : Fin 16) = ⟨(locate sizes q.val hq).1.val, hk16⟩ := Fin.ext (by show q.val / 128 = (locate sizes q.val hq).1.val; omega)
  have e4 : (⟨q.val % 128, Nat.mod_lt _ (by norm_num)⟩ : Fin 128) = ⟨(locate sizes q.val hq).2.val, hn'⟩ := Fin.ext (by show q.val % 128 = (locate sizes q.val hq).2.val; omega)
  have hk : (locate sizes q.val hq).1.val < (pieces f).length := hk16.trans_eq (by unfold pieces; rw [List.length_map, List.length_finRange])
  rw [e3, e4, sideBySide_pieces]
  refine concatenate_piece S512x2048 1 (pieces f) (pieces_beside f) (ix2 r q) sizes (pieces_sizes f) hq (locate sizes q.val hq).1.val hk
    ⟨S512x128, f ⟨_, hk16⟩⟩ (pieces_at f _ hk hk16) (ix2 r ⟨_, hn'⟩) rfl rfl fun b => ?_
  fin_cases b <;> rfl

end Cert.KernelConvIdeal.Conv
-- ==== Proof.Conv.Spec.lean ====
/-
  The convolution module's arithmetic on one row, over the extended reals.
-/
module

public import Idealize.ShloMosaic.Lib.Pointwise

@[expose] public section

noncomputable section

namespace Cert.ConvRow

open Idealize.ShloMosaic

/-- The mean of 2048 numbers. -/
def mean (v : Fin 2048 → EReal) : EReal := Ideal.div (∑ q, v q) (Ideal.ofBits .f32 0x45000000#32)

/-- The numbers less their mean. -/
def cen (v : Fin 2048 → EReal) (q : Fin 2048) : EReal := v q - mean v

/-- The layer norm. -/
def nrm (v g b : Fin 2048 → EReal) (q : Fin 2048) : EReal :=
  cen v q * Ideal.rsqrt (mean (fun q => cen v q * cen v q) + Ideal.ofBits .f32 0x358637BD#32) * g q + b q

/-- A number times its logistic function. -/
def sil (x : EReal) : EReal := x * Ideal.div 1 (1 + Ideal.exp (-x))

/-- The gated row times the projection. -/
def prj (n z : Fin 2048 → EReal) (w : Fin 2048 → Fin 1024 → EReal) (j : Fin 1024) : EReal := ∑ q, sil (n q) * sil (z q) * w q j

/-- The root-mean-square norm added to the residual. -/
def out (x p g : Fin 1024 → EReal) (j : Fin 1024) : EReal :=
  x j + p j * Ideal.rsqrt (Ideal.div (∑ i, p i * p i) (Ideal.ofBits .f32 0x44800000#32) + Ideal.ofBits .f32 0x358637BD#32) * g j

/-- A row of the module: the convolution's values `v`, the gate `z`, the residual `x`, the norms' parameters and the projection. -/
def row (v z : Fin 2048 → EReal) (x : Fin 1024 → EReal) (lg lb : Fin 2048 → EReal) (w : Fin 2048 → Fin 1024 → EReal) (g : Fin 1024 → EReal) (j : Fin 1024) : EReal :=
  out x (prj (nrm v lg lb) z w) g j

/-- Equal numbers give equal rows. -/
theorem row_congr {v v' z z' : Fin 2048 → EReal} {x x' : Fin 1024 → EReal} {lg lg' lb lb' : Fin 2048 → EReal} {w w' : Fin 2048 → Fin 1024 → EReal} {g g' : Fin 1024 → EReal}
    (hv : ∀ q, v q = v' q) (hz : ∀ q, z q = z' q) (hx : ∀ j, x j = x' j) (hlg : ∀ q, lg q = lg' q) (hlb : ∀ q, lb q = lb' q) (hw : ∀ q j, w q j = w' q j) (hg : ∀ j, g j = g' j)
    (j : Fin 1024) : row v z x lg lb w g j = row v' z' x' lg' lb' w' g' j := by
  obtain rfl : v = v' := funext hv
  obtain rfl : z = z' := funext hz
  obtain rfl : x = x' := funext hx
  obtain rfl : lg = lg' := funext hlg
  obtain rfl : lb = lb' := funext hlb
  obtain rfl : w = w' := funext fun q => funext (hw q)
  obtain rfl : g = g' := funext hg
  rfl

end Cert.ConvRow
-- ==== Proof.Conv.Value.lean ====
/-
  A row of the block a grid point writes, over the extended reals.
-/
module

public import proofs.«01_k».proof.Proof.Conv.Read
public import proofs.«01_k».proof.Proof.Conv.Side
public import proofs.«01_k».proof.Proof.Conv.Spec

@[expose] public section

set_option maxRecDepth 16384

noncomputable section

namespace Cert.KernelConvIdeal.Conv

open Idealize.ShloMosaic Idealize.SL.Sem Cert.KernelConvIdeal Cert.KernelConvIdeal.Gen
open Cert.ConvRow

theorem rowMean_eq (v : FVec Ideal S512x2048 .f32) (r : Fin 512) : rowMean v (ix2 r 0) = mean fun q => v (ix2 r q) := rowMean_apply v r

theorem centred_eq (v : FVec Ideal S512x2048 .f32) (r : Fin 512) (q : Fin 2048) : centred v (ix2 r q) = cen (fun q => v (ix2 r q)) q := by
  rw [centred_apply, rowMean_eq]
  rfl

theorem normed_eq (v : FVec Ideal S512x2048 .f32) (g b : Vec Ideal S1x2048 .f32) (r : Fin 512) (q : Fin 2048) :
    normed v g b (ix2 r q) = nrm (fun q => v (ix2 r q)) (fun q => g (ix2 0 q)) (fun q => b (ix2 0 q)) q := by
  rw [normed_apply, rowMean_eq, centred_eq]
  have e : (fun q => mulf (centred v) (centred v) (ix2 r q)) = fun q => cen (fun q => v (ix2 r q)) q * cen (fun q => v (ix2 r q)) q := by
    funext q
    show centred v (ix2 r q) * centred v (ix2 r q) = _
    rw [centred_eq]
  rw [e]
  rfl

theorem silu_eq (v : FVec Ideal S512x2048 .f32) (r : Fin 512) (q : Fin 2048) : silu v (ix2 r q) = sil (v (ix2 r q)) := by
  rw [silu_apply, zero_sub]
  rfl

theorem projected_eq (n z : FVec Ideal S512x2048 .f32) (w : Vec Ideal S2048x1024 .bf16) (r : Fin 512) (j : Fin 1024) :
    projected n z w (ix2 r j) = prj (fun q => n (ix2 r q)) (fun q => z (ix2 r q)) (fun q j => w (ix2 q j)) j := by
  rw [projected_apply]
  exact Finset.sum_congr rfl fun q _ => by rw [silu_eq, silu_eq]

theorem added_eq (x : Vec Ideal S512x1024 .f32) (p : FVec Ideal S512x1024 .f32) (g : Vec Ideal S1x1024 .f32) (r : Fin 512) (j : Fin 1024) :
    added x p g (ix2 r j) = out (fun j => x (ix2 r j)) (fun j => p (ix2 r j)) (fun j => g (ix2 0 j)) j := by
  rw [added_apply, rowMean'_apply]
  rfl

/-- The taps of a list, added to what there is. -/
theorem tapSum_apply (e : Vec Ideal S544x2048 .f32) (cw : Vec Ideal S31x2048 .f32) (c : Fin 16) (r : Fin 512) (l : Fin 128) : ∀ (L : List (Fin 31)) (a : FVec Ideal S512x128 .f32),
    tapSum e cw c L a (ix2 r l) = a (ix2 r l) + (L.map fun k => e (ix2 (⟨k.val + 2 + r.val, by omega⟩ : Fin 544) (⟨128 * c.val + l.val, by omega⟩ : Fin 2048)) * cw (ix2 k ⟨128 * c.val + l.val, by omega⟩)).sum
  | [], a => (add_zero _).symm
  | k :: L, a => by
    refine (tapSum_apply e cw c r l L (addTap a (rowsAt e c k) (VecWindow.window cw ![k.val, 128 * c.val] S1x128.size (inb_cw k c)))).trans ?_
    rw [addTap_apply, List.map_cons, List.sum_cons, add_assoc]
    refine congrArg (a (ix2 r l) + ·) (congrArg (· + _) ?_)
    refine congrArg₂ (· * ·) (congrArg e (funext fun b => Fin.ext ?_)) (congrArg cw (funext fun b => Fin.ext ?_))
    · fin_cases b
      · exact congrArg (k.val + 2 + ·) (Nat.one_mul _)
      · exact congrArg (128 * c.val + ·) (Nat.one_mul _)
    · fin_cases b
      · show k.val + 1 * 0 = k.val
        omega
      · exact congrArg (128 * c.val + ·) (Nat.one_mul _)

theorem allTaps_eq : allTaps = List.finRange 31 := by
  unfold allTaps
  rfl

/-- The convolution at a row and a channel. -/
theorem conv_apply (e : Vec Ideal S544x2048 .f32) (cw : Vec Ideal S31x2048 .f32) (cb : Vec Ideal S1x2048 .f32) (r : Fin 512) (q : Fin 2048) :
    conv e cw cb (ix2 r q) = cb (ix2 0 q) + ∑ k : Fin 31, e (ix2 (⟨k.val + 2 + r.val, by omega⟩ : Fin 544) q) * cw (ix2 k q) := by
  have eq : ∀ h, (⟨128 * (q.val / 128) + q.val % 128, h⟩ : Fin 2048) = q := fun h => Fin.ext (Nat.div_add_mod _ _)
  have h := tapSum_apply e cw ⟨q.val / 128, by omega⟩ r ⟨q.val % 128, Nat.mod_lt _ (by norm_num)⟩ (List.finRange 31) (biasCol (VecWindow.window cb ![0, 128 * (q.val / 128)] S1x128.size (inb_cb ⟨q.val / 128, by omega⟩)))
  simp only [eq] at h
  unfold conv colConv
  rw [allTaps_eq, Fin.sum_univ_def]
  refine Eq.trans h ?_
  rw [biasCol_apply]
  refine congrArg (· + _) (congrArg cb (funext fun b => Fin.ext ?_))
  fin_cases b
  · rfl
  · show 128 * (q.val / 128) + 1 * (q.val % 128) = q.val
    omega

/-- A row of the block written. -/
theorem result_apply (x : Ins Ideal) (e : Vec Ideal S544x2048 .f32) (r : Fin 512) (j : Fin 1024) :
    result x e (ix2 r j) = row (fun q => x.cb (ix2 0 q) + ∑ k : Fin 31, e (ix2 (⟨k.val + 2 + r.val, by omega⟩ : Fin 544) q) * x.cw (ix2 k q))
      (fun q => x.z (ix3 ⟨q.val / 128, by omega⟩ r ⟨q.val % 128, Nat.mod_lt _ (by norm_num)⟩)) (fun j => x.x (ix2 r j)) (fun q => x.lg (ix2 0 q)) (fun q => x.lb (ix2 0 q))
      (fun q j => x.w (ix2 q j)) (fun j => x.g (ix2 0 j)) j := by
  unfold result row
  rw [added_eq]
  refine congrArg (fun p => out _ p _ j) (funext fun j => ?_)
  rw [projected_eq]
  refine congrArg₂ (fun n z => prj n z _ j) (funext fun q => ?_) (funext fun q => ?_)
  · rw [normed_eq]
    refine congrArg (fun v => nrm v _ _ q) (funext fun q => ?_)
    exact conv_apply e x.cw x.cb r q
  · rw [sideBySide_apply]
    refine (cast_drop _ _ _ _ _).trans (congrArg x.z (funext fun b => Fin.ext ?_))
    fin_cases b
    · show q.val / 128 + 1 * 0 = q.val / 128
      omega
    · show 0 + 1 * r.val = r.val
      omega
    · show 0 + 1 * (q.val % 128) = q.val % 128
      omega

end Cert.KernelConvIdeal.Conv
-- ==== Proof.Conv.Ref.lean ====
/-
  The reference's result, read at an index: a row of the module's arithmetic over its convolution.
-/
module

public import proofs.«01_k».proof.Proof.Gen.ReferenceConvIdeal.Read
public import proofs.«01_k».proof.Proof.Conv.Spec
public import Idealize.ShloMosaic.Lib.Pointwise

@[expose] public section

set_option maxRecDepth 16384

noncomputable section

namespace Cert.ReferenceConvIdeal.Conv

open Idealize.ShloMosaic Idealize.ShloMosaic.TcCoe Idealize.SL.Sem Idealize.ShloMosaic.StableHlo Cert.ReferenceConvIdeal Cert.ReferenceConvIdeal.Gen Cert.ReferenceConvIdeal.Read
open Cert.ConvRow

theorem slices_x (k : Fin 31) : S4x8222x2048.Slices ![0, k.val, 0] S4x8192x2048 := by
  refine ⟨rfl, fun a => ?_⟩
  have := k.isLt
  fin_cases a
  · exact (by decide : 0 + 4 ≤ 4)
  · show k.val + 8192 ≤ 8222
    omega
  · exact (by decide : 0 + 2048 ≤ 2048)

theorem slices_w (k : Fin 31) : S31x2048.Slices ![k.val, 0] S1x2048 := by
  refine ⟨rfl, fun a => ?_⟩
  have := k.isLt
  fin_cases a
  · show k.val + 1 ≤ 31
    omega
  · exact (by decide : 0 + 2048 ≤ 2048)

/-- One tap of the reference's sum. -/
def tapVec (y : FVec Ideal S4x8222x2048 .f32) (x3 : FVec Ideal S31x2048 .f32) (k : Fin 31) : FVec Ideal S4x8192x2048 .f32 :=
  mulf (extractStridedSlice S4x8192x2048 ![0, k.val, 0] y (slices_x k))
    (broadcastInDim S4x8192x2048 ![0, 1, 2] bcast_S1x1x2048_S4x8192x2048_0_1_2 (broadcastInDim S1x1x2048 ![2] bcast_S2048_S1x1x2048_2
      (shapeCast S2048 (extractStridedSlice S1x2048 ![k.val, 0] x3 (slices_w k)) shapeCasts_S1x2048_S2048)))

theorem tapVec_apply (y : FVec Ideal S4x8222x2048 .f32) (x3 : FVec Ideal S31x2048 .f32) (k : Fin 31) (b : Fin 4) (i : Fin 8192) (q : Fin 2048) :
    tapVec y x3 k (ix3 b i q) = y (ix3 b ⟨k.val + i.val, by omega⟩ q) * x3 (ix2 k q) := by
  pointwise [tapVec]

/-- The reference's sum of taps. -/
theorem taps_eq (x0 : FVec Ideal S4x8192x2048 .f32) (x3 : FVec Ideal S31x2048 .f32) :
    val_main_v218 (F := Ideal) x0 x3 = (List.finRange 31).foldl (fun a k => addf a (tapVec (val_main_v0 (F := Ideal) x0) x3 k)) (val_main_v7 (F := Ideal)) := rfl

theorem foldl_apply (T : Fin 31 → FVec Ideal S4x8192x2048 .f32) (p : S4x8192x2048.Idx) : ∀ (L : List (Fin 31)) (a : FVec Ideal S4x8192x2048 .f32),
    L.foldl (fun a k => addf a (T k)) a p = a p + (L.map fun k => T k p).sum
  | [], a => (add_zero _).symm
  | k :: L, a => by
    refine (foldl_apply T p L (addf a (T k))).trans ?_
    rw [List.map_cons, List.sum_cons, ← add_assoc]
    rfl

theorem zero_conv : (FloatOps.sitofp (F := Ideal) .f32 (0#32) : EReal) = 0 := by
  simp [FloatOps.sitofp]

/-- The padded rows: zeros, then the rows. -/
theorem padded_apply (x0 : FVec Ideal S4x8192x2048 .f32) (b : Fin 4) (i : Fin 8222) (q : Fin 2048) :
    val_main_v0 (F := Ideal) x0 (ix3 b i q) = if h : i.val < 30 then 0 else x0 (ix3 b ⟨i.val - 30, by omega⟩ q) := by
  pointwise [val_main_v0, val_main_call0_v0, val_main_c]
  by_cases h : i.val < 30
  · rw [dif_pos h, dif_neg (by omega)]
    exact zero_conv
  · rw [dif_neg h, dif_pos (by omega)]

section

variable (x0 x1 : FVec Ideal S4x8192x2048 .f32) (x2 : FVec Ideal S4x8192x1024 .f32) (x3 : FVec Ideal S31x2048 .f32) (x4 x5 x6 : FVec Ideal S2048 .f32) (x7 : FVec Ideal S2048x1024 .f32) (x8 : FVec Ideal S1024 .f32)

/-- The convolution at a row and a channel. -/
def convAt (b : Fin 4) (i : Fin 8192) (q : Fin 2048) : EReal :=
  x4 (ix1 q) + ∑ k : Fin 31, (if h : k.val + i.val < 30 then 0 else x0 (ix3 b ⟨k.val + i.val - 30, by omega⟩ q)) * x3 (ix2 k q)

theorem zeros_apply (b : Fin 4) (i : Fin 8192) (q : Fin 2048) : val_main_v7 (F := Ideal) (ix3 b i q) = 0 := by
  pointwise [val_main_v7, val_main_cst]

theorem bias_apply (b : Fin 4) (i : Fin 8192) (q : Fin 2048) : val_main_v220 (F := Ideal) x4 (ix3 b i q) = x4 (ix1 q) := by
  pointwise [val_main_v220, val_main_v219]

theorem v221_apply (b : Fin 4) (i : Fin 8192) (q : Fin 2048) : val_main_v221 (F := Ideal) x0 x3 x4 (ix3 b i q) = convAt x0 x3 x4 b i q := by
  rw [val_main_v221_apply, bias_apply, taps_eq]
  refine (congrArg (FloatOps.addf (F := Ideal) (φ := .f32) · (x4 (ix1 q))) (foldl_apply (tapVec (val_main_v0 (F := Ideal) x0) x3) (ix3 b i q) (List.finRange 31) (val_main_v7 (F := Ideal)))).trans ?_
  rw [zeros_apply]
  show (0 + _) + x4 (ix1 q) = _
  rw [zero_add, add_comm, ← Fin.sum_univ_def]
  refine congrArg (x4 (ix1 q) + ·) (Finset.sum_congr rfl fun k _ => ?_)
  rw [tapVec_apply, padded_apply]

theorem v227_apply (b : Fin 4) (i : Fin 8192) (q : Fin 2048) :
    val_main_v227 (F := Ideal) x0 x3 x4 (ix3 b i q) = cen (convAt x0 x3 x4 b i) q := by
  rw [show convAt x0 x3 x4 b i = fun q => val_main_v221 (F := Ideal) x0 x3 x4 (ix3 b i q) from funext fun q => (v221_apply x0 x3 x4 b i q).symm]
  pointwise [val_main_v227, val_main_v226, val_main_v225, val_main_v224, val_main_v223, val_main_v222, val_main_cst_0, val_main_cst_1, cen, mean]

theorem v243_apply (b : Fin 4) (i : Fin 8192) (q : Fin 2048) :
    val_main_v243 (F := Ideal) x0 x3 x4 x5 x6 (ix3 b i q) = nrm (convAt x0 x3 x4 b i) (fun q => x5 (ix1 q)) (fun q => x6 (ix1 q)) q := by
  unfold nrm
  rw [show cen (convAt x0 x3 x4 b i) = fun q => val_main_v227 (F := Ideal) x0 x3 x4 (ix3 b i q) from funext fun q => (v227_apply x0 x3 x4 b i q).symm]
  pointwise [val_main_v243, val_main_v242, val_main_v241, val_main_v240, val_main_v239, val_main_v238, val_main_v237, val_main_v236, val_main_v235, val_main_v234, val_main_v233, val_main_v232, val_main_v231, val_main_v230, val_main_v229, val_main_v228, val_main_cst_2, val_main_cst_3, val_main_cst_4, mean]

theorem v244_apply (b : Fin 4) (i : Fin 8192) (q : Fin 2048) :
    val_main_v244 (F := Ideal) x0 x3 x4 x5 x6 (ix3 b i q) = sil (nrm (convAt x0 x3 x4 b i) (fun q => x5 (ix1 q)) (fun q => x6 (ix1 q)) q) := by
  rw [← v243_apply]
  pointwise [val_main_v244, val_main_call1_v5, val_main_call1_v4, val_main_call1_v3, val_main_call1_v2, val_main_call1_v1, val_main_call1_v0, val_main_call1_cst, val_main_call1_cst_0, sil]

theorem v245_apply (b : Fin 4) (i : Fin 8192) (q : Fin 2048) : val_main_v245 (F := Ideal) x1 (ix3 b i q) = sil (x1 (ix3 b i q)) := by
  pointwise [val_main_v245, val_main_call2_v5, val_main_call2_v4, val_main_call2_v3, val_main_call2_v2, val_main_call2_v1, val_main_call2_v0, val_main_call2_cst, val_main_call2_cst_0, sil]

theorem v247_apply (b : Fin 4) (i : Fin 8192) (j : Fin 1024) :
    val_main_v247 (F := Ideal) x0 x1 x3 x4 x5 x6 x7 (ix3 b i j)
      = prj (nrm (convAt x0 x3 x4 b i) (fun q => x5 (ix1 q)) (fun q => x6 (ix1 q))) (fun q => x1 (ix3 b i q)) (fun q j => x7 (ix2 q j)) j := by
  unfold prj
  simp only [← v244_apply, ← v245_apply]
  pointwise [val_main_v247, val_main_v246]

/-- The sum of the residual and the norm, at a row. -/
theorem v261_apply (b : Fin 4) (i : Fin 8192) (j : Fin 1024) :
    val_main_v261 (F := Ideal) x0 x1 x2 x3 x4 x5 x6 x7 x8 (ix3 b i j)
      = row (convAt x0 x3 x4 b i) (fun q => x1 (ix3 b i q)) (fun j => x2 (ix3 b i j)) (fun q => x5 (ix1 q)) (fun q => x6 (ix1 q)) (fun q j => x7 (ix2 q j)) (fun j => x8 (ix1 j)) j := by
  unfold row
  rw [show prj (nrm (convAt x0 x3 x4 b i) (fun q => x5 (ix1 q)) (fun q => x6 (ix1 q))) (fun q => x1 (ix3 b i q)) (fun q j => x7 (ix2 q j))
    = fun j => val_main_v247 (F := Ideal) x0 x1 x3 x4 x5 x6 x7 (ix3 b i j) from funext fun j => (v247_apply x0 x1 x3 x4 x5 x6 x7 b i j).symm]
  pointwise [val_main_v261, val_main_v260, val_main_v259, val_main_v258, val_main_v257, val_main_v256, val_main_v255, val_main_v254, val_main_v253, val_main_v252, val_main_v251, val_main_v250, val_main_v249, val_main_v248, val_main_cst_5, val_main_cst_6, val_main_cst_7, out]

/-- The reference's result at a row. -/
theorem ref_at (b : Fin 4) (i : Fin 8192) (j : Fin 1024) :
    val_main_v262 (F := Ideal) x0 x1 x2 x3 x4 x5 x6 x7 x8 (ix2 (⟨8192 * b.val + i.val, by omega⟩ : Fin 32768) j)
      = row (convAt x0 x3 x4 b i) (fun q => x1 (ix3 b i q)) (fun j => x2 (ix3 b i j)) (fun q => x5 (ix1 q)) (fun q => x6 (ix1 q)) (fun q j => x7 (ix2 q j)) (fun j => x8 (ix1 j)) j := by
  rw [val_main_v262_apply, ← v261_apply]
  refine congrArg (val_main_v261 (F := Ideal) x0 x1 x2 x3 x4 x5 x6 x7 x8) (funext fun a => Fin.ext ?_)
  fin_cases a
  · show ((8192 * b.val + i.val) * 1024 + j.val) / 8388608 = b.val
    omega
  · show ((8192 * b.val + i.val) * 1024 + j.val) / 1024 % 8192 = i.val
    omega
  · show ((8192 * b.val + i.val) * 1024 + j.val) % 1024 = j.val
    omega

end

end Cert.ReferenceConvIdeal.Conv
-- ==== Proof.Conv.Array.lean ====
/-
  The result array: every grid point stores its rows of the reference's result.
-/
module

public import proofs.«01_k».proof.Proof.Conv.Blocks
public import proofs.«01_k».proof.Proof.Conv.Host
public import proofs.«01_k».proof.Proof.Conv.Value
public import proofs.«01_k».proof.Proof.Conv.Ref

@[expose] public section

set_option maxRecDepth 16384

noncomputable section

namespace Cert.KernelConvIdeal.Conv

open Idealize.ShloMosaic Idealize.ShloMosaic.TcCoe Idealize.SL.Sem Idealize.ShloMosaic.Pipeline Cert.KernelConvIdeal Cert.KernelConvIdeal.Gen
open Cert.ReferenceConvIdeal.Conv (convAt ref_at)

variable (m : (ℓ : Loc nD τ sig) → Buf (Elt Ideal) ℓ)

/-- The nine arguments. -/
abbrev argH (c : Dev nD) : (⟨S4x8192x2048, .f32⟩ : BufTy).Contents (Elt Ideal) := m ((c : Thread nD τ).loc main_arg0)
abbrev argZ (c : Dev nD) : (⟨S4x8192x2048, .f32⟩ : BufTy).Contents (Elt Ideal) := m ((c : Thread nD τ).loc main_arg1)
abbrev argX (c : Dev nD) : (⟨S4x8192x1024, .f32⟩ : BufTy).Contents (Elt Ideal) := m ((c : Thread nD τ).loc main_arg2)
abbrev argCw (c : Dev nD) : (⟨S31x2048, .f32⟩ : BufTy).Contents (Elt Ideal) := m ((c : Thread nD τ).loc main_arg3)
abbrev argCb (c : Dev nD) : (⟨S2048, .f32⟩ : BufTy).Contents (Elt Ideal) := m ((c : Thread nD τ).loc main_arg4)
abbrev argLg (c : Dev nD) : (⟨S2048, .f32⟩ : BufTy).Contents (Elt Ideal) := m ((c : Thread nD τ).loc main_arg5)
abbrev argLb (c : Dev nD) : (⟨S2048, .f32⟩ : BufTy).Contents (Elt Ideal) := m ((c : Thread nD τ).loc main_arg6)
abbrev argW (c : Dev nD) : (⟨S2048x1024, .f32⟩ : BufTy).Contents (Elt Ideal) := m ((c : Thread nD τ).loc main_arg7)
abbrev argG (c : Dev nD) : (⟨S1024, .f32⟩ : BufTy).Contents (Elt Ideal) := m ((c : Thread nD τ).loc main_arg8)

/-- The reference's result of them. -/
abbrev want (c : Dev nD) := Cert.ReferenceConvIdeal.Read.val_main_v262 (F := Ideal) (argH m c) (argZ m c) (argX m c) (argCw m c) (argCb m c) (argLg m c) (argLb m c) (argW m c) (argG m c)

/-- The batch of a grid point, and the position of one of its rows. -/
def bOf (t : Fin cfg0.N) : Fin 4 := ⟨t.val / 16, by have := lt64 t; omega⟩
def pos (t : Fin cfg0.N) (r : Fin 512) : Fin 8192 := ⟨512 * (t.val % 16) + r.val, by omega⟩

theorem row_div (t : Fin cfg0.N) (r : Fin 512) : (⟨(rowAt t r).val / 8192, by have := (rowAt t r).isLt; omega⟩ : Fin 4) = bOf t :=
  Fin.ext (by show (512 * t.val + r.val) / 8192 = t.val / 16; omega)
theorem row_mod (t : Fin cfg0.N) (r : Fin 512) : (⟨(rowAt t r).val % 8192, by omega⟩ : Fin 8192) = pos t r :=
  Fin.ext (by show (512 * t.val + r.val) % 8192 = 512 * (t.val % 16) + r.val; omega)

/-- A column's lane, as a channel. -/
theorem lane_eq (q : Fin 2048) (h : q.val / 128 * 128 + q.val % 128 < 2048) : (⟨q.val / 128 * 128 + q.val % 128, h⟩ : Fin 2048) = q := Fin.ext (Nat.div_add_mod' _ _)

/-- A new row's channel. -/
theorem rowOf_apply (h : Vec Ideal S16x512x128 .bf16) (r : Fin 512) (q : Fin 2048) :
    rowOf h r q = h (ix3 ⟨q.val / 128, by omega⟩ r ⟨q.val % 128, Nat.mod_lt _ (by norm_num)⟩) := by
  unfold rowOf hCol
  rw [newCol_apply]
  refine congrArg h (funext fun b => Fin.ext ?_)
  fin_cases b
  · show q.val / 128 + 1 * 0 = q.val / 128
    omega
  · show 0 + 1 * r.val = r.val
    omega
  · show 0 + 1 * (q.val % 128) = q.val % 128
    omega

theorem rowOf_at (c : Dev nD) (t : Fin cfg0.N) (r : Fin 512) (q : Fin 2048) : rowOf (insAt m c t).h r q = argH m c (ix3 (bOf t) (pos t r) q) := by
  rw [rowOf_apply, blk_h, V_h, colArr_apply, row_div, row_mod, lane_eq]

theorem z_at (c : Dev nD) (t : Fin cfg0.N) (r : Fin 512) (q : Fin 2048) :
    (insAt m c t).z (ix3 ⟨q.val / 128, by omega⟩ r ⟨q.val % 128, Nat.mod_lt _ (by norm_num)⟩) = argZ m c (ix3 (bOf t) (pos t r) q) := by
  rw [blk_z, V_z, colArr_apply, row_div, row_mod, lane_eq]

theorem x_at (c : Dev nD) (t : Fin cfg0.N) (r : Fin 512) (j : Fin 1024) : (insAt m c t).x (ix2 r j) = argX m c (ix3 (bOf t) (pos t r) j) := by
  rw [blk_x, V_x, resArr_apply, row_div, row_mod]

/-- The rows before a grid point's own. -/
theorem rowsFrom_low (z : Prop) [Decidable z] (hp h : Vec Ideal S16x512x128 .bf16) (n : ℕ) (hn : n < 32) (q : Fin 2048) :
    rowsFrom z hp h (ix2 (⟨n, by omega⟩ : Fin 544) q) = if z then 0 else rowOf hp ⟨480 + n, by omega⟩ q := by
  refine (dif_pos hn).trans ?_
  by_cases hz : z
  · exact (if_pos hz).trans ((Ideal.ofBits_zero .f32).trans (if_pos hz).symm)
  · exact (if_neg hz).trans (if_neg hz).symm

/-- Its own. -/
theorem rowsFrom_high (z : Prop) [Decidable z] (hp h : Vec Ideal S16x512x128 .bf16) (n : ℕ) (hn : ¬n < 32) (h' : n < 544) (q : Fin 2048) :
    rowsFrom z hp h (ix2 (⟨n, h'⟩ : Fin 544) q) = rowOf h ⟨n - 32, by omega⟩ q := dif_neg hn

/-- The row a tap reads: zero before the batch, else the batch's. -/
theorem rows_apply (c : Dev nD) (t : Fin cfg0.N) (k : Fin 31) (r : Fin 512) (q : Fin 2048) :
    rowsOf m c t (ix2 (⟨k.val + 2 + r.val, by omega⟩ : Fin 544) q)
      = if h : k.val + (pos t r).val < 30 then 0 else argH m c (ix3 (bOf t) ⟨k.val + (pos t r).val - 30, by have := (pos t r).isLt; omega⟩ q) := by
  have ht := lt64 t
  have hp : (pos t r).val = 512 * (t.val % 16) + r.val := rfl
  unfold rowsOf
  by_cases hlt : k.val + 2 + r.val < 32
  · rw [rowsFrom_low _ _ _ _ hlt]
    by_cases hz : t.val % 16 = 0
    · rw [if_pos hz, dif_pos (by omega)]
    · rw [if_neg hz, dif_neg (by omega), rowOf_at]
      refine congrArg (argH m c) ?_
      have e1 : bOf (prevOf t) = bOf t := Fin.ext (by show (t.val - 1) / 16 = t.val / 16; omega)
      rw [e1]
      refine congrArg (fun i => ix3 (bOf t) i q) (Fin.ext ?_)
      show 512 * ((t.val - 1) % 16) + (480 + (k.val + 2 + r.val)) = k.val + (512 * (t.val % 16) + r.val) - 30
      omega
  · rw [rowsFrom_high _ _ _ _ hlt, dif_neg (by omega), rowOf_at]
    refine congrArg (argH m c) (congrArg (fun i => ix3 (bOf t) i q) (Fin.ext ?_))
    show 512 * (t.val % 16) + (k.val + 2 + r.val - 32) = k.val + (512 * (t.val % 16) + r.val) - 30
    omega

/-- The convolution of a grid point's row is the reference's. -/
theorem conv_at (c : Dev nD) (t : Fin cfg0.N) (r : Fin 512) (q : Fin 2048) :
    (insAt m c t).cb (ix2 0 q) + ∑ k : Fin 31, rowsOf m c t (ix2 (⟨k.val + 2 + r.val, by omega⟩ : Fin 544) q) * (insAt m c t).cw (ix2 k q)
      = convAt (argH m c) (argCw m c) (argCb m c) (bOf t) (pos t r) q := by
  rw [blk_cb, V_cb, rowArr_apply]
  unfold convAt
  refine congrArg (argCb m c (ix1 q) + ·) (Finset.sum_congr rfl fun k _ => ?_)
  rw [rows_apply, blk_cw, V_main_arg3]

/-- What a grid point stores is its block of the reference's result. -/
theorem stored (c : Dev nD) (t : Fin cfg0.N) (r : Fin 512) (j : Fin 1024) :
    result (insAt m c t) (rowsOf m c t) (ix2 r j) = want m c (ix2 (rowAt t r) j) := by
  have hr : rowAt t r = ⟨8192 * (bOf t).val + (pos t r).val, by have := (bOf t).isLt; have := (pos t r).isLt; omega⟩ :=
    Fin.ext (by show 512 * t.val + r.val = 8192 * (t.val / 16) + (512 * (t.val % 16) + r.val); omega)
  have e := ref_at (argH m c) (argZ m c) (argX m c) (argCw m c) (argCb m c) (argLg m c) (argLb m c) (argW m c) (argG m c) (bOf t) (pos t r) j
  rw [← hr] at e
  refine (result_apply (insAt m c t) (rowsOf m c t) r j).trans (Eq.trans (Cert.ConvRow.row_congr ?_ ?_ ?_ ?_ ?_ ?_ ?_ j) e.symm)
  · exact fun q => conv_at m c t r q
  · exact fun q => z_at m c t r q
  · exact fun j => x_at m c t r j
  · exact fun q => by rw [blk_lg, V_lg, rowArr_apply]
  · exact fun q => by rw [blk_lb, V_lb, rowArr_apply]
  · exact fun q j => by rw [blk_w, V_w]; rfl
  · exact fun j => by rw [blk_g, V_g, rowArr'_apply]

theorem flushed_o (c : Dev nD) (t : Fin cfg0.N) : (convDats m 0 c).flushed 9 t = ((cfg0.win 9).blk t).view.read (Elt Ideal) (want m c) := by
  show (cfg0.win 9).cut (grid0.coords t) ((convDats m 0 c).after 9 t) = _
  rw [after_o]
  refine funext fun (y : S512x1024.Idx) => ?_
  obtain ⟨-, -, -, h0, h1⟩ := idx_facts t
  have hy : y = ix2 (y 0 : Fin 512) (y 1 : Fin 1024) := by
    funext a
    fin_cases a <;> rfl
  refine Eq.trans (congrArg (result (insAt m c t) (rowsOf m c t)) hy) ((stored m c t (y 0) (y 1)).trans (congrArg (want m c)
    (funext fun a => Fin.ext (Eq.trans ?_ (win0_9.rect_emb_val t y a).symm))))
  fin_cases a
  · show 512 * t.val + (y 0).val = win0_9.index t (0 : Fin 2) * 512 + (y 0).val
    rw [h0, Nat.mul_comm]
  · show (y 1).val = win0_9.index t (1 : Fin 2) * 1024 + (y 1).val
    rw [h1]; omega

/-- Every index of the result is in the block of some grid point. -/
theorem cover_o (y : S32768x1024.Idx) : ∃ t : Fin cfg0.N, (cfg0.win 9).flush t = true ∧ y ∈ ((cfg0.win 9).blk t).view.set := by
  have y0 : (y 0).val < 32768 := (y 0).isLt
  have y1 : (y 1).val < 1024 := (y 1).isLt
  have ht : (y 0).val / 512 < cfg0.N := by rw [show cfg0.N = 64 from N_0]; omega
  obtain ⟨-, -, -, h0, h1⟩ := idx_facts ⟨(y 0).val / 512, ht⟩
  refine ⟨⟨(y 0).val / 512, ht⟩, flush0_9 _, ?_⟩
  show y ∈ ((View.whole main_v12).slice (win0_9.rect ⟨(y 0).val / 512, ht⟩)).set
  rw [View.set_slice_whole, Rect.mem_set_unit]
  intro a
  fin_cases a
  · show win0_9.index ⟨(y 0).val / 512, ht⟩ (0 : Fin 2) * 512 ≤ (y 0).val ∧ (y 0).val < win0_9.index ⟨(y 0).val / 512, ht⟩ (0 : Fin 2) * 512 + 512
    rw [h0]; dsimp only; omega
  · show win0_9.index ⟨(y 0).val / 512, ht⟩ (1 : Fin 2) * 1024 ≤ (y 1).val ∧ (y 1).val < win0_9.index ⟨(y 0).val / 512, ht⟩ (1 : Fin 2) * 1024 + 1024
    rw [h1]; omega

/-- The kernel's result is the reference's. -/
theorem final_o (c : Dev nD) : (convDats m 0 c).arrAt 9 cfg0.N = want m c :=
  (convDats m 0 c).arrAt_eq_of_cover 9 _ (fun t _ => flushed_o m c t) cover_o

end Cert.KernelConvIdeal.Conv
-- ==== Proof.Conv.Run.lean ====
/-
  The run of the convolution module's kernel over the extended reals.
-/
module

public import proofs.«01_k».proof.Proof.Conv.Array

@[expose] public section

noncomputable section

namespace Cert.KernelConvIdeal.Conv

open Idealize.ShloMosaic Idealize.ShloMosaic.TcCoe Idealize.SL.Sem Idealize.ShloMosaic.Pipeline Cert.KernelConvIdeal Cert.KernelConvIdeal.Gen

variable (m : (ℓ : Loc nD τ sig) → Buf (Elt Ideal) ℓ) (ρ : Dev nD → PrngReg)

/-- On every device the result ends as the reference's value of the arguments, and the arguments as they were. -/
theorem run : θ_run defs (onTc (τ := τ) (main (F := Ideal))) ⟨m, fun _ => 0, ρ⟩ (fun r => ∀ c : Dev nD,
      r.2.mem ((c.tc : Thread nD τ).loc main_v12) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have launch := (θ_run defs _ _).mono (fun _ h => h.1) (conv_launch m ρ)
  refine (θ_run defs _ _).mono (fun r h c => ⟨((h.1.1 c).1 9).trans (final_o m c), h.2 c⟩) (θ_run_and (conv_launch m ρ) (frame_of m ρ (convDats m) (fun c w => convDats_A m c w) launch))

/-- The reference's result of arguments equal to the kernel's. -/
theorem want_of (c : Dev nD) {h z x cw cb lg lb w g} (eh : h = argH m c) (ez : z = argZ m c) (ex : x = argX m c) (ecw : cw = argCw m c) (ecb : cb = argCb m c)
    (elg : lg = argLg m c) (elb : lb = argLb m c) (ew : w = argW m c) (eg : g = argG m c) :
    Cert.ReferenceConvIdeal.Read.val_main_v262 (F := Ideal) h z x cw cb lg lb w g = want m c := by
  rw [eh, ez, ex, ecw, ecb, elg, elb, ew, eg]

end Cert.KernelConvIdeal.Conv
-- ==== Proof.lean ====
/-
  The forgetting attention and the convolution module of the layer: the frames of the kernels and of the references, the two
  named constants, and the kernels' results, which over the extended reals are the references'.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import proofs.«01_k».proof.Proof.Gen.ReferenceConvIdeal.Run
public import proofs.«01_k».proof.Proof.Gen.ReferenceConvIdeal.Read
public import proofs.«01_k».proof.Proof.Fox.Run
public import proofs.«01_k».proof.Proof.Conv.Run
public import Idealize.ShloMosaic.Adequacy
public import Idealize.ShloMosaic.Init

@[expose] public section

noncomputable section

namespace Cert.Proof

open Idealize.ShloMosaic Idealize.SL.Sem Cert.Kernel

/-- The printed kernel runs, leaves its arguments as they were, and every counter ends at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference over the extended reals; it has no counters. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Both again, from the memories of which the value claim speaks. -/
theorem frame_kernelIdeal_finite : Cert.quiescent_KernelIdeal_pre_finite := fun m ρ _ => frame_kernelIdeal m ρ trivial
theorem frame_referenceIdeal_finite : Cert.quiescent_ReferenceIdeal_pre_finite := fun m ρ _ => frame_referenceIdeal m ρ trivial

/-- The two named constants are the numbers they stand for. -/
theorem preserves : Cert.preserves_Kernel_KernelIdeal :=
  ⟨IdealRules.named_const.statement Cert.KernelIdeal.κ "neg_big" .f32 0xF149F2CA#32 ⊥ rfl,
    IdealRules.named_const.statement Cert.KernelIdeal.κ "log2e" .f32 0x3FB8AA3B#32 (((Real.log 2)⁻¹ : ℝ) : EReal) rfl⟩

/-- From the same finite queries, keys and gates, and any values, kernel and reference end with the same result. -/
theorem algebraic : Cert.algebraic_KernelIdeal_ReferenceIdeal_pre_finite := by
  intro m ρ m' ρ' H e
  refine ⟨_, Cert.KernelIdeal.Fox.run m ρ H, (θ_run Cert.ReferenceIdeal.defs _ _).mono (fun r h c => ⟨(h c).1.trans ?_, (h c).2⟩) (Cert.ReferenceIdeal.Value.run (F := Ideal) m' ρ')⟩
  obtain ⟨e0, e1, e2, e3⟩ := e c
  rw [Cert.ReferenceIdeal.Read.val_main_v35_eq, e0, e1, e2, e3]

/-- The printed kernel of the convolution module runs, leaves its arguments as they were, and every counter ends at zero. -/
theorem frame_kernelConv : Cert.quiescent_KernelConv := fun m ρ _ => Cert.KernelConv.Gen.frame m ρ

/-- So does that kernel over the extended reals. -/
theorem frame_kernelConvIdeal : Cert.quiescent_KernelConvIdeal := fun m ρ _ => Cert.KernelConvIdeal.Gen.frame m ρ

/-- So does its reference over the extended reals; it has no counters. -/
theorem frame_referenceConvIdeal : Cert.quiescent_ReferenceConvIdeal := fun m ρ _ =>
  (θ_run Cert.ReferenceConvIdeal.defs _ _).mono
    (fun r h => ⟨fun c => (h c).2, sem_eq_zero_of_no_sems (by decide) r.2⟩)
    (Cert.ReferenceConvIdeal.Value.run (F := Ideal) m ρ)

/-- From the same arguments, whatever they are, the convolution module's kernel and reference end with the same result. -/
theorem algebraic_conv : Cert.algebraic_KernelConvIdeal_ReferenceConvIdeal := by
  intro m ρ m' ρ' _ e
  refine ⟨_, Cert.KernelConvIdeal.Conv.run m ρ, (θ_run Cert.ReferenceConvIdeal.defs _ _).mono (fun r h c => ⟨(h c).1.trans ?_, (h c).2⟩) (Cert.ReferenceConvIdeal.Value.run (F := Ideal) m' ρ')⟩
  obtain ⟨e0, e1, e2, e3, e4, e5, e6, e7, e8⟩ := e c
  rw [Cert.ReferenceConvIdeal.Read.val_main_v262_eq]
  exact Cert.KernelConvIdeal.Conv.want_of m c e0 e1 e2 e3 e4 e5 e6 e7 e8

theorem claim : Cert.Claim := ⟨Cert.Kernel.Gen.facts, Cert.KernelIdeal.Gen.facts, Cert.ReferenceIdeal.Gen.facts, Cert.KernelConv.Gen.facts, Cert.KernelConvIdeal.Gen.facts,
  Cert.ReferenceConvIdeal.Gen.facts, Cert.Pre_finite.Gen.facts,
  frame_kernel, frame_kernelIdeal, frame_kernelIdeal_finite, frame_referenceIdeal, frame_referenceIdeal_finite, frame_kernelConv, frame_kernelConvIdeal, frame_referenceConvIdeal,
  preserves, algebraic, trivial, algebraic_conv⟩

end Cert.Proof

end
